-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "scale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v146) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v72_0)) (v1 : (c : Dev Cert.Kernel3Ideal.nD) → Buf (Elt Ideal) ((c.tc : Thread Cert.Kernel3Ideal.nD Cert.Kernel3Ideal.τ).loc Cert.Kernel3Ideal.main_v72_1)) (v2 : (c : Dev Cert.Kernel3Ideal.nD) → Buf (Elt Ideal) ((c.tc : Thread Cert.Kernel3Ideal.nD Cert.Kernel3Ideal.τ).loc Cert.Kernel3Ideal.main_v72_2)) (v3 : (c : Dev Cert.Kernel3Ideal.nD) → Buf (Elt Ideal) ((c.tc : Thread Cert.Kernel3Ideal.nD Cert.Kernel3Ideal.τ).loc Cert.Kernel3Ideal.main_v72_3)) (v4 : (c : Dev Cert.Kernel3Ideal.nD) → Buf (Elt Ideal) ((c.tc : Thread Cert.Kernel3Ideal.nD Cert.Kernel3Ideal.τ).loc Cert.Kernel3Ideal.main_v72_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v72_0) = v0 c
          ∧ r.2.mem ((c.tc : Thread Cert.Kernel3Ideal.nD Cert.Kernel3Ideal.τ).loc Cert.Kernel3Ideal.main_v72_1) = v1 c
          ∧ r.2.mem ((c.tc : Thread Cert.Kernel3Ideal.nD Cert.Kernel3Ideal.τ).loc Cert.Kernel3Ideal.main_v72_2) = v2 c
          ∧ r.2.mem ((c.tc : Thread Cert.Kernel3Ideal.nD Cert.Kernel3Ideal.τ).loc Cert.Kernel3Ideal.main_v72_3) = v3 c
          ∧ r.2.mem ((c.tc : Thread Cert.Kernel3Ideal.nD Cert.Kernel3Ideal.τ).loc Cert.Kernel3Ideal.main_v72_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v316) = v0 c
          ∧ r.2.mem ((c.tc : Thread Cert.Reference3Ideal.nD Cert.Reference3Ideal.τ).loc Cert.Reference3Ideal.main_v312) = v1 c
          ∧ r.2.mem ((c.tc : Thread Cert.Reference3Ideal.nD Cert.Reference3Ideal.τ).loc Cert.Reference3Ideal.main_v313) = v2 c
          ∧ r.2.mem ((c.tc : Thread Cert.Reference3Ideal.nD Cert.Reference3Ideal.τ).loc Cert.Reference3Ideal.main_v314) = v3 c
          ∧ r.2.mem ((c.tc : Thread Cert.Reference3Ideal.nD Cert.Reference3Ideal.τ).loc Cert.Reference3Ideal.main_v317) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x4352x512 : Shape := ⟨3, ![16, 4352, 512]⟩
abbrev S4x64 : Shape := ⟨2, ![4, 64]⟩
abbrev S128 : Shape := ⟨1, ![128]⟩
abbrev S_ : Shape := ⟨0, ![]⟩

class Facts : Prop where
  bcast_S_S16x4352x512 : S_.BroadcastsInDim S16x4352x512 (![] : Fin 0 → Fin S16x4352x512.rank)
  reducesTo_S16x4352x512_S_d0_1_2 : S16x4352x512.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S16x4352x512 .f32) (main_arg1 : FVec F S16x4352x512 .f32) (main_arg2 : FVec F S16x4352x512 .f32) (main_arg3 : FVec F S4x64 .f32) (main_arg4 : FVec F S128 .f32) : IVec S_ 1 :=
  let main_v0 : FVec F S16x4352x512 .f32 := Host.absf main_arg0
  let main_cst : FVec F S_ .f32 := constant S_ .f32 0x7F800000#32
  let main_v1 : FVec F S16x4352x512 .f32 := broadcastInDim S16x4352x512 ![] bcast_S_S16x4352x512 main_cst
  let main_v2 : IVec S16x4352x512 1 := cmpf .olt main_v0 main_v1
  let main_c : IVec S_ 1 := constantI S_ 1 1#1
  let main_v3 : IVec S_ 1 := (fun x v => Host.reduce IntOp.andi x v reducesTo_S16x4352x512_S_d0_1_2 h_S_) main_v2 main_c
  let main_v4 : FVec F S16x4352x512 .f32 := Host.absf main_arg1
  let main_cst_0 : FVec F S_ .f32 := constant S_ .f32 0x7F800000#32
  let main_v5 : FVec F S16x4352x512 .f32 := broadcastInDim S16x4352x512 ![] bcast_S_S16x4352x512 main_cst_0
  let main_v6 : IVec S16x4352x512 1 := cmpf .olt main_v4 main_v5
  let main_c_1 : IVec S_ 1 := constantI S_ 1 1#1
  let main_v7 : IVec S_ 1 := (fun x v => Host.reduce IntOp.andi x v reducesTo_S16x4352x512_S_d0_1_2 h_S_) main_v6 main_c_1
  let main_v8 : IVec S_ 1 := andi main_v3 main_v7
  let main_v9 : FVec F S16x4352x512 .f32 := Host.absf main_arg2
  let main_cst_2 : FVec F S_ .f32 := constant S_ .f32 0x7F800000#32
  let main_v10 : FVec F S16x4352x512 .f32 := broadcastInDim S16x4352x512 ![] bcast_S_S16x4352x512 main_cst_2
  let main_v11 : IVec S16x4352x512 1 := cmpf .olt main_v9 main_v10
  let main_c_3 : IVec S_ 1 := constantI S_ 1 1#1
  let main_v12 : IVec S_ 1 := (fun x v => Host.reduce IntOp.andi x v reducesTo_S16x4352x512_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S16x4352x512 : Shape := ⟨3, ![16, 4352, 512]⟩
abbrev S4x64 : Shape := ⟨2, ![4, 64]⟩
abbrev S128 : Shape := ⟨1, ![128]⟩
abbrev S16x4352x1536 : Shape := ⟨3, ![16, 4352, 1536]⟩
abbrev S1x128 : Shape := ⟨2, ![1, 128]⟩
abbrev S1x256x256 : Shape := ⟨3, ![1, 256, 256]⟩
abbrev S1x4352x256 : Shape := ⟨3, ![1, 4352, 256]⟩
abbrev S1x64 : Shape := ⟨2, ![1, 64]⟩
abbrev S1 : Shape := ⟨1, ![1]⟩
abbrev S1x1 : Shape := ⟨2, ![1, 1]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x4352x128 : Shape := ⟨3, ![1, 4352, 128]⟩
abbrev S4352x128 : Shape := ⟨2, ![4352, 128]⟩
abbrev S256x4352 : Shape := ⟨2, ![256, 4352]⟩

abbrev nBuf : Space → Nat
  | .hbm => 9
  | .vmem => 10
  | .smem => 0
  | _ => 0

abbrev bufTy : (tb : Table) → Fin (tcTables nBuf tb) → BufTy
  | .hbm, ⟨0, _⟩ => ⟨S16x4352x512, .f32⟩
  | .hbm, ⟨1, _⟩ => ⟨S16x4352x512, .f32⟩
  | .hbm, ⟨2, _⟩ => ⟨S16x4352x512, .f32⟩
  | .hbm, ⟨3, _⟩ => ⟨S4x64, .f32⟩
  | .hbm, ⟨4, _⟩ => ⟨S128, .f32⟩
  | .hbm, ⟨5, _⟩ => ⟨S16x4352x1536, .f32⟩
  | .hbm, ⟨6, _⟩ => ⟨S16x4352x1536, .bf16⟩
  | .hbm, ⟨7, _⟩ => ⟨S1x128, .f32⟩
  | .hbm, ⟨8, _⟩ => ⟨S16x4352x512, .f32⟩
  | .local _ .vmem, ⟨0, _⟩ => ⟨S1x256x256, .bf16⟩
  | .local _ .vmem, ⟨1, _⟩ => ⟨S1x256x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S4x64, .f32⟩
  | .local _ .vmem, ⟨7, _⟩ => ⟨S1x128, .f32⟩
  | .local _ .vmem, ⟨8, _⟩ => ⟨S1x256x256, .f32⟩
  | .local _ .vmem, ⟨9, _⟩ => ⟨S1x256x256, .f32⟩
  | _, _ => ⟨S16x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 2, 17], ![false, false, false]⟩

def k0_cond1 (i : grid0.Coords) : BitVec 1 :=
  let arg2 : BitVec 32 := BitVec.ofNat 32 (i 2).val
  let c1_i32 : BitVec 32 := 1#32
  let v16 : BitVec 1 := Scalar.cmpi .slt arg2 c1_i32
  let v17 : BitVec 32 := Scalar.extui v16
  let c0_i32 : BitVec 32 := 0#32
  let v18 : BitVec 1 := Scalar.cmpi .ne v17 c0_i32
  v18

def k0_cond2 (i : grid0.Coords) : BitVec 1 :=
  let arg2 : BitVec 32 := BitVec.ofNat 32 (i 2).val
  let c1_i32_3 : BitVec 32 := 1#32
  let v19 : BitVec 1 := Scalar.cmpi .sge arg2 c1_i32_3
  let v20 : BitVec 32 := Scalar.extui v19
  let c0_i32_4 : BitVec 32 := 0#32
  let v21 : BitVec 1 := Scalar.cmpi .ne v20 c0_i32_4
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale" => some ((8⁻¹ * (Real.log 2)⁻¹ : ℝ) : EReal)
  | _ => none
-- ==== ReferenceIdeal.lean ====
abbrev S16x4352x512 : Shape := ⟨3, ![16, 4352, 512]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S16x4352x4x2x64 : Shape := ⟨5, ![16, 4352, 4, 2, 64]⟩
abbrev S16x4352x4x128 : Shape := ⟨4, ![16, 4352, 4, 128]⟩
abbrev S16x256x4x2x64 : Shape := ⟨5, ![16, 256, 4, 2, 64]⟩
abbrev S16x256x4x128 : Shape := ⟨4, ![16, 256, 4, 128]⟩
abbrev S16x4x2x256x256 : Shape := ⟨5, ![16, 4, 2, 256, 256]⟩
abbrev S16x4x2x256 : Shape := ⟨4, ![16, 4, 2, 256]⟩
abbrev S16x4x2x256x1 : Shape := ⟨5, ![16, 4, 2, 256, 1]⟩
abbrev S16x4x1x256x256 : Shape := ⟨5, ![16, 4, 1, 256, 256]⟩
abbrev S16x4x256x256 : Shape := ⟨4, ![16, 4, 256, 256]⟩
abbrev S16x4x128x256 : Shape := ⟨4, ![16, 4, 128, 256]⟩
abbrev S16x4096x4x2x64 : Shape := ⟨5, ![16, 4096, 4, 2, 64]⟩
abbrev S16x4x2x4096x4352 : Shape := ⟨5, ![16, 4, 2, 4096, 4352]⟩
abbrev S16x4x2x4096 : Shape := ⟨4, ![16, 4, 2, 4096]⟩
abbrev S16x4x2x4096x1 : Shape := ⟨5, ![16, 4, 2, 4096, 1]⟩
abbrev S16x4x1x4096x4352 : Shape := ⟨5, ![16, 4, 1, 4096, 4352]⟩
abbrev S16x4x4096x4352 : Shape := ⟨4, ![16, 4, 4096, 4352]⟩
abbrev S16x4x128x4096 : Shape := ⟨4, ![16, 4, 128, 4096]⟩
abbrev S16x4096x4x128 : Shape := ⟨4, ![16, 4096, 4, 128]⟩
abbrev S16x4352x4 : Shape := ⟨3, ![16, 4352, 4]⟩
abbrev S16x4352x4x1 : Shape := ⟨4, ![16, 4352, 4, 1]⟩
abbrev S1x1x1x128 : Shape := ⟨4, ![1, 1, 1, 128]⟩

abbrev nBuf : Space → Nat
  | .hbm => 106
  | .vmem => 0
  | .smem => 0
  | _ => 0

abbrev bufTy : (tb : Table) → Fin (tcTables nBuf tb) → BufTy
  | .hbm, ⟨0, _⟩ => ⟨S16x4352x512, .f32⟩
  | .hbm, ⟨1, _⟩ => ⟨S16x4352x512, .f32⟩
  | .hbm, ⟨2, _⟩ => ⟨S16x4352x512, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16x4352x4x2x64, .f32⟩
  | .hbm, ⟨25, _⟩ => ⟨S16x4352x4x2x64, .f32⟩
  | .hbm, ⟨26, _⟩ => ⟨S16x4352x4x128, .f32⟩
  | .hbm, ⟨27, _⟩ => ⟨S16x256x4x2x64, .f32⟩
  | .hbm, ⟨28, _⟩ => ⟨S16x256x4x2x64, .f32⟩
  | .hbm, ⟨29, _⟩ => ⟨S16x256x4x128, .f32⟩
  | .hbm, ⟨30, _⟩ => ⟨S16x4x2x256x256, .f32⟩
  | .hbm, ⟨31, _⟩ => ⟨S_, .f32⟩
  | .hbm, ⟨32, _⟩ => ⟨S16x4x2x256x256, .f32⟩
  | .hbm, ⟨33, _⟩ => ⟨S16x4x2x256x256, .f32⟩
  | .hbm, ⟨34, _⟩ => ⟨S_, .f32⟩
  | .hbm, ⟨35, _⟩ => ⟨S16x4x2x256, .f32⟩
  | .hbm, ⟨36, _⟩ => ⟨S_, .f32⟩
  | .hbm, ⟨37, _⟩ => ⟨S16x4x2x256, .f32⟩
  | .hbm, ⟨38, _⟩ => ⟨S16x4x2x256, .f32⟩
  | .hbm, ⟨39, _⟩ => ⟨S16x4x2x256x1, .f32⟩
  | .hbm, ⟨40, _⟩ => ⟨S16x4x2x256x256, .f32⟩
  | .hbm, ⟨41, _⟩ => ⟨S16x4x2x256x256, .f32⟩
  | .hbm, ⟨42, _⟩ => ⟨S16x4x2x256x256, .f32⟩
  | .hbm, ⟨43, _⟩ => ⟨S_, .f32⟩
  | .hbm, ⟨44, _⟩ => ⟨S16x4x2x256, .f32⟩
  | .hbm, ⟨45, _⟩ => ⟨S16x4x2x256x1, .f32⟩
  | .hbm, ⟨46, _⟩ => ⟨S16x4x2x256x256, .f32⟩
  | .hbm, ⟨47, _⟩ => ⟨S16x4x2x256x256, .f32⟩
  | .hbm, ⟨48, _⟩ => ⟨S16x4x1x256x256, .f32⟩
  | .hbm, ⟨49, _⟩ => ⟨S16x4x256x256, .f32⟩
  | .hbm, ⟨50, _⟩ => ⟨S16x4x1x256x256, .f32⟩
  | .hbm, ⟨51, _⟩ => ⟨S16x4x256x256, .f32⟩
  | .hbm, ⟨52, _⟩ => ⟨S16x4x256x256, .f32⟩
  | .hbm, ⟨53, _⟩ => ⟨S16x4x256x256, .f32⟩
  | .hbm, ⟨54, _⟩ => ⟨S16x4x256x256, .f32⟩
  | .hbm, ⟨55, _⟩ => ⟨S16x4x128x256, .f32⟩
  | .hbm, ⟨56, _⟩ => ⟨S16x256x4x128, .f32⟩
  | .hbm, ⟨57, _⟩ => ⟨S16x4096x4x2x64, .f32⟩
  | .hbm, ⟨58, _⟩ => ⟨S16x4x2x4096x4352, .f32⟩
  | .hbm, ⟨59, _⟩ => ⟨S_, .f32⟩
  | .hbm, ⟨60, _⟩ => ⟨S16x4x2x4096x4352, .f32⟩
  | .hbm, ⟨61, _⟩ => ⟨S16x4x2x4096x4352, .f32⟩
  | .hbm, ⟨62, _⟩ => ⟨S_, .f32⟩
  | .hbm, ⟨63, _⟩ => ⟨S16x4x2x4096, .f32⟩
  | .hbm, ⟨64, _⟩ => ⟨S_, .f32⟩
  | .hbm, ⟨65, _⟩ => ⟨S16x4x2x4096, .f32⟩
  | .hbm, ⟨66, _⟩ => ⟨S16x4x2x4096, .f32⟩
  | .hbm, ⟨67, _⟩ => ⟨S16x4x2x4096x1, .f32⟩
  | .hbm, ⟨68, _⟩ => ⟨S16x4x2x4096x4352, .f32⟩
  | .hbm, ⟨69, _⟩ => ⟨S16x4x2x4096x4352, .f32⟩
  | .hbm, ⟨70, _⟩ => ⟨S16x4x2x4096x4352, .f32⟩
  | .hbm, ⟨71, _⟩ => ⟨S_, .f32⟩
  | .hbm, ⟨72, _⟩ => ⟨S16x4x2x4096, .f32⟩
  | .hbm, ⟨73, _⟩ => ⟨S16x4x2x4096x1, .f32⟩
  | .hbm, ⟨74, _⟩ => ⟨S16x4x2x4096x4352, .f32⟩
  | .hbm, ⟨75, _⟩ => ⟨S16x4x2x4096x4352, .f32⟩
  | .hbm, ⟨76, _⟩ => ⟨S16x4x1x4096x4352, .f32⟩
  | .hbm, ⟨77, _⟩ => ⟨S16x4x4096x4352, .f32⟩
  | .hbm, ⟨78, _⟩ => ⟨S16x4x1x4096x4352, .f32⟩
  | .hbm, ⟨79, _⟩ => ⟨S16x4x4096x4352, .f32⟩
  | .hbm, ⟨80, _⟩ => ⟨S16x4x4096x4352, .f32⟩
  | .hbm, ⟨81, _⟩ => ⟨S16x4x4096x4352, .f32⟩
  | .hbm, ⟨82, _⟩ => ⟨S16x4x4096x4352, .f32⟩
  | .hbm, ⟨83, _⟩ => ⟨S16x4x128x4096, .f32⟩
  | .hbm, ⟨84, _⟩ => ⟨S16x4096x4x128, .f32⟩
  | .hbm, ⟨85, _⟩ => ⟨S16x4352x4x128, .f32⟩
  | .hbm, ⟨86, _⟩ => ⟨S16x4352x4x128, .f32⟩
  | .hbm, ⟨87, _⟩ => ⟨S_, .f32⟩
  | .hbm, ⟨88, _⟩ => ⟨S16x4352x4, .f32⟩
  | .hbm, ⟨89, _⟩ => ⟨S16x4352x4x1, .f32⟩
  | .hbm, ⟨90, _⟩ => ⟨S_, .f32⟩
  | .hbm, ⟨91, _⟩ => ⟨S16x4352x4x1, .f32⟩
  | .hbm, ⟨92, _⟩ => ⟨S16x4352x4x1, .f32⟩
  | .hbm, ⟨93, _⟩ => ⟨S_, .f32⟩
  | .hbm, ⟨94, _⟩ => ⟨S16x4352x4x1, .f32⟩
  | .hbm, ⟨95, _⟩ => ⟨S16x4352x4x1, .f32⟩
  | .hbm, ⟨96, _⟩ => ⟨S16x4352x4x1, .f32⟩
  | .hbm, ⟨97, _⟩ => ⟨S16x4352x4x128, .f32⟩
  | .hbm, ⟨98, _⟩ => ⟨S16x4352x4x128, .f32⟩
  | .hbm, ⟨99, _⟩ => ⟨S1x1x1x128, .f32⟩
  | .hbm, ⟨100, _⟩ => ⟨S16x4352x4x128, .f32⟩
  | .hbm, ⟨101, _⟩ => ⟨S16x4352x4x128, .f32⟩
  | .hbm, ⟨102, _⟩ => ⟨S_, .f32⟩
  | .hbm, ⟨103, _⟩ => ⟨S16x4352x4x128, .f32⟩
  | .hbm, ⟨104, _⟩ => ⟨S16x4352x4x128, .f32⟩
  | .hbm, ⟨105, _⟩ => ⟨S16x4352x512, .f32⟩
  | _, _ => ⟨S16x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_cst_11 : Ref sig .tc := ⟨.hbm, 90, rfl⟩
abbrev main_v73 : Ref sig .tc := ⟨.hbm, 91, rfl⟩
abbrev main_v74 : Ref sig .tc := ⟨.hbm, 92, rfl⟩
abbrev main_cst_12 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_13 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩

abbrev nD : Nat := 1
abbrev τ : Topo := Topo.v7x

variable {F : FTy → Type} [FloatOps F]
-- ==== Kernel2.lean ====
abbrev S16x4352x1024 : Shape := ⟨3, ![16, 4352, 1024]⟩
abbrev S32x6x1024 : Shape := ⟨3, ![32, 6, 1024]⟩
abbrev S4x1024 : Shape := ⟨2, ![4, 1024]⟩
abbrev S16x4352x512 : Shape := ⟨3, ![16, 4352, 512]⟩
abbrev S16x4352x1664 : Shape := ⟨3, ![16, 4352, 1664]⟩
abbrev S16x4352x640 : Shape := ⟨3, ![16, 4352, 640]⟩
abbrev S16x4352x3072 : Shape := ⟨3, ![16, 4352, 3072]⟩
abbrev S4x128 : Shape := ⟨2, ![4, 128]⟩
abbrev S128 : Shape := ⟨1, ![128]⟩
abbrev S3x512x1024 : Shape := ⟨3, ![3, 512, 1024]⟩
abbrev S1024x1024 : Shape := ⟨2, ![1024, 1024]⟩
abbrev S1024x4096 : Shape := ⟨2, ![1024, 4096]⟩
abbrev S4096x1024 : Shape := ⟨2, ![4096, 1024]⟩
abbrev S1x512 : Shape := ⟨2, ![1, 512]⟩
abbrev S1x128 : Shape := ⟨2, ![1, 128]⟩
abbrev S16x4096x1024 : Shape := ⟨3, ![16, 4096, 1024]⟩
abbrev S1x256x1024 : Shape := ⟨3, ![1, 256, 1024]⟩
abbrev S1x6x1024 : Shape := ⟨3, ![1, 6, 1024]⟩
abbrev S1x256x512 : Shape := ⟨3, ![1, 256, 512]⟩
abbrev S1x256x3072 : Shape := ⟨3, ![1, 256, 3072]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 24
  | .vmem => 29
  | .smem => 0
  | _ => 0

abbrev bufTy : (tb : Table) → Fin (tcTables nBuf tb) → BufTy
  | .hbm, ⟨0, _⟩ => ⟨S16x4352x1024, .f32⟩
  | .hbm, ⟨1, _⟩ => ⟨S32x6x1024, .f32⟩
  | .hbm, ⟨2, _⟩ => ⟨S4x1024, .f32⟩
  | .hbm, ⟨3, _⟩ => ⟨S16x4352x512, .f32⟩
  | .hbm, ⟨4, _⟩ => ⟨S16x4352x512, .f32⟩
  | .hbm, ⟨5, _⟩ => ⟨S16x4352x512, .f32⟩
  | .hbm, ⟨6, _⟩ => ⟨S16x4352x1664, .f32⟩
  | .hbm, ⟨7, _⟩ => ⟨S16x4352x512, .f32⟩
  | .hbm, ⟨8, _⟩ => ⟨S16x4352x512, .f32⟩
  | .hbm, ⟨9, _⟩ => ⟨S16x4352x640, .f32⟩
  | .hbm, ⟨10, _⟩ => ⟨S16x4352x3072, .bf16⟩
  | .hbm, ⟨11, _⟩ => ⟨S4x128, .f32⟩
  | .hbm, ⟨12, _⟩ => ⟨S128, .f32⟩
  | .hbm, ⟨13, _⟩ => ⟨S3x512x1024, .f32⟩
  | .hbm, ⟨14, _⟩ => ⟨S1024x1024, .f32⟩
  | .hbm, ⟨15, _⟩ => ⟨S1024x4096, .f32⟩
  | .hbm, ⟨16, _⟩ => ⟨S4096x1024, .f32⟩
  | .hbm, ⟨17, _⟩ => ⟨S1x512, .f32⟩
  | .hbm, ⟨18, _⟩ => ⟨S1x128, .f32⟩
  | .hbm, ⟨19, _⟩ => ⟨S3x512x1024, .bf16⟩
  | .hbm, ⟨20, _⟩ => ⟨S1024x1024, .bf16⟩
  | .hbm, ⟨21, _⟩ => ⟨S1024x4096, .bf16⟩
  | .hbm, ⟨22, _⟩ => ⟨S4096x1024, .bf16⟩
  | .hbm, ⟨23, _⟩ => ⟨S16x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x3072, .bf16⟩
  | .local _ .vmem, ⟨20, _⟩ => ⟨S1x256x3072, .bf16⟩
  | .local _ .vmem, ⟨21, _⟩ => ⟨S1x512, .f32⟩
  | .local _ .vmem, ⟨22, _⟩ => ⟨S1x128, .f32⟩
  | .local _ .vmem, ⟨23, _⟩ => ⟨S3x512x1024, .bf16⟩
  | .local _ .vmem, ⟨24, _⟩ => ⟨S1024x1024, .bf16⟩
  | .local _ .vmem, ⟨25, _⟩ => ⟨S1024x4096, .bf16⟩
  | .local _ .vmem, ⟨26, _⟩ => ⟨S4096x1024, .bf16⟩
  | .local _ .vmem, ⟨27, _⟩ => ⟨S1x256x1024, .f32⟩
  | .local _ .vmem, ⟨28, _⟩ => ⟨S1x256x1024, .f32⟩
  | _, _ => ⟨S16x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi arg1 c1_i32
  let c1_i32_0 : BitVec 32 := 1#32
  let v2 : BitVec 1 := Scalar.cmpi .sge v1 c1_i32_0
  let v3 : BitVec 32 := Scalar.extui v2
  let v4 : BitVec 32 := Scalar.addi v0 v3
  let c0_i32 : BitVec 32 := 0#32
  let c0_i32_1 : BitVec 32 := 0#32
  let c0_i32_2 : BitVec 32 := 0#32
  ![v4.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let c0_i32 : BitVec 32 := 0#32
  ![arg0.toNat, v0.toNat, c2_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S16x4352x1024 : Shape := ⟨3, ![16, 4352, 1024]⟩
abbrev S32x6x1024 : Shape := ⟨3, ![32, 6, 1024]⟩
abbrev S4x1024 : Shape := ⟨2, ![4, 1024]⟩
abbrev S16x4352x512 : Shape := ⟨3, ![16, 4352, 512]⟩
abbrev S16x4352x1664 : Shape := ⟨3, ![16, 4352, 1664]⟩
abbrev S16x4352x640 : Shape := ⟨3, ![16, 4352, 640]⟩
abbrev S16x4352x3072 : Shape := ⟨3, ![16, 4352, 3072]⟩
abbrev S4x128 : Shape := ⟨2, ![4, 128]⟩
abbrev S128 : Shape := ⟨1, ![128]⟩
abbrev S3x512x1024 : Shape := ⟨3, ![3, 512, 1024]⟩
abbrev S1024x1024 : Shape := ⟨2, ![1024, 1024]⟩
abbrev S1024x4096 : Shape := ⟨2, ![1024, 4096]⟩
abbrev S4096x1024 : Shape := ⟨2, ![4096, 1024]⟩
abbrev S16x2x6x1024 : Shape := ⟨4, ![16, 2, 6, 1024]⟩
abbrev S16x1x6x1024 : Shape := ⟨4, ![16, 1, 6, 1024]⟩
abbrev S16x6x1024 : Shape := ⟨3, ![16, 6, 1024]⟩
abbrev S16x1x1024 : Shape := ⟨3, ![16, 1, 1024]⟩
abbrev S16x1024 : Shape := ⟨2, ![16, 1024]⟩
abbrev S16x4096x1664 : Shape := ⟨3, ![16, 4096, 1664]⟩
abbrev S16x4096x512 : Shape := ⟨3, ![16, 4096, 512]⟩
abbrev S16x4096x640 : Shape := ⟨3, ![16, 4096, 640]⟩
abbrev S16x4096x4x128 : Shape := ⟨4, ![16, 4096, 4, 128]⟩
abbrev S_ : Shape := ⟨0, ![]⟩
abbrev S16x4096x4 : Shape := ⟨3, ![16, 4096, 4]⟩
abbrev S16x4096x4x1 : Shape := ⟨4, ![16, 4096, 4, 1]⟩
abbrev S1x1x4x128 : Shape := ⟨4, ![1, 1, 4, 128]⟩
abbrev S1x1x1x128 : Shape := ⟨4, ![1, 1, 1, 128]⟩
abbrev S16x4096x3072 : Shape := ⟨3, ![16, 4096, 3072]⟩
abbrev S16x4096x1024 : Shape := ⟨3, ![16, 4096, 1024]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩

abbrev nBuf : Space → Nat
  | .hbm => 192
  | .vmem => 0
  | .smem => 0
  | _ => 0

abbrev hbmTy0_0 (i : Nat) : BufTy := match i % 128 with
  | 0 => ⟨S16x4352x1024, .f32⟩
  | 1 => ⟨S32x6x1024, .f32⟩
  | 2 => ⟨S4x1024, .f32⟩
  | 3 => ⟨S16x4352x512, .f32⟩
  | 4 => ⟨S16x4352x512, .f32⟩
  | 5 => ⟨S16x4352x512, .f32⟩
  | 6 => ⟨S16x4352x1664, .f32⟩
  | 7 => ⟨S16x4352x512, .f32⟩
  | 8 => ⟨S16x4352x512, .f32⟩
  | 9 => ⟨S16x4352x640, .f32⟩
  | 10 => ⟨S16x4352x3072, .bf16⟩
  | 11 => ⟨S4x128, .f32⟩
  | 12 => ⟨S128, .f32⟩
  | 13 => ⟨S3x512x1024, .f32⟩
  | 14 => ⟨S1024x1024, .f32⟩
  | 15 => ⟨S1024x4096, .f32⟩
  | 16 => ⟨S4096x1024, .f32⟩
  | 17 => ⟨S16x2x6x1024, .f32⟩
  | 18 => ⟨S16x1x6x1024, .f32⟩
  | 19 => ⟨S16x6x1024, .f32⟩
  | 20 => ⟨S16x1x1024, .f32⟩
  | 21 => ⟨S16x1024, .f32⟩
  | 22 => ⟨S16x1x1024, .f32⟩
  | 23 => ⟨S16x1x1024, .f32⟩
  | 24 => ⟨S16x1024, .f32⟩
  | 25 => ⟨S16x1x1024, .f32⟩
  | 26 => ⟨S16x1x1024, .f32⟩
  | 27 => ⟨S16x1024, .f32⟩
  | 28 => ⟨S16x1x1024, .f32⟩
  | 29 => ⟨S16x1x1024, .f32⟩
  | 30 => ⟨S16x1024, .f32⟩
  | 31 => ⟨S16x1x1024, .f32⟩
  | 32 => ⟨S16x4096x1664, .f32⟩
  | 33 => ⟨S16x4096x512, .f32⟩
  | 34 => ⟨S16x4096x640, .f32⟩
  | 35 => ⟨S16x4096x512, .f32⟩
  | 36 => ⟨S16x4096x512, .f32⟩
  | 37 => ⟨S16x4096x512, .f32⟩
  | 38 => ⟨S16x4096x512, .f32⟩
  | 39 => ⟨S16x4096x4x128, .f32⟩
  | 40 => ⟨S16x4096x4x128, .f32⟩
  | 41 => ⟨S_, .f32⟩
  | 42 => ⟨S16x4096x4, .f32⟩
  | 43 => ⟨S16x4096x4x1, .f32⟩
  | 44 => ⟨S_, .f32⟩
  | 45 => ⟨S16x4096x4x1, .f32⟩
  | 46 => ⟨S16x4096x4x1, .f32⟩
  | 47 => ⟨S_, .f32⟩
  | 48 => ⟨S16x4096x4x1, .f32⟩
  | 49 => ⟨S16x4096x4x1, .f32⟩
  | 50 => ⟨S16x4096x4x1, .f32⟩
  | 51 => ⟨S16x4096x4x128, .f32⟩
  | 52 => ⟨S16x4096x4x128, .f32⟩
  | 53 => ⟨S1x1x4x128, .f32⟩
  | 54 => ⟨S16x4096x4x128, .f32⟩
  | 55 => ⟨S16x4096x4x128, .f32⟩
  | 56 => ⟨S16x4096x512, .f32⟩
  | 57 => ⟨S16x4096x512, .f32⟩
  | 58 => ⟨S16x4096x512, .f32⟩
  | 59 => ⟨S_, .f32⟩
  | 60 => ⟨S16x4096x512, .f32⟩
  | 61 => ⟨S16x4096x512, .f32⟩
  | 62 => ⟨S_, .f32⟩
  | 63 => ⟨S16x4096x512, .f32⟩
  | 64 => ⟨S16x4096x512, .f32⟩
  | 65 => ⟨S16x4096x512, .f32⟩
  | 66 => ⟨S16x4096x512, .f32⟩
  | 67 => ⟨S16x4096x512, .f32⟩
  | 68 => ⟨S16x4096x512, .f32⟩
  | 69 => ⟨S16x4096x4x128, .f32⟩
  | 70 => ⟨S16x4096x4x128, .f32⟩
  | 71 => ⟨S_, .f32⟩
  | 72 => ⟨S16x4096x4, .f32⟩
  | 73 => ⟨S16x4096x4x1, .f32⟩
  | 74 => ⟨S_, .f32⟩
  | 75 => ⟨S16x4096x4x1, .f32⟩
  | 76 => ⟨S16x4096x4x1, .f32⟩
  | 77 => ⟨S_, .f32⟩
  | 78 => ⟨S16x4096x4x1, .f32⟩
  | 79 => ⟨S16x4096x4x1, .f32⟩
  | 80 => ⟨S16x4096x4x1, .f32⟩
  | 81 => ⟨S16x4096x4x128, .f32⟩
  | 82 => ⟨S16x4096x4x128, .f32⟩
  | 83 => ⟨S1x1x1x128, .f32⟩
  | 84 => ⟨S16x4096x4x128, .f32⟩
  | 85 => ⟨S16x4096x4x128, .f32⟩
  | 86 => ⟨S16x4096x512, .f32⟩
  | 87 => ⟨S16x4096x512, .f32⟩
  | 88 => ⟨S16x4096x512, .f32⟩
  | 89 => ⟨S_, .f32⟩
  | 90 => ⟨S16x4096x512, .f32⟩
  | 91 => ⟨S16x4096x512, .f32⟩
  | 92 => ⟨S_, .f32⟩
  | 93 => ⟨S16x4096x512, .f32⟩
  | 94 => ⟨S16x4096x512, .f32⟩
  | 95 => ⟨S16x4096x512, .f32⟩
  | 96 => ⟨S16x4096x512, .f32⟩
  | 97 => ⟨S16x4096x3072, .bf16⟩
  | 98 => ⟨S16x4096x3072, .f32⟩
  | 99 => ⟨S16x4096x1024, .f32⟩
  | 100 => ⟨S16x4096x1024, .f32⟩
  | 101 => ⟨S16x4096x1024, .f32⟩
  | 102 => ⟨S16x4096x512, .f32⟩
  | 103 => ⟨S1x512x1024, .f32⟩
  | 104 => ⟨S512x1024, .f32⟩
  | 105 => ⟨S16x4096x1024, .f32⟩
  | 106 => ⟨S16x4096x1024, .f32⟩
  | 107 => ⟨S1x512x1024, .f32⟩
  | 108 => ⟨S512x1024, .f32⟩
  | 109 => ⟨S16x4096x1024, .f32⟩
  | 110 => ⟨S16x4096x1024, .f32⟩
  | 111 => ⟨S16x4096x1024, .f32⟩
  | 112 => ⟨S1x512x1024, .f32⟩
  | 113 => ⟨S512x1024, .f32⟩
  | 114 => ⟨S16x4096x1024, .f32⟩
  | 115 => ⟨S16x4096x1024, .f32⟩
  | 116 => ⟨S16x4096x1024, .f32⟩
  | 117 => ⟨S16x4096x1024, .f32⟩
  | 118 => ⟨S16x4096x1024, .f32⟩
  | 119 => ⟨S1x1024, .f32⟩
  | 120 => ⟨S1024, .f32⟩
  | 121 => ⟨S16x4096x1024, .f32⟩
  | 122 => ⟨S_, .f32⟩
  | 123 => ⟨S16x4096, .f32⟩
  | 124 => ⟨S16x4096x1, .f32⟩
  | 125 => ⟨S_, .f32⟩
  | 126 => ⟨S16x4096x1, .f32⟩
  | 127 => ⟨S16x4096x1, .f32⟩
  | _ => ⟨S16x4352x1024, .f32⟩

abbrev hbmTy0_1 (i : Nat) : BufTy := match i % 128 with
  | 0 => ⟨S_, .f32⟩
  | 1 => ⟨S16x4096x1, .f32⟩
  | 2 => ⟨S16x4096x1, .f32⟩
  | 3 => ⟨S16x4096x1, .f32⟩
  | 4 => ⟨S16x4096x1024, .f32⟩
  | 5 => ⟨S16x4096x1024, .f32⟩
  | 6 => ⟨S1x1x1024, .f32⟩
  | 7 => ⟨S16x4096x1024, .f32⟩
  | 8 => ⟨S16x4096x1024, .f32⟩
  | 9 => ⟨S16x4096x1024, .f32⟩
  | 10 => ⟨S16x4096x1024, .f32⟩
  | 11 => ⟨S16x4096x1024, .f32⟩
  | 12 => ⟨S1x1024, .f32⟩
  | 13 => ⟨S1024, .f32⟩
  | 14 => ⟨S16x4096x1024, .f32⟩
  | 15 => ⟨S_, .f32⟩
  | 16 => ⟨S16x4096, .f32⟩
  | 17 => ⟨S16x4096x1, .f32⟩
  | 18 => ⟨S_, .f32⟩
  | 19 => ⟨S16x4096x1, .f32⟩
  | 20 => ⟨S16x4096x1, .f32⟩
  | 21 => ⟨S_, .f32⟩
  | 22 => ⟨S16x4096x1, .f32⟩
  | 23 => ⟨S16x4096x1, .f32⟩
  | 24 => ⟨S16x4096x1, .f32⟩
  | 25 => ⟨S16x4096x1024, .f32⟩
  | 26 => ⟨S16x4096x1024, .f32⟩
  | 27 => ⟨S1x1x1024, .f32⟩
  | 28 => ⟨S16x4096x1024, .f32⟩
  | 29 => ⟨S16x4096x1024, .f32⟩
  | 30 => ⟨S_, .f32⟩
  | 31 => ⟨S16x1x1024, .f32⟩
  | 32 => ⟨S16x1x1024, .f32⟩
  | 33 => ⟨S16x4096x1024, .f32⟩
  | 34 => ⟨S16x4096x1024, .f32⟩
  | 35 => ⟨S16x4096x1024, .f32⟩
  | 36 => ⟨S16x4096x1024, .f32⟩
  | 37 => ⟨S16x4096x4096, .f32⟩
  | 38 => ⟨S_, .f32⟩
  | 39 => ⟨S16x4096x4096, .f32⟩
  | 40 => ⟨S16x4096x4096, .f32⟩
  | 41 => ⟨S16x4096x4096, .f32⟩
  | 42 => ⟨S16x4096x1024, .f32⟩
  | 43 => ⟨S1x1024, .f32⟩
  | 44 => ⟨S1024, .f32⟩
  | 45 => ⟨S16x4096x1024, .f32⟩
  | 46 => ⟨S_, .f32⟩
  | 47 => ⟨S16x4096, .f32⟩
  | 48 => ⟨S16x4096x1, .f32⟩
  | 49 => ⟨S_, .f32⟩
  | 50 => ⟨S16x4096x1, .f32⟩
  | 51 => ⟨S16x4096x1, .f32⟩
  | 52 => ⟨S_, .f32⟩
  | 53 => ⟨S16x4096x1, .f32⟩
  | 54 => ⟨S16x4096x1, .f32⟩
  | 55 => ⟨S16x4096x1, .f32⟩
  | 56 => ⟨S16x4096x1024, .f32⟩
  | 57 => ⟨S16x4096x1024, .f32⟩
  | 58 => ⟨S1x1x1024, .f32⟩
  | 59 => ⟨S16x4096x1024, .f32⟩
  | 60 => ⟨S16x4096x1024, .f32⟩
  | 61 => ⟨S16x4096x1024, .f32⟩
  | 62 => ⟨S16x4096x1024, .f32⟩
  | 63 => ⟨S16x4096x1024, .f32⟩
  | _ => ⟨S16x4352x1024, .f32⟩

abbrev hbmTy (i : Nat) : BufTy := match i / 128 with
  | 0 => hbmTy0_0 i
  | 1 => hbmTy0_1 i
  | _ => ⟨S16x4352x1024, .f32⟩

abbrev bufTy : (tb : Table) → Fin (tcTables nBuf tb) → BufTy
  | .hbm, ⟨i, _⟩ => hbmTy i
  | _, _ => ⟨S16x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_7 : Ref sig .tc := ⟨.hbm, 122, rfl⟩
abbrev main_v89 : Ref sig .tc := ⟨.hbm, 123, rfl⟩
abbrev main_v90 : Ref sig .tc := ⟨.hbm, 124, rfl⟩
abbrev main_cst_8 : Ref sig .tc := ⟨.hbm, 125, rfl⟩
abbrev main_v91 : Ref sig .tc := ⟨.hbm, 126, rfl⟩
abbrev main_v92 : Ref sig .tc := ⟨.hbm, 127, rfl⟩
abbrev main_cst_9 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_10 : Ref sig .tc := ⟨.hbm, 143, rfl⟩
abbrev main_v107 : Ref sig .tc := ⟨.hbm, 144, rfl⟩
abbrev main_v108 : Ref sig .tc := ⟨.hbm, 145, rfl⟩
abbrev main_cst_11 : Ref sig .tc := ⟨.hbm, 146, rfl⟩
abbrev main_v109 : Ref sig .tc := ⟨.hbm, 147, rfl⟩
abbrev main_v110 : Ref sig .tc := ⟨.hbm, 148, rfl⟩
abbrev main_cst_12 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_13 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_call1_cst : Ref sig .tc := ⟨.hbm, 166, rfl⟩
abbrev main_call1_v0 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_14 : Ref sig .tc := ⟨.hbm, 174, rfl⟩
abbrev main_v132 : Ref sig .tc := ⟨.hbm, 175, rfl⟩
abbrev main_v133 : Ref sig .tc := ⟨.hbm, 176, rfl⟩
abbrev main_cst_15 : Ref sig .tc := ⟨.hbm, 177, rfl⟩
abbrev main_v134 : Ref sig .tc := ⟨.hbm, 178, rfl⟩
abbrev main_v135 : Ref sig .tc := ⟨.hbm, 179, rfl⟩
abbrev main_cst_16 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩

abbrev nD : Nat := 1
abbrev τ : Topo := Topo.v7x

variable {F : FTy → Type} [FloatOps F]
-- ==== Kernel3.lean ====
abbrev S16x4352x1024 : Shape := ⟨3, ![16, 4352, 1024]⟩
abbrev S32x6x1024 : Shape := ⟨3, ![32, 6, 1024]⟩
abbrev S1x1024 : Shape := ⟨2, ![1, 1024]⟩
abbrev S1024x8224 : Shape := ⟨2, ![1024, 8224]⟩
abbrev S8224 : Shape := ⟨1, ![8224]⟩
abbrev S5x1536 : Shape := ⟨2, ![5, 1536]⟩
abbrev S512 : Shape := ⟨1, ![512]⟩
abbrev S1024x1536 : Shape := ⟨2, ![1024, 1536]⟩
abbrev S1x8224 : Shape := ⟨2, ![1, 8224]⟩
abbrev S1x1536 : Shape := ⟨2, ![1, 1536]⟩
abbrev S_ : Shape := ⟨0, ![]⟩
abbrev S512x1 : Shape := ⟨2, ![512, 1]⟩
abbrev S1024x512 : Shape := ⟨2, ![1024, 512]⟩
abbrev S1024x1024 : Shape := ⟨2, ![1024, 1024]⟩
abbrev S1024x16 : Shape := ⟨2, ![1024, 16]⟩
abbrev S1024x128 : Shape := ⟨2, ![1024, 128]⟩
abbrev S1024x1664 : Shape := ⟨2, ![1024, 1664]⟩
abbrev S1x512 : Shape := ⟨2, ![1, 512]⟩
abbrev S1x16 : Shape := ⟨2, ![1, 16]⟩
abbrev S1x128 : Shape := ⟨2, ![1, 128]⟩
abbrev S1x1664 : Shape := ⟨2, ![1, 1664]⟩
abbrev S1024x640 : Shape := ⟨2, ![1024, 640]⟩
abbrev S1x640 : Shape := ⟨2, ![1, 640]⟩
abbrev S1024x3072 : Shape := ⟨2, ![1024, 3072]⟩
abbrev S1x3072 : Shape := ⟨2, ![1, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S4096x16 : Shape := ⟨2, ![4096, 16]⟩
abbrev S4096x128 : Shape := ⟨2, ![4096, 128]⟩
abbrev S16x4352x1536 : Shape := ⟨3, ![16, 4352, 1536]⟩
abbrev S16x4352x1664 : Shape := ⟨3, ![16, 4352, 1664]⟩
abbrev S16x4352x640 : Shape := ⟨3, ![16, 4352, 640]⟩
abbrev S16x4352x3072 : Shape := ⟨3, ![16, 4352, 3072]⟩
abbrev S1x256x1024 : Shape := ⟨3, ![1, 256, 1024]⟩
abbrev S1x8x1024 : Shape := ⟨3, ![1, 8, 1024]⟩
abbrev S1x6x1024 : Shape := ⟨3, ![1, 6, 1024]⟩
abbrev S256x128 : Shape := ⟨2, ![256, 128]⟩
abbrev S1x256x1536 : Shape := ⟨3, ![1, 256, 1536]⟩
abbrev S1x256x1664 : Shape := ⟨3, ![1, 256, 1664]⟩
abbrev S1x256x640 : Shape := ⟨3, ![1, 256, 640]⟩
abbrev S1x256x3072 : Shape := ⟨3, ![1, 256, 3072]⟩
abbrev S256x1024 : Shape := ⟨2, ![256, 1024]⟩
abbrev S8x1024 : Shape := ⟨2, ![8, 1024]⟩
abbrev S272x1024 : Shape := ⟨2, ![272, 1024]⟩
abbrev S272 : Shape := ⟨1, ![272]⟩
abbrev S272x1 : Shape := ⟨2, ![272, 1]⟩
abbrev S1x1x1024 : Shape := ⟨3, ![1, 1, 1024]⟩
abbrev S272x1536 : Shape := ⟨2, ![272, 1536]⟩
abbrev S256x1 : Shape := ⟨2, ![256, 1]⟩
abbrev S256x1536 : Shape := ⟨2, ![256, 1536]⟩
abbrev S256 : Shape := ⟨1, ![256]⟩
abbrev S1x256x128 : Shape := ⟨3, ![1, 256, 128]⟩
abbrev S256x512 : Shape := ⟨2, ![256, 512]⟩
abbrev S1x256x512 : Shape := ⟨3, ![1, 256, 512]⟩
abbrev S256x1664 : Shape := ⟨2, ![256, 1664]⟩
abbrev S256x640 : Shape := ⟨2, ![256, 640]⟩
abbrev S256x3072 : Shape := ⟨2, ![256, 3072]⟩

abbrev nBuf : Space → Nat
  | .hbm => 100
  | .vmem => 34
  | .smem => 0
  | _ => 0

abbrev bufTy : (tb : Table) → Fin (tcTables nBuf tb) → BufTy
  | .hbm, ⟨0, _⟩ => ⟨S16x4352x1024, .f32⟩
  | .hbm, ⟨1, _⟩ => ⟨S32x6x1024, .f32⟩
  | .hbm, ⟨2, _⟩ => ⟨S1x1024, .f32⟩
  | .hbm, ⟨3, _⟩ => ⟨S1024x8224, .f32⟩
  | .hbm, ⟨4, _⟩ => ⟨S8224, .f32⟩
  | .hbm, ⟨5, _⟩ => ⟨S5x1536, .f32⟩
  | .hbm, ⟨6, _⟩ => ⟨S512, .i32⟩
  | .hbm, ⟨7, _⟩ => ⟨S512, .i1⟩
  | .hbm, ⟨8, _⟩ => ⟨S512, .i1⟩
  | .hbm, ⟨9, _⟩ => ⟨S1024x1536, .f32⟩
  | .hbm, ⟨10, _⟩ => ⟨S1024x1536, .bf16⟩
  | .hbm, ⟨11, _⟩ => ⟨S1x8224, .f32⟩
  | .hbm, ⟨12, _⟩ => ⟨S1x1536, .f32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S1024x512, .f32⟩
  | .hbm, ⟨19, _⟩ => ⟨S1024x1024, .f32⟩
  | .hbm, ⟨20, _⟩ => ⟨S1024x16, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x1664, .f32⟩
  | .hbm, ⟨25, _⟩ => ⟨S1024x1664, .bf16⟩
  | .hbm, ⟨26, _⟩ => ⟨S1x8224, .f32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1x512, .f32⟩
  | .hbm, ⟨33, _⟩ => ⟨S1x1024, .f32⟩
  | .hbm, ⟨34, _⟩ => ⟨S1x16, .f32⟩
  | .hbm, ⟨35, _⟩ => ⟨S_, .i32⟩
  | .hbm, ⟨36, _⟩ => ⟨S_, .f32⟩
  | .hbm, ⟨37, _⟩ => ⟨S1x128, .f32⟩
  | .hbm, ⟨38, _⟩ => ⟨S1x1664, .f32⟩
  | .hbm, ⟨39, _⟩ => ⟨S1024x1536, .f32⟩
  | .hbm, ⟨40, _⟩ => ⟨S1024x1536, .bf16⟩
  | .hbm, ⟨41, _⟩ => ⟨S1x8224, .f32⟩
  | .hbm, ⟨42, _⟩ => ⟨S1x1536, .f32⟩
  | .hbm, ⟨43, _⟩ => ⟨S1024x512, .f32⟩
  | .hbm, ⟨44, _⟩ => ⟨S1024x16, .f32⟩
  | .hbm, ⟨45, _⟩ => ⟨S_, .i32⟩
  | .hbm, ⟨46, _⟩ => ⟨S_, .f32⟩
  | .hbm, ⟨47, _⟩ => ⟨S1024x128, .f32⟩
  | .hbm, ⟨48, _⟩ => ⟨S1024x640, .f32⟩
  | .hbm, ⟨49, _⟩ => ⟨S1024x640, .bf16⟩
  | .hbm, ⟨50, _⟩ => ⟨S1x8224, .f32⟩
  | .hbm, ⟨51, _⟩ => ⟨S1x512, .f32⟩
  | .hbm, ⟨52, _⟩ => ⟨S1x16, .f32⟩
  | .hbm, ⟨53, _⟩ => ⟨S_, .i32⟩
  | .hbm, ⟨54, _⟩ => ⟨S_, .f32⟩
  | .hbm, ⟨55, _⟩ => ⟨S1x128, .f32⟩
  | .hbm, ⟨56, _⟩ => ⟨S1x640, .f32⟩
  | .hbm, ⟨57, _⟩ => ⟨S1024x3072, .f32⟩
  | .hbm, ⟨58, _⟩ => ⟨S1024x3072, .bf16⟩
  | .hbm, ⟨59, _⟩ => ⟨S1x8224, .f32⟩
  | .hbm, ⟨60, _⟩ => ⟨S1x3072, .f32⟩
  | .hbm, ⟨61, _⟩ => ⟨S64, .f32⟩
  | .hbm, ⟨62, _⟩ => ⟨S64x64, .f32⟩
  | .hbm, ⟨63, _⟩ => ⟨S4096, .f32⟩
  | .hbm, ⟨64, _⟩ => ⟨S64, .f32⟩
  | .hbm, ⟨65, _⟩ => ⟨S1x64, .f32⟩
  | .hbm, ⟨66, _⟩ => ⟨S64x64, .f32⟩
  | .hbm, ⟨67, _⟩ => ⟨S4096, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S4096x1, .f32⟩
  | .hbm, ⟨83, _⟩ => ⟨S1x16, .f32⟩
  | .hbm, ⟨84, _⟩ => ⟨S4096x16, .f32⟩
  | .hbm, ⟨85, _⟩ => ⟨S4096x16, .f32⟩
  | .hbm, ⟨86, _⟩ => ⟨S4096x16, .f32⟩
  | .hbm, ⟨87, _⟩ => ⟨S4096x1, .f32⟩
  | .hbm, ⟨88, _⟩ => ⟨S1x16, .f32⟩
  | .hbm, ⟨89, _⟩ => ⟨S4096x16, .f32⟩
  | .hbm, ⟨90, _⟩ => ⟨S4096x16, .f32⟩
  | .hbm, ⟨91, _⟩ => ⟨S4096x16, .f32⟩
  | .hbm, ⟨92, _⟩ => ⟨S4096x128, .f32⟩
  | .hbm, ⟨93, _⟩ => ⟨S4096x128, .f32⟩
  | .hbm, ⟨94, _⟩ => ⟨S4096x128, .f32⟩
  | .hbm, ⟨95, _⟩ => ⟨S16x4352x1536, .bf16⟩
  | .hbm, ⟨96, _⟩ => ⟨S16x4352x1664, .f32⟩
  | .hbm, ⟨97, _⟩ => ⟨S16x4352x1536, .f32⟩
  | .hbm, ⟨98, _⟩ => ⟨S16x4352x640, .f32⟩
  | .hbm, ⟨99, _⟩ => ⟨S16x4352x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1536, .bf16⟩
  | .local _ .vmem, ⟨10, _⟩ => ⟨S1024x1664, .bf16⟩
  | .local _ .vmem, ⟨11, _⟩ => ⟨S1024x1536, .bf16⟩
  | .local _ .vmem, ⟨12, _⟩ => ⟨S1024x640, .bf16⟩
  | .local _ .vmem, ⟨13, _⟩ => ⟨S1024x3072, .bf16⟩
  | .local _ .vmem, ⟨14, _⟩ => ⟨S1x1536, .f32⟩
  | .local _ .vmem, ⟨15, _⟩ => ⟨S1x1664, .f32⟩
  | .local _ .vmem, ⟨16, _⟩ => ⟨S1x1536, .f32⟩
  | .local _ .vmem, ⟨17, _⟩ => ⟨S1x640, .f32⟩
  | .local _ .vmem, ⟨18, _⟩ => ⟨S1x3072, .f32⟩
  | .local _ .vmem, ⟨19, _⟩ => ⟨S5x1536, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S1x256x1536, .bf16⟩
  | .local _ .vmem, ⟨25, _⟩ => ⟨S1x256x1536, .bf16⟩
  | .local _ .vmem, ⟨26, _⟩ => ⟨S1x256x1664, .f32⟩
  | .local _ .vmem, ⟨27, _⟩ => ⟨S1x256x1664, .f32⟩
  | .local _ .vmem, ⟨28, _⟩ => ⟨S1x256x1536, .f32⟩
  | .local _ .vmem, ⟨29, _⟩ => ⟨S1x256x1536, .f32⟩
  | .local _ .vmem, ⟨30, _⟩ => ⟨S1x256x640, .f32⟩
  | .local _ .vmem, ⟨31, _⟩ => ⟨S1x256x640, .f32⟩
  | .local _ .vmem, ⟨32, _⟩ => ⟨S1x256x3072, .bf16⟩
  | .local _ .vmem, ⟨33, _⟩ => ⟨S1x256x3072, .bf16⟩
  | _, _ => ⟨S16x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_call2_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_call3_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72_0 : Ref sig .tc := ⟨.hbm, 95, rfl⟩
abbrev main_v72_1 : Ref sig .tc := ⟨.hbm, 96, rfl⟩
abbrev main_v72_2 : Ref sig .tc := ⟨.hbm, 97, rfl⟩
abbrev main_v72_3 : Ref sig .tc := ⟨.hbm, 98, rfl⟩
abbrev main_v72_4 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 1 := Scalar.cmpi .sge arg1 c1_i32
  let v2 : BitVec 32 := Scalar.extui v1
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1664 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1664 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x640 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S5x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x256x1536 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1664 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1536 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x640 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x3072 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference3Ideal.lean ====
abbrev S16x4352x1024 : Shape := ⟨3, ![16, 4352, 1024]⟩
abbrev S32x6x1024 : Shape := ⟨3, ![32, 6, 1024]⟩
abbrev S1x1024 : Shape := ⟨2, ![1, 1024]⟩
abbrev S1024x8224 : Shape := ⟨2, ![1024, 8224]⟩
abbrev S8224 : Shape := ⟨1, ![8224]⟩
abbrev S5x1536 : Shape := ⟨2, ![5, 1536]⟩
abbrev S16x2x6x1024 : Shape := ⟨4, ![16, 2, 6, 1024]⟩
abbrev S16x256x1024 : Shape := ⟨3, ![16, 256, 1024]⟩
abbrev S16x1x6x1024 : Shape := ⟨4, ![16, 1, 6, 1024]⟩
abbrev S16x6x1024 : Shape := ⟨3, ![16, 6, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x1x1024 : Shape := ⟨3, ![16, 1, 1024]⟩
abbrev S16x1024 : Shape := ⟨2, ![16, 1024]⟩
abbrev S16x256x8224 : Shape := ⟨3, ![16, 256, 8224]⟩
abbrev S1x1x8224 : Shape := ⟨3, ![1, 1, 8224]⟩
abbrev S16x256x512 : Shape := ⟨3, ![16, 256, 512]⟩
abbrev S16x256x256 : Shape := ⟨3, ![16, 256, 256]⟩
abbrev S16x256x16 : Shape := ⟨3, ![16, 256, 16]⟩
abbrev S16x256x3072 : Shape := ⟨3, ![16, 256, 3072]⟩
abbrev S16x256x1536 : Shape := ⟨3, ![16, 256, 1536]⟩
abbrev S16x260x1536 : Shape := ⟨3, ![16, 260, 1536]⟩
abbrev S1x1536 : Shape := ⟨2, ![1, 1536]⟩
abbrev S1536 : Shape := ⟨1, ![1536]⟩
abbrev S1x1x1536 : Shape := ⟨3, ![1, 1, 1536]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S16x256x112 : Shape := ⟨3, ![16, 256, 112]⟩
abbrev S16x256x4x64 : Shape := ⟨4, ![16, 256, 4, 64]⟩
abbrev S16x256x1664 : Shape := ⟨3, ![16, 256, 1664]⟩
abbrev S16x256x640 : Shape := ⟨3, ![16, 256, 640]⟩
abbrev S16x4096x1024 : Shape := ⟨3, ![16, 4096, 1024]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S16x4096 : Shape := ⟨2, ![16, 4096]⟩
abbrev S16x4096x1 : Shape := ⟨3, ![16, 4096, 1]⟩
abbrev S16x4096x8224 : Shape := ⟨3, ![16, 4096, 8224]⟩
abbrev S16x4096x512 : Shape := ⟨3, ![16, 4096, 512]⟩
abbrev S16x4096x256 : Shape := ⟨3, ![16, 4096, 256]⟩
abbrev S16x4096x16 : Shape := ⟨3, ![16, 4096, 16]⟩
abbrev S16x4096x3072 : Shape := ⟨3, ![16, 4096, 3072]⟩
abbrev S16x4096x4x2x64 : Shape := ⟨5, ![16, 4096, 4, 2, 64]⟩
abbrev S16x4096x4x2x16 : Shape := ⟨5, ![16, 4096, 4, 2, 16]⟩
abbrev S1x4096x1x1x64 : Shape := ⟨5, ![1, 4096, 1, 1, 64]⟩
abbrev S16x4096x1536 : Shape := ⟨3, ![16, 4096, 1536]⟩
abbrev S16x4100x1536 : Shape := ⟨3, ![16, 4100, 1536]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩
abbrev S16x4096x112 : Shape := ⟨3, ![16, 4096, 112]⟩
abbrev S16x4096x4x64 : Shape := ⟨4, ![16, 4096, 4, 64]⟩
abbrev S16x4096x1664 : Shape := ⟨3, ![16, 4096, 1664]⟩
abbrev S16x4096x640 : Shape := ⟨3, ![16, 4096, 640]⟩
abbrev S16x4352x1536 : Shape := ⟨3, ![16, 4352, 1536]⟩
abbrev S16x4352x1664 : Shape := ⟨3, ![16, 4352, 1664]⟩
abbrev S16x4352x640 : Shape := ⟨3, ![16, 4352, 640]⟩
abbrev S16x4352x3072 : Shape := ⟨3, ![16, 4352, 3072]⟩

abbrev nBuf : Space → Nat
  | .hbm => 372
  | .vmem => 0
  | .smem => 0
  | _ => 0

abbrev hbmTy0_0 (i : Nat) : BufTy := match i % 128 with
  | 0 => ⟨S16x4352x1024, .f32⟩
  | 1 => ⟨S32x6x1024, .f32⟩
  | 2 => ⟨S1x1024, .f32⟩
  | 3 => ⟨S1024x8224, .f32⟩
  | 4 => ⟨S8224, .f32⟩
  | 5 => ⟨S5x1536, .f32⟩
  | 6 => ⟨S16x2x6x1024, .f32⟩
  | 7 => ⟨S16x256x1024, .f32⟩
  | 8 => ⟨S16x1x6x1024, .f32⟩
  | 9 => ⟨S16x6x1024, .f32⟩
  | 10 => ⟨S1024, .f32⟩
  | 11 => ⟨S16x256x1024, .f32⟩
  | 12 => ⟨S_, .f32⟩
  | 13 => ⟨S16x256, .f32⟩
  | 14 => ⟨S16x256x1, .f32⟩
  | 15 => ⟨S_, .f32⟩
  | 16 => ⟨S16x256x1, .f32⟩
  | 17 => ⟨S16x256x1, .f32⟩
  | 18 => ⟨S_, .f32⟩
  | 19 => ⟨S16x256x1, .f32⟩
  | 20 => ⟨S16x256x1, .f32⟩
  | 21 => ⟨S16x256x1, .f32⟩
  | 22 => ⟨S16x256x1024, .f32⟩
  | 23 => ⟨S16x256x1024, .f32⟩
  | 24 => ⟨S1x1x1024, .f32⟩
  | 25 => ⟨S16x256x1024, .f32⟩
  | 26 => ⟨S16x256x1024, .f32⟩
  | 27 => ⟨S16x1x1024, .f32⟩
  | 28 => ⟨S16x1024, .f32⟩
  | 29 => ⟨S16x1x1024, .f32⟩
  | 30 => ⟨S_, .f32⟩
  | 31 => ⟨S16x1x1024, .f32⟩
  | 32 => ⟨S16x1x1024, .f32⟩
  | 33 => ⟨S16x256x1024, .f32⟩
  | 34 => ⟨S16x256x1024, .f32⟩
  | 35 => ⟨S16x1x1024, .f32⟩
  | 36 => ⟨S16x1024, .f32⟩
  | 37 => ⟨S16x1x1024, .f32⟩
  | 38 => ⟨S16x256x1024, .f32⟩
  | 39 => ⟨S16x256x1024, .f32⟩
  | 40 => ⟨S16x256x8224, .f32⟩
  | 41 => ⟨S1x1x8224, .f32⟩
  | 42 => ⟨S16x256x8224, .f32⟩
  | 43 => ⟨S16x256x8224, .f32⟩
  | 44 => ⟨S16x256x512, .f32⟩
  | 45 => ⟨S16x256x512, .f32⟩
  | 46 => ⟨S16x256x512, .f32⟩
  | 47 => ⟨S16x256x256, .f32⟩
  | 48 => ⟨S16x256x256, .f32⟩
  | 49 => ⟨S16x256x512, .f32⟩
  | 50 => ⟨S16x256x512, .f32⟩
  | 51 => ⟨S16x256x16, .f32⟩
  | 52 => ⟨S16x256x512, .f32⟩
  | 53 => ⟨S16x256x512, .f32⟩
  | 54 => ⟨S16x256x512, .f32⟩
  | 55 => ⟨S16x256x512, .f32⟩
  | 56 => ⟨S16x256x16, .f32⟩
  | 57 => ⟨S16x256x3072, .f32⟩
  | 58 => ⟨S16x256x1536, .f32⟩
  | 59 => ⟨S_, .i32⟩
  | 60 => ⟨S_, .f32⟩
  | 61 => ⟨S16x260x1536, .f32⟩
  | 62 => ⟨S16x256x1536, .f32⟩
  | 63 => ⟨S1x1536, .f32⟩
  | 64 => ⟨S1536, .f32⟩
  | 65 => ⟨S1x1x1536, .f32⟩
  | 66 => ⟨S16x256x1536, .f32⟩
  | 67 => ⟨S16x256x1536, .f32⟩
  | 68 => ⟨S16x256x1536, .f32⟩
  | 69 => ⟨S1x1536, .f32⟩
  | 70 => ⟨S1536, .f32⟩
  | 71 => ⟨S1x1x1536, .f32⟩
  | 72 => ⟨S16x256x1536, .f32⟩
  | 73 => ⟨S16x256x1536, .f32⟩
  | 74 => ⟨S16x256x1536, .f32⟩
  | 75 => ⟨S16x256x1536, .f32⟩
  | 76 => ⟨S1x1536, .f32⟩
  | 77 => ⟨S1536, .f32⟩
  | 78 => ⟨S1x1x1536, .f32⟩
  | 79 => ⟨S16x256x1536, .f32⟩
  | 80 => ⟨S16x256x1536, .f32⟩
  | 81 => ⟨S16x256x1536, .f32⟩
  | 82 => ⟨S16x256x1536, .f32⟩
  | 83 => ⟨S1x1536, .f32⟩
  | 84 => ⟨S1536, .f32⟩
  | 85 => ⟨S1x1x1536, .f32⟩
  | 86 => ⟨S16x256x1536, .f32⟩
  | 87 => ⟨S16x256x1536, .f32⟩
  | 88 => ⟨S16x256x1536, .f32⟩
  | 89 => ⟨S16x256x1536, .f32⟩
  | 90 => ⟨S1x1536, .f32⟩
  | 91 => ⟨S1536, .f32⟩
  | 92 => ⟨S1x1x1536, .f32⟩
  | 93 => ⟨S16x256x1536, .f32⟩
  | 94 => ⟨S16x256x1536, .f32⟩
  | 95 => ⟨S16x256x1536, .f32⟩
  | 96 => ⟨S16x256x1536, .f32⟩
  | 97 => ⟨S16x256x1536, .f32⟩
  | 98 => ⟨S_, .f32⟩
  | 99 => ⟨S16x256x1536, .f32⟩
  | 100 => ⟨S16x256x1536, .f32⟩
  | 101 => ⟨S_, .f32⟩
  | 102 => ⟨S16x256x1536, .f32⟩
  | 103 => ⟨S16x256x1536, .f32⟩
  | 104 => ⟨S16x256x1536, .f32⟩
  | 105 => ⟨S16x256x512, .f32⟩
  | 106 => ⟨S16x256x512, .f32⟩
  | 107 => ⟨S16x256x512, .f32⟩
  | 108 => ⟨S16x256x4x128, .f32⟩
  | 109 => ⟨S16x256x4x128, .f32⟩
  | 110 => ⟨S_, .f32⟩
  | 111 => ⟨S16x256x4, .f32⟩
  | 112 => ⟨S16x256x4x1, .f32⟩
  | 113 => ⟨S_, .f32⟩
  | 114 => ⟨S16x256x4x1, .f32⟩
  | 115 => ⟨S16x256x4x1, .f32⟩
  | 116 => ⟨S16x256x4x1, .f32⟩
  | 117 => ⟨S16x256x4x128, .f32⟩
  | 118 => ⟨S16x256x4x128, .f32⟩
  | 119 => ⟨S_, .f32⟩
  | 120 => ⟨S16x256x4x128, .f32⟩
  | 121 => ⟨S16x256x4x128, .f32⟩
  | 122 => ⟨S16x256x512, .f32⟩
  | 123 => ⟨S16x256x4x128, .f32⟩
  | 124 => ⟨S16x256x4x128, .f32⟩
  | 125 => ⟨S_, .f32⟩
  | 126 => ⟨S16x256x4, .f32⟩
  | 127 => ⟨S16x256x4x1, .f32⟩
  | _ => ⟨S16x4352x1024, .f32⟩

abbrev hbmTy0_1 (i : Nat) : BufTy := match i % 128 with
  | 0 => ⟨S_, .f32⟩
  | 1 => ⟨S16x256x4x1, .f32⟩
  | 2 => ⟨S16x256x4x1, .f32⟩
  | 3 => ⟨S16x256x4x1, .f32⟩
  | 4 => ⟨S16x256x4x128, .f32⟩
  | 5 => ⟨S16x256x4x128, .f32⟩
  | 6 => ⟨S16x256x512, .f32⟩
  | 7 => ⟨S_, .f32⟩
  | 8 => ⟨S16x256x112, .f32⟩
  | 9 => ⟨S16x256x4x64, .f32⟩
  | 10 => ⟨S16x256x4x64, .f32⟩
  | 11 => ⟨S16x256x4x128, .f32⟩
  | 12 => ⟨S16x256x512, .f32⟩
  | 13 => ⟨S16x256x1536, .f32⟩
  | 14 => ⟨S16x256x1664, .f32⟩
  | 15 => ⟨S16x256x1536, .f32⟩
  | 16 => ⟨S16x256x640, .f32⟩
  | 17 => ⟨S16x256x3072, .f32⟩
  | 18 => ⟨S16x256x3072, .f32⟩
  | 19 => ⟨S_, .f32⟩
  | 20 => ⟨S16x256x3072, .f32⟩
  | 21 => ⟨S16x256x3072, .f32⟩
  | 22 => ⟨S_, .f32⟩
  | 23 => ⟨S16x256x3072, .f32⟩
  | 24 => ⟨S16x256x3072, .f32⟩
  | 25 => ⟨S16x4096x1024, .f32⟩
  | 26 => ⟨S16x1x6x1024, .f32⟩
  | 27 => ⟨S16x6x1024, .f32⟩
  | 28 => ⟨S64, .f32⟩
  | 29 => ⟨S64x64, .f32⟩
  | 30 => ⟨S4096, .f32⟩
  | 31 => ⟨S64, .f32⟩
  | 32 => ⟨S1x64, .f32⟩
  | 33 => ⟨S64x64, .f32⟩
  | 34 => ⟨S4096, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S4096x1, .f32⟩
  | 50 => ⟨S1x16, .f32⟩
  | 51 => ⟨S4096x16, .f32⟩
  | 52 => ⟨S4096x16, .f32⟩
  | 53 => ⟨S4096x16, .f32⟩
  | 54 => ⟨S4096x1, .f32⟩
  | 55 => ⟨S1x16, .f32⟩
  | 56 => ⟨S4096x16, .f32⟩
  | 57 => ⟨S4096x16, .f32⟩
  | 58 => ⟨S4096x16, .f32⟩
  | 59 => ⟨S4096x64, .f32⟩
  | 60 => ⟨S4096x64, .f32⟩
  | 61 => ⟨S4096x64, .f32⟩
  | 62 => ⟨S1024, .f32⟩
  | 63 => ⟨S16x4096x1024, .f32⟩
  | 64 => ⟨S_, .f32⟩
  | 65 => ⟨S16x4096, .f32⟩
  | 66 => ⟨S16x4096x1, .f32⟩
  | 67 => ⟨S_, .f32⟩
  | 68 => ⟨S16x4096x1, .f32⟩
  | 69 => ⟨S16x4096x1, .f32⟩
  | 70 => ⟨S_, .f32⟩
  | 71 => ⟨S16x4096x1, .f32⟩
  | 72 => ⟨S16x4096x1, .f32⟩
  | 73 => ⟨S16x4096x1, .f32⟩
  | 74 => ⟨S16x4096x1024, .f32⟩
  | 75 => ⟨S16x4096x1024, .f32⟩
  | 76 => ⟨S1x1x1024, .f32⟩
  | 77 => ⟨S16x4096x1024, .f32⟩
  | 78 => ⟨S16x4096x1024, .f32⟩
  | 79 => ⟨S16x1x1024, .f32⟩
  | 80 => ⟨S16x1024, .f32⟩
  | 81 => ⟨S16x1x1024, .f32⟩
  | 82 => ⟨S_, .f32⟩
  | 83 => ⟨S16x1x1024, .f32⟩
  | 84 => ⟨S16x1x1024, .f32⟩
  | 85 => ⟨S16x4096x1024, .f32⟩
  | 86 => ⟨S16x4096x1024, .f32⟩
  | 87 => ⟨S16x1x1024, .f32⟩
  | 88 => ⟨S16x1024, .f32⟩
  | 89 => ⟨S16x1x1024, .f32⟩
  | 90 => ⟨S16x4096x1024, .f32⟩
  | 91 => ⟨S16x4096x1024, .f32⟩
  | 92 => ⟨S16x4096x8224, .f32⟩
  | 93 => ⟨S1x1x8224, .f32⟩
  | 94 => ⟨S16x4096x8224, .f32⟩
  | 95 => ⟨S16x4096x8224, .f32⟩
  | 96 => ⟨S16x4096x512, .f32⟩
  | 97 => ⟨S16x4096x512, .f32⟩
  | 98 => ⟨S16x4096x512, .f32⟩
  | 99 => ⟨S16x4096x256, .f32⟩
  | 100 => ⟨S16x4096x256, .f32⟩
  | 101 => ⟨S16x4096x512, .f32⟩
  | 102 => ⟨S16x4096x512, .f32⟩
  | 103 => ⟨S16x4096x16, .f32⟩
  | 104 => ⟨S16x4096x512, .f32⟩
  | 105 => ⟨S16x4096x512, .f32⟩
  | 106 => ⟨S16x4096x512, .f32⟩
  | 107 => ⟨S16x4096x512, .f32⟩
  | 108 => ⟨S16x4096x16, .f32⟩
  | 109 => ⟨S16x4096x3072, .f32⟩
  | 110 => ⟨S16x4096x4x2x64, .f32⟩
  | 111 => ⟨S16x4096x4x2x16, .f32⟩
  | 112 => ⟨S16x4096x4x2x16, .f32⟩
  | 113 => ⟨S16x4096x4x2x16, .f32⟩
  | 114 => ⟨S16x4096x4x2x16, .f32⟩
  | 115 => ⟨S16x4096x4x2x16, .f32⟩
  | 116 => ⟨S16x4096x4x2x16, .f32⟩
  | 117 => ⟨S16x4096x4x2x64, .f32⟩
  | 118 => ⟨S1x4096x1x1x64, .f32⟩
  | 119 => ⟨S16x4096x4x2x64, .f32⟩
  | 120 => ⟨S16x4096x4x2x64, .f32⟩
  | 121 => ⟨S1x4096x1x1x64, .f32⟩
  | 122 => ⟨S16x4096x4x2x64, .f32⟩
  | 123 => ⟨S16x4096x4x2x64, .f32⟩
  | 124 => ⟨S16x4096x4x2x64, .f32⟩
  | 125 => ⟨S16x4096x512, .f32⟩
  | 126 => ⟨S16x4096x4x2x64, .f32⟩
  | 127 => ⟨S16x4096x4x2x16, .f32⟩
  | _ => ⟨S16x4352x1024, .f32⟩

abbrev hbmTy0_2 (i : Nat) : BufTy := match i % 128 with
  | 0 => ⟨S16x4096x4x2x16, .f32⟩
  | 1 => ⟨S16x4096x4x2x16, .f32⟩
  | 2 => ⟨S16x4096x4x2x16, .f32⟩
  | 3 => ⟨S16x4096x4x2x16, .f32⟩
  | 4 => ⟨S16x4096x4x2x16, .f32⟩
  | 5 => ⟨S16x4096x4x2x64, .f32⟩
  | 6 => ⟨S1x4096x1x1x64, .f32⟩
  | 7 => ⟨S16x4096x4x2x64, .f32⟩
  | 8 => ⟨S16x4096x4x2x64, .f32⟩
  | 9 => ⟨S1x4096x1x1x64, .f32⟩
  | 10 => ⟨S16x4096x4x2x64, .f32⟩
  | 11 => ⟨S16x4096x4x2x64, .f32⟩
  | 12 => ⟨S16x4096x4x2x64, .f32⟩
  | 13 => ⟨S16x4096x512, .f32⟩
  | 14 => ⟨S16x4096x1536, .f32⟩
  | 15 => ⟨S_, .i32⟩
  | 16 => ⟨S_, .f32⟩
  | 17 => ⟨S16x4100x1536, .f32⟩
  | 18 => ⟨S16x4096x1536, .f32⟩
  | 19 => ⟨S1x1536, .f32⟩
  | 20 => ⟨S1536, .f32⟩
  | 21 => ⟨S1x1x1536, .f32⟩
  | 22 => ⟨S16x4096x1536, .f32⟩
  | 23 => ⟨S16x4096x1536, .f32⟩
  | 24 => ⟨S16x4096x1536, .f32⟩
  | 25 => ⟨S1x1536, .f32⟩
  | 26 => ⟨S1536, .f32⟩
  | 27 => ⟨S1x1x1536, .f32⟩
  | 28 => ⟨S16x4096x1536, .f32⟩
  | 29 => ⟨S16x4096x1536, .f32⟩
  | 30 => ⟨S16x4096x1536, .f32⟩
  | 31 => ⟨S16x4096x1536, .f32⟩
  | 32 => ⟨S1x1536, .f32⟩
  | 33 => ⟨S1536, .f32⟩
  | 34 => ⟨S1x1x1536, .f32⟩
  | 35 => ⟨S16x4096x1536, .f32⟩
  | 36 => ⟨S16x4096x1536, .f32⟩
  | 37 => ⟨S16x4096x1536, .f32⟩
  | 38 => ⟨S16x4096x1536, .f32⟩
  | 39 => ⟨S1x1536, .f32⟩
  | 40 => ⟨S1536, .f32⟩
  | 41 => ⟨S1x1x1536, .f32⟩
  | 42 => ⟨S16x4096x1536, .f32⟩
  | 43 => ⟨S16x4096x1536, .f32⟩
  | 44 => ⟨S16x4096x1536, .f32⟩
  | 45 => ⟨S16x4096x1536, .f32⟩
  | 46 => ⟨S1x1536, .f32⟩
  | 47 => ⟨S1536, .f32⟩
  | 48 => ⟨S1x1x1536, .f32⟩
  | 49 => ⟨S16x4096x1536, .f32⟩
  | 50 => ⟨S16x4096x1536, .f32⟩
  | 51 => ⟨S16x4096x1536, .f32⟩
  | 52 => ⟨S16x4096x1536, .f32⟩
  | 53 => ⟨S16x4096x1536, .f32⟩
  | 54 => ⟨S_, .f32⟩
  | 55 => ⟨S16x4096x1536, .f32⟩
  | 56 => ⟨S16x4096x1536, .f32⟩
  | 57 => ⟨S_, .f32⟩
  | 58 => ⟨S16x4096x1536, .f32⟩
  | 59 => ⟨S16x4096x1536, .f32⟩
  | 60 => ⟨S16x4096x1536, .f32⟩
  | 61 => ⟨S16x4096x512, .f32⟩
  | 62 => ⟨S16x4096x512, .f32⟩
  | 63 => ⟨S16x4096x512, .f32⟩
  | 64 => ⟨S16x4096x4x128, .f32⟩
  | 65 => ⟨S16x4096x4x128, .f32⟩
  | 66 => ⟨S_, .f32⟩
  | 67 => ⟨S16x4096x4, .f32⟩
  | 68 => ⟨S16x4096x4x1, .f32⟩
  | 69 => ⟨S_, .f32⟩
  | 70 => ⟨S16x4096x4x1, .f32⟩
  | 71 => ⟨S16x4096x4x1, .f32⟩
  | 72 => ⟨S16x4096x4x1, .f32⟩
  | 73 => ⟨S16x4096x4x128, .f32⟩
  | 74 => ⟨S16x4096x4x128, .f32⟩
  | 75 => ⟨S_, .f32⟩
  | 76 => ⟨S16x4096x4x128, .f32⟩
  | 77 => ⟨S16x4096x4x128, .f32⟩
  | 78 => ⟨S16x4096x512, .f32⟩
  | 79 => ⟨S16x4096x4x128, .f32⟩
  | 80 => ⟨S16x4096x4x128, .f32⟩
  | 81 => ⟨S_, .f32⟩
  | 82 => ⟨S16x4096x4, .f32⟩
  | 83 => ⟨S16x4096x4x1, .f32⟩
  | 84 => ⟨S_, .f32⟩
  | 85 => ⟨S16x4096x4x1, .f32⟩
  | 86 => ⟨S16x4096x4x1, .f32⟩
  | 87 => ⟨S16x4096x4x1, .f32⟩
  | 88 => ⟨S16x4096x4x128, .f32⟩
  | 89 => ⟨S16x4096x4x128, .f32⟩
  | 90 => ⟨S16x4096x512, .f32⟩
  | 91 => ⟨S_, .f32⟩
  | 92 => ⟨S16x4096x112, .f32⟩
  | 93 => ⟨S16x4096x4x64, .f32⟩
  | 94 => ⟨S16x4096x4x64, .f32⟩
  | 95 => ⟨S16x4096x4x128, .f32⟩
  | 96 => ⟨S16x4096x512, .f32⟩
  | 97 => ⟨S16x4096x1536, .f32⟩
  | 98 => ⟨S16x4096x1664, .f32⟩
  | 99 => ⟨S16x4096x1536, .f32⟩
  | 100 => ⟨S16x4096x640, .f32⟩
  | 101 => ⟨S16x4096x3072, .f32⟩
  | 102 => ⟨S16x4096x3072, .f32⟩
  | 103 => ⟨S_, .f32⟩
  | 104 => ⟨S16x4096x3072, .f32⟩
  | 105 => ⟨S16x4096x3072, .f32⟩
  | 106 => ⟨S_, .f32⟩
  | 107 => ⟨S16x4096x3072, .f32⟩
  | 108 => ⟨S16x4096x3072, .f32⟩
  | 109 => ⟨S16x4352x1536, .f32⟩
  | 110 => ⟨S16x4352x1664, .f32⟩
  | 111 => ⟨S16x4352x1536, .f32⟩
  | 112 => ⟨S16x4352x640, .f32⟩
  | 113 => ⟨S16x4352x3072, .f32⟩
  | 114 => ⟨S16x4352x1536, .bf16⟩
  | 115 => ⟨S16x4352x3072, .bf16⟩
  | _ => ⟨S16x4352x1024, .f32⟩

abbrev hbmTy (i : Nat) : BufTy := match i / 128 with
  | 0 => hbmTy0_0 i
  | 1 => hbmTy0_1 i
  | 2 => hbmTy0_2 i
  | _ => ⟨S16x4352x1024, .f32⟩

abbrev bufTy : (tb : Table) → Fin (tcTables nBuf tb) → BufTy
  | .hbm, ⟨i, _⟩ => hbmTy i
  | _, _ => ⟨S16x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c : Ref sig .tc := ⟨.hbm, 59, rfl⟩
abbrev main_call0_v0 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_3 : Ref sig .tc := ⟨.hbm, 110, rfl⟩
abbrev main_v90 : Ref sig .tc := ⟨.hbm, 111, rfl⟩
abbrev main_v91 : Ref sig .tc := ⟨.hbm, 112, rfl⟩
abbrev main_cst_4 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_5 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_6 : Ref sig .tc := ⟨.hbm, 125, rfl⟩
abbrev main_v102 : Ref sig .tc := ⟨.hbm, 126, rfl⟩
abbrev main_v103 : Ref sig .tc := ⟨.hbm, 127, rfl⟩
abbrev main_cst_7 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_8 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_9 : Ref sig .tc := ⟨.hbm, 147, rfl⟩
abbrev main_v121 : Ref sig .tc := ⟨.hbm, 148, rfl⟩
abbrev main_v122 : Ref sig .tc := ⟨.hbm, 149, rfl⟩
abbrev main_cst_10 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_11 : Ref sig .tc := ⟨.hbm, 164, rfl⟩
abbrev main_v136 : Ref sig .tc := ⟨.hbm, 165, rfl⟩
abbrev main_v137 : Ref sig .tc := ⟨.hbm, 166, rfl⟩
abbrev main_cst_12 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_13 : Ref sig .tc := ⟨.hbm, 171, rfl⟩
abbrev main_v141 : Ref sig .tc := ⟨.hbm, 172, rfl⟩
abbrev main_v142 : Ref sig .tc := ⟨.hbm, 173, rfl⟩
abbrev main_cst_14 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_cst_15 : Ref sig .tc := ⟨.hbm, 192, rfl⟩
abbrev main_v160 : Ref sig .tc := ⟨.hbm, 193, rfl⟩
abbrev main_v161 : Ref sig .tc := ⟨.hbm, 194, rfl⟩
abbrev main_cst_16 : Ref sig .tc := ⟨.hbm, 195, rfl⟩
abbrev main_v162 : Ref sig .tc := ⟨.hbm, 196, rfl⟩
abbrev main_v163 : Ref sig .tc := ⟨.hbm, 197, rfl⟩
abbrev main_cst_17 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_cst_18 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_c_19 : Ref sig .tc := ⟨.hbm, 271, rfl⟩
abbrev main_call2_v0 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_call3_v0 : Ref sig .tc := ⟨.hbm, 308, rfl⟩
abbrev main_call3_v1 : Ref sig .tc := ⟨.hbm, 309, rfl⟩
abbrev main_call3_cst : Ref sig .tc := ⟨.hbm, 310, rfl⟩
abbrev main_call3_v2 : Ref sig .tc := ⟨.hbm, 311, rfl⟩
abbrev main_call3_v3 : Ref sig .tc := ⟨.hbm, 312, rfl⟩
abbrev main_call3_cst_0 : Ref sig .tc := ⟨.hbm, 313, rfl⟩
abbrev main_call3_v4 : Ref sig .tc := ⟨.hbm, 314, rfl⟩
abbrev main_call3_v5 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_cst_20 : Ref sig .tc := ⟨.hbm, 322, rfl⟩
abbrev main_v276 : Ref sig .tc := ⟨.hbm, 323, rfl⟩
abbrev main_v277 : Ref sig .tc := ⟨.hbm, 324, rfl⟩
abbrev main_cst_21 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_cst_22 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_cst_23 : Ref sig .tc := ⟨.hbm, 337, rfl⟩
abbrev main_v288 : Ref sig .tc := ⟨.hbm, 338, rfl⟩
abbrev main_v289 : Ref sig .tc := ⟨.hbm, 339, rfl⟩
abbrev main_cst_24 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_cst_25 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_cst_26 : Ref sig .tc := ⟨.hbm, 359, rfl⟩
abbrev main_v307 : Ref sig .tc := ⟨.hbm, 360, rfl⟩
abbrev main_v308 : Ref sig .tc := ⟨.hbm, 361, rfl⟩
abbrev main_cst_27 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩

abbrev nD : Nat := 1
abbrev τ : Topo := Topo.v7x

variable {F : FTy → Type} [FloatOps F]
-- ==== Proof.ProjRun.lean ====
/- The projection call on the extended reals: what its body leaves in its outputs' blocks, with the run that shows it. -/
module

public import proofs.«01_k».proof.Proof.Gen.Kernel3Ideal.Frame.Runs

@[expose] public section

-- the long axes' rectangles need the higher limit
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run is long: the default limit is too low for it)
set_option maxHeartbeats 8000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) :
    Σ' (L18 : List (View.Piece (Elt F) S1x256x1536 .bf16)), Σ' (L19 : List (View.Piece (Elt F) S1x256x1664 .f32)), Σ' (L20 : List (View.Piece (Elt F) S1x256x1536 .f32)), Σ' (L21 : List (View.Piece (Elt F) S1x256x640 .f32)), { L22 : List (View.Piece (Elt F) S1x256x3072 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    iexists _; iexact H22

end Cert.Kernel3Ideal.Gen

end
-- ==== Proof.ProjFrame.lean ====
/- The projection call on the extended reals: its body runs at every grid point, so the launch runs and leaves its arguments as they were. -/
module

public import proofs.«01_k».proof.Proof.ProjRun
public import Idealize.ShloMosaic.Lib.Claim

@[expose] public section

-- the long axes' rectangles need the higher limit
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 18 are of SEVERAL sizes (9 stores of `S1x256x128`, `S1x256x512`): cut into blocks of `![1, 256, 128]` they tile its block (by evaluation), so they cover it. -/
theorem cover0_A_18 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) (y : S1x256x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).1 ![1, 256, 128] (by sl_kernel_rfl) y

/-- What the run leaves in output 18's staging buffer: its pieces read back over junk. -/
def out0_A_18 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) : Vec F S1x256x1536 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).1)

/-- The run's pieces for output 19 tile its block (1 store of `S1x256x1664`, by evaluation), so they cover it. -/
theorem cover0_A_19 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) (y : S1x256x1664.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.1 S1x256x1664.size (by sl_kernel_rfl) y

/-- What the run leaves in output 19's staging buffer: its pieces read back over junk. -/
def out0_A_19 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) : Vec F S1x256x1664 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.1)

/-- The run's pieces for output 20 tile its block (12 stores of `S1x256x128`, by evaluation), so they cover it. -/
theorem cover0_A_20 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) (y : S1x256x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.1 S1x256x128.size (by sl_kernel_rfl) y

/-- What the run leaves in output 20's staging buffer: its pieces read back over junk. -/
def out0_A_20 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) : Vec F S1x256x1536 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.1)

/-- The run's pieces for output 21 tile its block (1 store of `S1x256x640`, by evaluation), so they cover it. -/
theorem cover0_A_21 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) (y : S1x256x640.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.2.1 S1x256x640.size (by sl_kernel_rfl) y

/-- What the run leaves in output 21's staging buffer: its pieces read back over junk. -/
def out0_A_21 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) : Vec F S1x256x640 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.2.1)

/-- The run's pieces for output 22 tile its block (1 store of `S1x256x3072`, by evaluation), so they cover it. -/
theorem cover0_A_22 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) (y : S1x256x3072.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.2.2.1 S1x256x3072.size (by sl_kernel_rfl) y

/-- What the run leaves in output 22's staging buffer: its pieces read back over junk. -/
def out0_A_22 (c : Dev nD) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1536 .bf16) (harg7 : arg7.IsWhole) (arg8 : Memref sig .tc .vmem S1024x1664 .bf16) (harg8 : arg8.IsWhole) (arg9 : Memref sig .tc .vmem S1024x1536 .bf16) (harg9 : arg9.IsWhole) (arg10 : Memref sig .tc .vmem S1024x640 .bf16) (harg10 : arg10.IsWhole) (arg11 : Memref sig .tc .vmem S1024x3072 .bf16) (harg11 : arg11.IsWhole) (arg12 : Memref sig .tc .vmem S1x1536 .f32) (harg12 : arg12.IsWhole) (arg13 : Memref sig .tc .vmem S1x1664 .f32) (harg13 : arg13.IsWhole) (arg14 : Memref sig .tc .vmem S1x1536 .f32) (harg14 : arg14.IsWhole) (arg15 : Memref sig .tc .vmem S1x640 .f32) (harg15 : arg15.IsWhole) (arg16 : Memref sig .tc .vmem S1x3072 .f32) (harg16 : arg16.IsWhole) (arg17 : Memref sig .tc .vmem S5x1536 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x256x1536 .bf16) (harg20 : arg20.IsWhole) (arg21 : Memref sig .tc .vmem S1x256x1664 .f32) (harg21 : arg21.IsWhole) (arg22 : Memref sig .tc .vmem S1x256x1536 .f32) (harg22 : arg22.IsWhole) (arg23 : Memref sig .tc .vmem S1x256x640 .f32) (harg23 : arg23.IsWhole) (arg24 : Memref sig .tc .vmem S1x256x3072 .bf16) (harg24 : arg24.IsWhole)
    (x0 : Vec F S1x256x1024 .f32) (x1 : Vec F S1x8x1024 .f32) (x2 : Vec F S1x8x1024 .f32) (x3 : Vec F S1x6x1024 .f32) (x4 : Vec F S1x1024 .f32) (x5 : Vec F S1024x1536 .bf16) (x6 : Vec F S1024x1664 .bf16) (x7 : Vec F S1024x1536 .bf16) (x8 : Vec F S1024x640 .bf16) (x9 : Vec F S1024x3072 .bf16) (x10 : Vec F S1x1536 .f32) (x11 : Vec F S1x1664 .f32) (x12 : Vec F S1x1536 .f32) (x13 : Vec F S1x640 .f32) (x14 : Vec F S1x3072 .f32) (x15 : Vec F S5x1536 .f32) (x16 : Vec F S256x128 .f32) (x17 : Vec F S256x128 .f32) : Vec F S1x256x3072 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x256x1536 .bf16 × Vec F S1x256x1664 .f32 × Vec F S1x256x1536 .f32 × Vec F S1x256x640 .f32 × Vec F S1x256x3072 .bf16 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2.1
    | ⟨21, _⟩ => (outsAt0 m c t).2.2.2.1
    | ⟨22, _⟩ => (outsAt0 m c t).2.2.2.2
    | ⟨_ + 23, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2.1 := by dsimp only [dats]
theorem after0_21 (c : Dev nD) (t : Fin cfg0.N) : (dats m 0 c).after 21 t = (outsAt0 m c t).2.2.2.1 := by dsimp only [dats]
theorem after0_22 (c : Dev nD) (t : Fin cfg0.N) : (dats m 0 c).after 22 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

-- (comparing the twenty-three windows takes more than the default limit)
set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel3Ideal.Gen

end
-- ==== Proof.ProjValue.lean ====
/- The projection call on the extended reals: its five results are what the grid points' blocks leave. -/
module

public import proofs.«01_k».proof.Proof.ProjFrame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 18's array: the run's contents for that window after the body (`Gen.outsAt0`: its component 0), read through the window's block. -/
theorem flushed18 (c : Dev nD) (t : Fin cfg0.N) :
    (dats m 0 c).flushed 18 t = (cfg0.win 18).cut (grid0.coords t) ((outsAt0 m c t).1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed18, outsAt0]

-- no `blocks18`: window 18's index map is injective over its 272 points, but past 200 points that is decided here only for a window whose block index on one axis is the point's position;
-- the final array is still the frame's `arrAt`, to read with Lib/Pipeline/Value.lean's lemmas by hand

/-- An index that no flushing point's block covers keeps output window 18's array contents at region entry. -/
theorem entry18 (c : Dev nD) (i : S16x4352x1536.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 1), read through the window's block. -/
theorem flushed19 (c : Dev nD) (t : Fin cfg0.N) :
    (dats m 0 c).flushed 19 t = (cfg0.win 19).cut (grid0.coords t) ((outsAt0 m c t).2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed19, outsAt0]

-- no `blocks19`: window 19's index map is injective over its 272 points, but past 200 points that is decided here only for a window whose block index on one axis is the point's position;
-- the final array is still the frame's `arrAt`, to read with Lib/Pipeline/Value.lean's lemmas by hand

/-- An index that no flushing point's block covers keeps output window 19's array contents at region entry. -/
theorem entry19 (c : Dev nD) (i : S16x4352x1664.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 2), read through the window's block. -/
theorem flushed20 (c : Dev nD) (t : Fin cfg0.N) :
    (dats m 0 c).flushed 20 t = (cfg0.win 20).cut (grid0.coords t) ((outsAt0 m c t).2.2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed20, outsAt0]

-- no `blocks20`: window 20's index map is injective over its 272 points, but past 200 points that is decided here only for a window whose block index on one axis is the point's position;
-- the final array is still the frame's `arrAt`, to read with Lib/Pipeline/Value.lean's lemmas by hand

/-- An index that no flushing point's block covers keeps output window 20's array contents at region entry. -/
theorem entry20 (c : Dev nD) (i : S16x4352x1536.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the run's contents for that window after the body (`Gen.outsAt0`: its component 3), read through the window's block. -/
theorem flushed21 (c : Dev nD) (t : Fin cfg0.N) :
    (dats m 0 c).flushed 21 t = (cfg0.win 21).cut (grid0.coords t) ((outsAt0 m c t).2.2.2.1) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed21, outsAt0]

-- no `blocks21`: window 21's index map is injective over its 272 points, but past 200 points that is decided here only for a window whose block index on one axis is the point's position;
-- the final array is still the frame's `arrAt`, to read with Lib/Pipeline/Value.lean's lemmas by hand

/-- An index that no flushing point's block covers keeps output window 21's array contents at region entry. -/
theorem entry21 (c : Dev nD) (i : S16x4352x640.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the run's contents for that window after the body (`Gen.outsAt0`: its component 4), read through the window's block. -/
theorem flushed22 (c : Dev nD) (t : Fin cfg0.N) :
    (dats m 0 c).flushed 22 t = (cfg0.win 22).cut (grid0.coords t) ((outsAt0 m c t).2.2.2.2) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed22, outsAt0]

-- no `blocks22`: window 22's index map is injective over its 272 points, but past 200 points that is decided here only for a window whose block index on one axis is the point's position;
-- the final array is still the frame's `arrAt`, to read with Lib/Pipeline/Value.lean's lemmas by hand

/-- An index that no flushing point's block covers keeps output window 22's array contents at region entry. -/
theorem entry22 (c : Dev nD) (i : S16x4352x3072.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v72_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v72_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v72_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v72_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v72_4) = (dats m 0 c).arrAt 22 cfg0.N :=
  (h c).1 22

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 15 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 15).trans (((dats m 0 c).arrAt_in 15 rfl _).trans ((A_eq m c 15).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v72_0) = (dats m 0 c).arrAt 18 cfg0.N
      ∧ r.2.mem ((c : Thread nD τ).loc main_v72_1) = (dats m 0 c).arrAt 19 cfg0.N
      ∧ r.2.mem ((c : Thread nD τ).loc main_v72_2) = (dats m 0 c).arrAt 20 cfg0.N
      ∧ r.2.mem ((c : Thread nD τ).loc main_v72_3) = (dats m 0 c).arrAt 21 cfg0.N
      ∧ r.2.mem ((c : Thread nD τ).loc main_v72_4) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c⟩)
    (run_main m ρ)

end Cert.Kernel3Ideal.Value

end
-- ==== Proof.SoftmaxPair.lean ====
/- The mathematics of one row of the differential attention, on the extended reals: what the kernel computes for one
   query row (two masked score rows in base 2, each normalised after its product with the values) and what the reference
   computes (two softmax rows in base e, combined before the one product), and that the two agree when every input is
   a real number. Nothing here mentions a program. -/
module

public import Idealize.ShloMosaic.Lib.Pointwise

@[expose] public section

noncomputable section

namespace Cert.Attn

open Idealize.ShloMosaic

/-- A finite sum of real numbers is the same taken on the extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a nonempty finite family of reals, started at minus infinity, is a real number. -/
theorem fold_max_coe {ι : Type*} (s : Finset ι) (hs : s.Nonempty) (f : ι → ℝ) :
    ∃ M : ℝ, s.fold max (⊥ : EReal) (fun i => ((f i : ℝ) : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

/-- The weights of a softmax row do not depend on the number subtracted from the scores. -/
theorem shift_free {n : ℕ} (t : Fin n → ℝ) (v : Fin n → ℝ) (M : ℝ) :
    (∑ j, Real.exp (t j - M) * v j) / (∑ j, Real.exp (t j - M)) = (∑ j, Real.exp (t j) * v j) / (∑ j, Real.exp (t j)) := by
  have h : ∀ j, Real.exp (t j - M) = Real.exp (-M) * Real.exp (t j) := fun j => by
    rw [← Real.exp_add]; congr 1; ring
  simp only [h, mul_assoc]
  rw [← Finset.mul_sum, ← Finset.mul_sum]
  exact mul_div_mul_left _ _ (Real.exp_pos _).ne'

/-- The kernel's normalised product of one score row `s` with one column `v` of the values: base-2 exponentials of the
    scores less their maximum, the sum of products divided by the sum of the exponentials. -/
def kernelRow {n : ℕ} (s v : Fin n → EReal) : EReal :=
  Ideal.div (∑ j, Ideal.exp2 (s j - Finset.univ.fold max ⊥ s) * v j)
    (∑ j, Ideal.exp2 (s j - Finset.univ.fold max ⊥ s))

/-- The reference's softmax of one score row, at key `j`. -/
def softmaxRow {n : ℕ} (s : Fin n → EReal) (j : Fin n) : EReal :=
  Ideal.div (Ideal.exp (s j - max ⊥ (Finset.univ.fold max ⊥ s)))
    (∑ j', Ideal.exp (s j' - max ⊥ (Finset.univ.fold max ⊥ s)))

/-- The sum of the exponentials of a nonempty row is not zero. -/
theorem expsum_ne {n : ℕ} [NeZero n] (t : Fin n → ℝ) : (∑ j, Real.exp (t j)) ≠ 0 :=
  (Finset.sum_pos (fun j _ => Real.exp_pos (t j)) ⟨0, Finset.mem_univ _⟩).ne'

/-- On real scores `t j / log 2` and real values the kernel's row is the softmax average of the values, base e. -/
theorem kernelRow_coe {n : ℕ} [NeZero n] (t v : Fin n → ℝ) :
    kernelRow (fun j => ((t j * (Real.log 2)⁻¹ : ℝ) : EReal)) (fun j => ((v j : ℝ) : EReal))
      = (((∑ j, Real.exp (t j) * v j) / (∑ j, Real.exp (t j)) : ℝ) : EReal) := by
  obtain ⟨M, hM⟩ := fold_max_coe Finset.univ ⟨(0 : Fin n), Finset.mem_univ _⟩ (fun j => t j * (Real.log 2)⁻¹)
  have hl : Real.log 2 ≠ 0 := (Real.log_pos (by norm_num)).ne'
  have he : ∀ j, Ideal.exp2 ((t j * (Real.log 2)⁻¹ : ℝ) - (M : EReal)) = ((Real.exp (t j - Real.log 2 * M) : ℝ) : EReal) := fun j => by
    rw [← EReal.coe_sub, Ideal.exp2_coe]
    congr 1
    rw [Real.rpow_eq_pow, Real.rpow_def_of_pos (by norm_num)]
    congr 1
    field_simp
  unfold kernelRow
  simp only [hM, he, ← EReal.coe_mul, sum_coe]
  rw [Ideal.div_coe (expsum_ne fun j => t j - Real.log 2 * M), ← EReal.coe_mul, mul_one_div, shift_free]

/-- On real scores the softmax is the quotient of the exponentials. -/
theorem softmaxRow_coe {n : ℕ} [NeZero n] (t : Fin n → ℝ) (j : Fin n) :
    softmaxRow (fun j => ((t j : ℝ) : EReal)) j = ((Real.exp (t j) / (∑ j, Real.exp (t j)) : ℝ) : EReal) := by
  obtain ⟨M, hM⟩ := fold_max_coe Finset.univ ⟨(0 : Fin n), Finset.mem_univ _⟩ t
  unfold softmaxRow
  simp only [hM, max_bot_left, ← EReal.coe_sub, Ideal.exp_coe, sum_coe]
  rw [Ideal.div_coe (expsum_ne fun j => t j - M), ← EReal.coe_mul, mul_one_div]
  congr 1
  have h : ∀ j, Real.exp (t j - M) = Real.exp (-M) * Real.exp (t j) := fun j => by
    rw [← Real.exp_add]; congr 1; ring
  simp only [h]
  rw [← Finset.mul_sum]
  exact mul_div_mul_left _ _ (Real.exp_pos _).ne'

/-- The kernel's score of one key: the query row, scaled and masked to one half of its lanes, times the key row. -/
def kernelScore {n : ℕ} (lo : Bool) (c : EReal) (q : Fin 128 → EReal) (k : Fin n → Fin 128 → EReal) (j : Fin n) : EReal :=
  ∑ d : Fin 128, (if (d.val < 64) = lo then q d * c else 0) * k j d

/-- The reference's score of one key: one half of the query row times the same half of the key row, scaled. -/
def refScore {n : ℕ} (c : EReal) (q : Fin 64 → EReal) (k : Fin n → Fin 64 → EReal) (j : Fin n) : EReal :=
  (∑ d : Fin 64, q d * k j d) * c

/-- Lane `d` of the first half of a head's 128 lanes. -/
def lo (d : Fin 64) : Fin 128 := ⟨d.val, by omega⟩

/-- Lane `d` of the second half of a head's 128 lanes. -/
def hi (d : Fin 64) : Fin 128 := ⟨64 + d.val, by omega⟩

/-- A sum over the 128 lanes is the sum over the first half and the sum over the second. -/
theorem sum_halves {M : Type*} [AddCommMonoid M] (f : Fin 128 → M) : ∑ d, f d = ∑ d, f (lo d) + ∑ d, f (hi d) :=
  Fin.sum_univ_add (a := 64) (b := 64) f

/-- The kernel's masked score over real rows, first half. -/
theorem kernelScore_lo {n : ℕ} (c : ℝ) (q : Fin 128 → ℝ) (k : Fin n → Fin 128 → ℝ) (j : Fin n) :
    kernelScore true (c : EReal) (fun d => (q d : EReal)) (fun j d => (k j d : EReal)) j
      = (((∑ d, q (lo d) * k j (lo d)) * c : ℝ) : EReal) := by
  unfold kernelScore
  rw [sum_halves]
  have h0 : ∀ d : Fin 64, ((lo d).val < 64) := fun d => d.isLt
  have h1 : ∀ d : Fin 64, ¬ ((hi d).val < 64) := fun d => by simp [hi]
  simp only [h0, h1, eq_iff_iff, iff_true, false_iff, not_true, if_true, if_false, zero_mul, Finset.sum_const_zero, add_zero,
    ← EReal.coe_mul, sum_coe]
  congr 1
  rw [Finset.sum_mul]
  exact Finset.sum_congr rfl fun d _ => by ring

/-- The kernel's masked score over real rows, second half. -/
theorem kernelScore_hi {n : ℕ} (c : ℝ) (q : Fin 128 → ℝ) (k : Fin n → Fin 128 → ℝ) (j : Fin n) :
    kernelScore false (c : EReal) (fun d => (q d : EReal)) (fun j d => (k j d : EReal)) j
      = (((∑ d, q (hi d) * k j (hi d)) * c : ℝ) : EReal) := by
  unfold kernelScore
  rw [sum_halves]
  have h0 : ∀ d : Fin 64, ((lo d).val < 64) := fun d => d.isLt
  have h1 : ∀ d : Fin 64, ¬ ((hi d).val < 64) := fun d => by simp [hi]
  simp only [h0, h1, Bool.false_eq_true, eq_iff_iff, iff_false, not_true, not_false_eq_true, if_true, if_false, zero_mul,
    Finset.sum_const_zero, zero_add, ← EReal.coe_mul, sum_coe]
  congr 1
  rw [Finset.sum_mul]
  exact Finset.sum_congr rfl fun d _ => by ring

/-- The reference's score over real rows. -/
theorem refScore_coe {n : ℕ} (c : ℝ) (q : Fin 64 → ℝ) (k : Fin n → Fin 64 → ℝ) (j : Fin n) :
    refScore (c : EReal) (fun d => (q d : EReal)) (fun j d => (k j d : EReal)) j
      = (((∑ d, q d * k j d) * c : ℝ) : EReal) := by
  unfold refScore
  simp only [← EReal.coe_mul, sum_coe]

/-- The kernel's differential attention of one query row, at one column of the values. -/
def kernelOut {n : ℕ} (c lam : EReal) (q : Fin 128 → EReal) (k : Fin n → Fin 128 → EReal) (v : Fin n → EReal) : EReal :=
  kernelRow (kernelScore true c q k) v - lam * kernelRow (kernelScore false c q k) v

/-- The reference's differential attention of one query row, at one column of the values. -/
def refOut {n : ℕ} (c lam : EReal) (q : Fin 128 → EReal) (k : Fin n → Fin 128 → EReal) (v : Fin n → EReal) : EReal :=
  ∑ j, v j * (softmaxRow (refScore c (fun d => q (lo d)) (fun j d => k j (lo d))) j
    - lam * softmaxRow (refScore c (fun d => q (hi d)) (fun j d => k j (hi d))) j)

/-- On real inputs the two are equal: the kernel's scale is an eighth over `log 2`, the reference's an eighth. -/
theorem kernelOut_eq {n : ℕ} [NeZero n] (lam : ℝ) (q : Fin 128 → ℝ) (k : Fin n → Fin 128 → ℝ) (v : Fin n → ℝ) :
    kernelOut ((8⁻¹ * (Real.log 2)⁻¹ : ℝ) : EReal) (lam : EReal) (fun d => (q d : EReal)) (fun j d => (k j d : EReal)) (fun j => (v j : EReal))
      = refOut ((8⁻¹ : ℝ) : EReal) (lam : EReal) (fun d => (q d : EReal)) (fun j d => (k j d : EReal)) (fun j => (v j : EReal)) := by
  unfold kernelOut refOut
  have e0 : kernelScore true ((8⁻¹ * (Real.log 2)⁻¹ : ℝ) : EReal) (fun d => (q d : EReal)) (fun j d => (k j d : EReal))
      = fun j => ((((∑ d, q (lo d) * k j (lo d)) * 8⁻¹) * (Real.log 2)⁻¹ : ℝ) : EReal) :=
    funext fun j => by rw [kernelScore_lo, mul_assoc]
  have e1 : kernelScore false ((8⁻¹ * (Real.log 2)⁻¹ : ℝ) : EReal) (fun d => (q d : EReal)) (fun j d => (k j d : EReal))
      = fun j => ((((∑ d, q (hi d) * k j (hi d)) * 8⁻¹) * (Real.log 2)⁻¹ : ℝ) : EReal) :=
    funext fun j => by rw [kernelScore_hi, mul_assoc]
  have r0 : refScore ((8⁻¹ : ℝ) : EReal) (fun d => (q (lo d) : EReal)) (fun j d => (k j (lo d) : EReal))
      = fun j => (((∑ d, q (lo d) * k j (lo d)) * 8⁻¹ : ℝ) : EReal) :=
    funext fun j => refScore_coe _ (fun d => q (lo d)) (fun j d => k j (lo d)) j
  have r1 : refScore ((8⁻¹ : ℝ) : EReal) (fun d => (q (hi d) : EReal)) (fun j d => (k j (hi d) : EReal))
      = fun j => (((∑ d, q (hi d) * k j (hi d)) * 8⁻¹ : ℝ) : EReal) :=
    funext fun j => refScore_coe _ (fun d => q (hi d)) (fun j d => k j (hi d)) j
  rw [e0, e1, r0, r1, kernelRow_coe, kernelRow_coe]
  simp only [softmaxRow_coe, ← EReal.coe_mul, ← EReal.coe_sub, sum_coe]
  congr 1
  rw [Finset.sum_div, Finset.sum_div, Finset.mul_sum, ← Finset.sum_sub_distrib]
  exact Finset.sum_congr rfl fun j _ => by ring

/-- An extended real that is neither infinity is a real number. -/
theorem real_of_abs_lt {x : EReal} (h : x ≠ ⊥ ∧ x ≠ ⊤) : x = ((x.toReal : ℝ) : EReal) :=
  (EReal.coe_toReal h.2 h.1).symm

/-- The two agree on extended-real rows none of whose entries is infinite. -/
theorem kernelOut_eq_of_real {n : ℕ} [NeZero n] {lam : EReal} (q : Fin 128 → EReal) (k : Fin n → Fin 128 → EReal) (v : Fin n → EReal)
    (hl : lam ≠ ⊥ ∧ lam ≠ ⊤) (hq : ∀ d, q d ≠ ⊥ ∧ q d ≠ ⊤) (hk : ∀ j d, k j d ≠ ⊥ ∧ k j d ≠ ⊤) (hv : ∀ j, v j ≠ ⊥ ∧ v j ≠ ⊤) :
    kernelOut ((8⁻¹ * (Real.log 2)⁻¹ : ℝ) : EReal) lam q k v = refOut ((8⁻¹ : ℝ) : EReal) lam q k v := by
  rw [real_of_abs_lt hl, show q = fun d => (((q d).toReal : ℝ) : EReal) from funext fun d => real_of_abs_lt (hq d),
    show k = fun j d => (((k j d).toReal : ℝ) : EReal) from funext fun j => funext fun d => real_of_abs_lt (hk j d),
    show v = fun j => (((v j).toReal : ℝ) : EReal) from funext fun j => real_of_abs_lt (hv j)]
  exact kernelOut_eq _ _ _ _

/-- The root-mean-square norm of a head's 128 lanes times its gain times the layer's constant, at lane `e`; the three
    constants (the lane count, the epsilon, the last factor) are the programs' literals. -/
def normed (o g : Fin 128 → EReal) (e : Fin 128) : EReal :=
  o e * Ideal.rsqrt (Ideal.div (∑ l, o l * o l) (Ideal.ofBits .f32 0x43000000#32) + Ideal.ofBits .f32 0x358637BD#32) * g e
    * Ideal.ofBits .f32 0x3F4CCCCD#32

/-- The layer's lambda from its four vectors. -/
def lambda (a : Fin 4 → Fin 64 → EReal) : EReal :=
  Ideal.exp (∑ d, a 0 d * a 1 d) - Ideal.exp (∑ d, a 2 d * a 3 d) + Ideal.ofBits .f32 0x3E4CCCCD#32

end Cert.Attn

end
-- ==== Proof.AttnBlock.lean ====
/- What the attention kernel's payloads compute at an index: each of the four normalised products (two heads, two maps) is
   the specification's `kernelRow`, and each stored block is its `normed` differential attention, for the tiles that
   attend to the context and for those that attend to all keys. -/
module

public import proofs.«01_k».proof.Proof.Gen.KernelIdeal.Skeleton
public import proofs.«01_k».proof.Proof.SoftmaxPair

@[expose] public section

set_option maxRecDepth 16384

noncomputable section

namespace Cert.KernelIdeal.Attn

open Cert.KernelIdeal Cert.KernelIdeal.Gen Cert.Attn Idealize.ShloMosaic

/-- The real number the kernel scales its queries by: an eighth over the natural logarithm of two. -/
abbrev scale : EReal := ((8⁻¹ * (Real.log 2)⁻¹ : ℝ) : EReal)

/-- The kernel's named constant is that number. -/
theorem named_scale : Named.named (F := Ideal) κ "scale" (φ := .f32) 0x3E38AA3B#32 = scale :=
  IdealRules.named_const.ideal_named_scalar _ _ _ _ rfl

/-- The kernel's running maximum starts at minus infinity. -/
theorem seed : Ideal.ofBits .f32 0xFF800000#32 = (⊥ : EReal) := by
  simp [Ideal.ofBits, Ideal.ieee]

/-- The lane comparison of the first mask, decided over the 128 lanes. -/
theorem lane_lt : ∀ d : Fin 128, IntOp.cmpi .slt (BitVec.ofNat 32 d.val) 64#32 = if d.val < 64 then 1#1 else 0#1 := by decide +kernel

/-- The lane comparison of the second mask, decided over the 128 lanes. -/
theorem lane_ge : ∀ d : Fin 128, IntOp.cmpi .sge (BitVec.ofNat 32 d.val) 64#32 = if d.val < 64 then 0#1 else 1#1 := by decide +kernel

/-- The masked score of the first map, as the payloads write it. -/
theorem score_lo {n : ℕ} (c : EReal) (q : Fin 128 → EReal) (k : Fin n → Fin 128 → EReal) (j : Fin n) :
    (∑ d : Fin 128, Scalar.select (IntOp.cmpi .slt (BitVec.ofNat 32 d.val) 64#32) (q d * c * k j d) (0 : EReal))
      = kernelScore true c q k j := by
  unfold kernelScore
  refine Finset.sum_congr rfl fun d _ => ?_
  rw [lane_lt]
  by_cases h : d.val < 64 <;> simp [h, Scalar.select]

/-- The masked score of the second map, as the payloads write it. -/
theorem score_hi {n : ℕ} (c : EReal) (q : Fin 128 → EReal) (k : Fin n → Fin 128 → EReal) (j : Fin n) :
    (∑ d : Fin 128, Scalar.select (IntOp.cmpi .sge (BitVec.ofNat 32 d.val) 64#32) (q d * c * k j d) (0 : EReal))
      = kernelScore false c q k j := by
  unfold kernelScore
  refine Finset.sum_congr rfl fun d _ => ?_
  rw [lane_ge]
  by_cases h : d.val < 64 <;> simp [h, Scalar.select]

/-- The lambda payload is the specification's lambda. -/
theorem pay_lambda (a : FVec Ideal S4x64 .f32) :
    k0_pay1 (F := Ideal) a (ix2 0 0) = lambda (fun r d => a (ix2 r d)) := by
  pointwise [k0_pay1]
  rfl

section Context

variable (q k v : FVec Ideal S1x256x128 .bf16)

/-- A context tile's stored block, first head of the pair. -/
theorem head0_A (a : FVec Ideal S4x64 .f32) (g : FVec Ideal S1x128 .f32) (r : Fin 256) (e : Fin 128) :
    k0_pay8 (F := Ideal) (k0_pay1 a) (k0_pay6 q k v) (k0_pay7 q k) v g (ix3 0 r e)
      = normed (fun l => kernelOut scale (lambda fun r d => a (ix2 r d)) (fun d => q (ix3 0 r d)) (fun j d => k (ix3 0 j d)) (fun j => v (ix3 0 j l)))
          (fun l => g (ix2 0 l)) e := by
  pointwise [k0_pay8, pay_lambda, k0_pay6, k0_pay7, k0_pay4, k0_pay5, named_scale, seed]
  simp only [score_lo scale (fun d => q (ix3 0 r d)) (fun j d => k (ix3 0 j d)), score_hi scale (fun d => q (ix3 0 r d)) (fun j d => k (ix3 0 j d))]
  rfl

/-- A context tile's stored block, second head of the pair. -/
theorem head1_A (a : FVec Ideal S4x64 .f32) (g : FVec Ideal S1x128 .f32) (r : Fin 256) (e : Fin 128) :
    k0_pay2 (F := Ideal) (k0_pay12 (k0_pay9 q) (iota .tc S256x128 32 [1] iota_S256x128_d1_w32) k0_pay10 k0_pay11 k v)
        (k0_pay13 (k0_pay1 a) (k0_pay9 q) (iota .tc S256x128 32 [1] iota_S256x128_d1_w32) k0_pay10 k v) g (ix3 0 r e)
      = normed (fun l => kernelOut scale (lambda fun r d => a (ix2 r d)) (fun d => q (ix3 0 r d)) (fun j d => k (ix3 0 j d)) (fun j => v (ix3 0 j l)))
          (fun l => g (ix2 0 l)) e := by
  pointwise [k0_pay2, pay_lambda, k0_pay9, k0_pay10, k0_pay11, k0_pay12, k0_pay13, named_scale, seed]
  simp only [score_lo scale (fun d => q (ix3 0 r d)) (fun j d => k (ix3 0 j d)), score_hi scale (fun d => q (ix3 0 r d)) (fun j d => k (ix3 0 j d))]
  rfl

end Context

section Latent

variable (q : FVec Ideal S1x256x128 .bf16) (k v : FVec Ideal S1x4352x128 .bf16)

/-- A latent tile's stored block, first head of the pair. -/
theorem head0_B (a : FVec Ideal S4x64 .f32) (g : FVec Ideal S1x128 .f32) (r : Fin 256) (e : Fin 128) :
    k0_pay18 (F := Ideal) (k0_pay1 a) (k0_pay16 q k v) (k0_pay17 q k) v g (ix3 0 r e)
      = normed (fun l => kernelOut scale (lambda fun r d => a (ix2 r d)) (fun d => q (ix3 0 r d)) (fun j d => k (ix3 0 j d)) (fun j => v (ix3 0 j l)))
          (fun l => g (ix2 0 l)) e := by
  pointwise [k0_pay18, pay_lambda, k0_pay16, k0_pay17, k0_pay14, k0_pay15, named_scale, seed]
  simp only [score_lo scale (fun d => q (ix3 0 r d)) (fun j d => k (ix3 0 j d)), score_hi scale (fun d => q (ix3 0 r d)) (fun j d => k (ix3 0 j d))]
  rfl

/-- A latent tile's stored block, second head of the pair. -/
theorem head1_B (a : FVec Ideal S4x64 .f32) (g : FVec Ideal S1x128 .f32) (r : Fin 256) (e : Fin 128) :
    k0_pay3 (F := Ideal) (k0_pay22 (k0_pay19 q) (iota .tc S256x128 32 [1] iota_S256x128_d1_w32) k0_pay20 k0_pay21 k v)
        (k0_pay23 (k0_pay1 a) (k0_pay19 q) (iota .tc S256x128 32 [1] iota_S256x128_d1_w32) k0_pay20 k v) g (ix3 0 r e)
      = normed (fun l => kernelOut scale (lambda fun r d => a (ix2 r d)) (fun d => q (ix3 0 r d)) (fun j d => k (ix3 0 j d)) (fun j => v (ix3 0 j l)))
          (fun l => g (ix2 0 l)) e := by
  pointwise [k0_pay3, pay_lambda, k0_pay19, k0_pay20, k0_pay21, k0_pay22, k0_pay23, named_scale, seed]
  simp only [score_lo scale (fun d => q (ix3 0 r d)) (fun j d => k (ix3 0 j d)), score_hi scale (fun d => q (ix3 0 r d)) (fun j d => k (ix3 0 j d))]
  rfl

end Latent

end Cert.KernelIdeal.Attn

end
-- ==== Proof.AttnArray.lean ====
/- The attention kernel's result array as one function of its argument arrays: at each token and channel the normed
   differential attention of the token's query with the context's keys (a context token) or with all keys (a latent
   token). Each grid point writes the block of that function, and the blocks cover the array. -/
module

public import proofs.«01_k».proof.Proof.Gen.KernelIdeal.Value
public import proofs.«01_k».proof.Proof.AttnBlock
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline (Dat)

/-- Lane `d` of head `h` among the 512 channels. -/
def chan (h : Fin 4) (d : Fin 128) : Fin 512 := ⟨h.val * 128 + d.val, by omega⟩

/-- One result: batch `b`, token `x`, head `h`, lane `e`, attending to the first `n` tokens; `att` combines scores and
    values of one row (the kernel's or the reference's way). -/
def headOut (att : {n : ℕ} → EReal → (Fin 128 → EReal) → (Fin n → Fin 128 → EReal) → (Fin n → EReal) → EReal)
    (n : ℕ) (hn : n ≤ 4352) (q k v : FVec Ideal ⟨3, ![16, 4352, 512]⟩ .f32) (a : FVec Ideal ⟨2, ![4, 64]⟩ .f32) (g : FVec Ideal ⟨1, ![128]⟩ .f32)
    (b : Fin 16) (x : Fin 4352) (h : Fin 4) (e : Fin 128) : EReal :=
  normed (fun l => att (lambda fun r d => a (ix2 r d)) (fun d => q (ix3 b x (chan h d)))
      (fun j : Fin n => fun d => k (ix3 b ⟨j.val, lt_of_lt_of_le j.isLt hn⟩ (chan h d)))
      (fun j : Fin n => v (ix3 b ⟨j.val, lt_of_lt_of_le j.isLt hn⟩ (chan h l))))
    (fun l => g (ix1 l)) e

/-- One result, the number of keys by the token: a context token sees the context, a latent token everything. -/
def tokenOut (att : {n : ℕ} → EReal → (Fin 128 → EReal) → (Fin n → Fin 128 → EReal) → (Fin n → EReal) → EReal)
    (q k v : FVec Ideal ⟨3, ![16, 4352, 512]⟩ .f32) (a : FVec Ideal ⟨2, ![4, 64]⟩ .f32) (g : FVec Ideal ⟨1, ![128]⟩ .f32)
    (b : Fin 16) (x : Fin 4352) (h : Fin 4) (e : Fin 128) : EReal :=
  if x.val < 256 then headOut att 256 (by norm_num) q k v a g b x h e else headOut att 4352 le_rfl q k v a g b x h e

/-- The whole result array. -/
def result (q k v : FVec Ideal S16x4352x512 .f32) (a : FVec Ideal S4x64 .f32) (g : FVec Ideal S128 .f32) : FVec Ideal S16x4352x512 .f32 := fun i =>
  tokenOut (kernelOut scale) q k v a g (i 0) (i 1) ⟨(i 2).val / 128, by have := (i 2).isLt; simp at this; omega⟩
    ⟨(i 2).val % 128, Nat.mod_lt _ (by norm_num)⟩

/-- The result array at a head's lane. -/
theorem result_at (q k v : FVec Ideal S16x4352x512 .f32) (a : FVec Ideal S4x64 .f32) (g : FVec Ideal S128 .f32)
    (b : Fin 16) (x : Fin 4352) (h : Fin 4) (e : Fin 128) :
    result q k v a g (ix3 b x (chan h e)) = tokenOut (kernelOut scale) q k v a g b x h e := by
  unfold result
  congr 1
  · exact Fin.ext (by show (h.val * 128 + e.val) / 128 = h.val; omega)
  · exact Fin.ext (by show (h.val * 128 + e.val) % 128 = e.val; omega)

variable (m : (ℓ : Loc nD τ sig) → Buf (Elt Ideal) ℓ)

/-- The windows' block indices at every grid point: batch `t / 34`, head pair `t / 17 % 2`, tile `t % 17`. -/
theorem index_of : ∀ t : Fin cfg0.N, win0_0.index t = ![t.val / 34, t.val % 17, t.val / 17 % 2] ∧ win0_1.index t = ![t.val / 34, 0, 2 + t.val / 17 % 2]
    ∧ win0_2.index t = ![t.val / 34, 0, 4 + t.val / 17 % 2] ∧ win0_3.index t = ![0, 0] ∧ win0_4.index t = ![0, 0]
    ∧ win0_5.index t = ![t.val / 34, t.val % 17, t.val / 17 % 2] ∧ t.val / 34 < 16 :=
  (by decide +kernel : ∀ t : Fin grid0.N, _)

/-- The packed array's first third holds the queries. -/
theorem packed_q (c : Dev nD) (b : Fin 16) (x : Fin 4352) (ch : Fin 512) :
    (V m c main_v1 : FVec Ideal S16x4352x1536 .bf16) (ix3 b x ⟨ch.val, by omega⟩) = m ((c : Thread nD τ).loc main_arg0) (ix3 b x ch) := by
  entry_read
  pointwise

/-- The packed array's second third holds the keys. -/
theorem packed_k (c : Dev nD) (b : Fin 16) (x : Fin 4352) (ch : Fin 512) :
    (V m c main_v1 : FVec Ideal S16x4352x1536 .bf16) (ix3 b x ⟨512 + ch.val, by omega⟩) = m ((c : Thread nD τ).loc main_arg1) (ix3 b x ch) := by
  entry_read
  pointwise

/-- The packed array's last third holds the values. -/
theorem packed_v (c : Dev nD) (b : Fin 16) (x : Fin 4352) (ch : Fin 512) :
    (V m c main_v1 : FVec Ideal S16x4352x1536 .bf16) (ix3 b x ⟨1024 + ch.val, by omega⟩) = m ((c : Thread nD τ).loc main_arg2) (ix3 b x ch) := by
  entry_read
  pointwise
  rw [dif_neg (by omega), dif_neg (by omega)]
  exact congrArg _ (by blk_ext)

/-- The query block of a point. -/
theorem block_q (c : Dev nD) (t : Fin cfg0.N) (b : Fin 16) (hb : b.val = t.val / 34) (r l : Fin 256) (x : Fin 4352)
    (hx : x.val = t.val % 17 * 256 + r) (ch : Fin 512) (hc : ch.val = t.val / 17 % 2 * 256 + l) :
    (iblk m c 0 t : FVec Ideal S1x256x256 .bf16) (ix3 0 r l) = m ((c : Thread nD τ).loc main_arg0) (ix3 b x ch) := by
  refine Eq.trans ?_ (packed_q m c b x ch)
  blk_ext [iblk, index_of t]

/-- The key block of a point: all tokens. -/
theorem block_k (c : Dev nD) (t : Fin cfg0.N) (b : Fin 16) (hb : b.val = t.val / 34) (x : Fin 4352) (l : Fin 256)
    (ch : Fin 512) (hc : ch.val = t.val / 17 % 2 * 256 + l) :
    (iblk m c 1 t : FVec Ideal S1x4352x256 .bf16) (ix3 0 x l) = m ((c : Thread nD τ).loc main_arg1) (ix3 b x ch) := by
  refine Eq.trans ?_ (packed_k m c b x ch)
  blk_ext [iblk, index_of t]

/-- The value block of a point: all tokens. -/
theorem block_v (c : Dev nD) (t : Fin cfg0.N) (b : Fin 16) (hb : b.val = t.val / 34) (x : Fin 4352) (l : Fin 256)
    (ch : Fin 512) (hc : ch.val = t.val / 17 % 2 * 256 + l) :
    (iblk m c 2 t : FVec Ideal S1x4352x256 .bf16) (ix3 0 x l) = m ((c : Thread nD τ).loc main_arg2) (ix3 b x ch) := by
  refine Eq.trans ?_ (packed_v m c b x ch)
  blk_ext [iblk, index_of t]

/-- The lambda vectors' block is their array. -/
theorem block_a (c : Dev nD) (t : Fin cfg0.N) (r : Fin 4) (d : Fin 64) :
    (iblk m c 3 t : FVec Ideal S4x64 .f32) (ix2 r d) = m ((c : Thread nD τ).loc main_arg3) (ix2 r d) := by
  blk_ext [iblk, V, index_of t]

/-- The gain's block is the gain, as a row. -/
theorem block_g (c : Dev nD) (t : Fin cfg0.N) (l : Fin 128) :
    (iblk m c 4 t : FVec Ideal S1x128 .f32) (ix2 0 l) = m ((c : Thread nD τ).loc main_arg4) (ix1 l) := by
  blk_simp [iblk, index_of t]
  entry_read
  pointwise
  blk_ext [index_of t]

/-- Equal rows give equal results. -/
theorem head_congr {n : ℕ} {a a' : Fin 4 → Fin 64 → EReal} {q q' : Fin 128 → EReal} {k k' : Fin n → Fin 128 → EReal} {v v' : Fin n → Fin 128 → EReal}
    {g g' : Fin 128 → EReal} (ha : ∀ r d, a r d = a' r d) (hq : ∀ d, q d = q' d) (hk : ∀ j d, k j d = k' j d) (hv : ∀ j l, v j l = v' j l)
    (hg : ∀ l, g l = g' l) (e : Fin 128) :
    normed (fun l => kernelOut scale (lambda a) q k (fun j => v j l)) g e = normed (fun l => kernelOut scale (lambda a') q' k' (fun j => v' j l)) g' e := by
  obtain rfl : a = a' := funext fun r => funext fun d => ha r d
  obtain rfl : q = q' := funext hq
  obtain rfl : k = k' := funext fun j => funext fun d => hk j d
  obtain rfl : v = v' := funext fun j => funext fun d => hv j d
  obtain rfl : g = g' := funext hg
  rfl

/-- The result array as a function of the launch memory. -/
abbrev resultOf (c : Dev nD) : FVec Ideal S16x4352x512 .f32 :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The array index of a block index, as batch, token and a head's lane. -/
theorem place (t : Fin cfg0.N) (y : S1x256x256.Idx) (b : Fin 16) (hb : b.val = t.val / 34) (x : Fin 4352) (hx : x.val = t.val % 17 * 256 + y 1)
    (h : Fin 4) (e : Fin 128) (he : h.val * 128 + e.val = t.val / 17 % 2 * 256 + y 2) :
    ((cfg0.win 5).blk t).view.emb y = (ix3 b x (chan h e) : S16x4352x512.Idx) := by
  have h2 : (chan h e).val = t.val / 17 % 2 * 256 + y 2 := he
  blk_ext [index_of t]

/-- What a context tile's point stores is the result array's block. -/
theorem point_A (c : Dev nD) (t : Fin cfg0.N) (h0 : t.val % 17 = 0) (h1 : ¬1 ≤ t.val % 17) (y : S1x256x256.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t) (iblk m c 4 t) y
      = resultOf m c (((cfg0.win 5).blk t).view.emb y) := by
  have hN : t.val / 34 < 16 := (index_of t).2.2.2.2.2.2
  frame_out
  canon_tiles x h
  · rw [place t y ⟨t.val / 34, hN⟩ rfl ⟨t.val % 17 * 256 + y 1, by omega⟩ rfl ⟨t.val / 17 % 2 * 2 + 1, by omega⟩ ⟨x 2, x2_lt⟩ (by show (t.val / 17 % 2 * 2 + 1) * 128 + (x 2).val = _; omega)]
    unfold resultOf
    rw [result_at, tokenOut, if_pos (by show t.val % 17 * 256 + (y 1).val < 256; omega), headOut]
    idx_vars x
    obtain rfl : x0 = 0 := Subsingleton.elim _ _
    refine (head1_A _ _ _ _ _ x1 x2).trans (head_congr ?_ ?_ ?_ ?_ ?_ _)
    · intro r d
      exact block_a m c t r d
    · intro d
      pointwise
      exact block_q m c t _ rfl _ ⟨128 + d.val, by omega⟩ _ (congrArg (t.val % 17 * 256 + ·) (show (y 1).val = x1.val from h1)) _ (by show (t.val / 17 % 2 * 2 + 1) * 128 + d.val = t.val / 17 % 2 * 256 + (128 + d.val); omega)
    · intro j d
      pointwise
      exact block_k m c t _ rfl ⟨j.val, by omega⟩ ⟨128 + d.val, by omega⟩ _ (by show (t.val / 17 % 2 * 2 + 1) * 128 + d.val = t.val / 17 % 2 * 256 + (128 + d.val); omega)
    · intro j d
      pointwise
      exact block_v m c t _ rfl ⟨j.val, by omega⟩ ⟨128 + d.val, by omega⟩ _ (by show (t.val / 17 % 2 * 2 + 1) * 128 + d.val = t.val / 17 % 2 * 256 + (128 + d.val); omega)
    · intro l
      exact block_g m c t l
  · rw [place t y ⟨t.val / 34, hN⟩ rfl ⟨t.val % 17 * 256 + y 1, by omega⟩ rfl ⟨t.val / 17 % 2 * 2 + 0, by omega⟩ ⟨x 2, x2_lt⟩ (by show (t.val / 17 % 2 * 2 + 0) * 128 + (x 2).val = _; omega)]
    unfold resultOf
    rw [result_at, tokenOut, if_pos (by show t.val % 17 * 256 + (y 1).val < 256; omega), headOut]
    idx_vars x
    obtain rfl : x0 = 0 := Subsingleton.elim _ _
    refine (head0_A _ _ _ _ _ x1 x2).trans (head_congr ?_ ?_ ?_ ?_ ?_ _)
    · intro r d
      exact block_a m c t r d
    · intro d
      pointwise
      exact block_q m c t _ rfl _ ⟨d.val, by omega⟩ _ (congrArg (t.val % 17 * 256 + ·) (show (y 1).val = x1.val from h1)) _ (by show (t.val / 17 % 2 * 2 + 0) * 128 + d.val = t.val / 17 % 2 * 256 + (d.val); omega)
    · intro j d
      pointwise
      exact block_k m c t _ rfl ⟨j.val, by omega⟩ ⟨d.val, by omega⟩ _ (by show (t.val / 17 % 2 * 2 + 0) * 128 + d.val = t.val / 17 % 2 * 256 + (d.val); omega)
    · intro j d
      pointwise
      exact block_v m c t _ rfl ⟨j.val, by omega⟩ ⟨d.val, by omega⟩ _ (by show (t.val / 17 % 2 * 2 + 0) * 128 + d.val = t.val / 17 % 2 * 256 + (d.val); omega)
    · intro l
      exact block_g m c t l

/-- What a latent tile's point stores is the result array's block. -/
theorem point_B (c : Dev nD) (t : Fin cfg0.N) (h0 : ¬t.val % 17 = 0) (h1 : 1 ≤ t.val % 17) (y : S1x256x256.Idx) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (iblk m c 4 t) y
      = resultOf m c (((cfg0.win 5).blk t).view.emb y) := by
  have hN : t.val / 34 < 16 := (index_of t).2.2.2.2.2.2
  frame_out
  canon_tiles x h
  · rw [place t y ⟨t.val / 34, hN⟩ rfl ⟨t.val % 17 * 256 + y 1, by omega⟩ rfl ⟨t.val / 17 % 2 * 2 + 1, by omega⟩ ⟨x 2, x2_lt⟩ (by show (t.val / 17 % 2 * 2 + 1) * 128 + (x 2).val = _; omega)]
    unfold resultOf
    rw [result_at, tokenOut, if_neg (by show ¬ t.val % 17 * 256 + (y 1).val < 256; omega), headOut]
    idx_vars x
    obtain rfl : x0 = 0 := Subsingleton.elim _ _
    refine (head1_B _ _ _ _ _ x1 x2).trans (head_congr ?_ ?_ ?_ ?_ ?_ _)
    · intro r d
      exact block_a m c t r d
    · intro d
      pointwise
      exact block_q m c t _ rfl _ ⟨128 + d.val, by omega⟩ _ (congrArg (t.val % 17 * 256 + ·) (show (y 1).val = x1.val from h1)) _ (by show (t.val / 17 % 2 * 2 + 1) * 128 + d.val = t.val / 17 % 2 * 256 + (128 + d.val); omega)
    · intro j d
      pointwise
      exact block_k m c t _ rfl ⟨j.val, by omega⟩ ⟨128 + d.val, by omega⟩ _ (by show (t.val / 17 % 2 * 2 + 1) * 128 + d.val = t.val / 17 % 2 * 256 + (128 + d.val); omega)
    · intro j d
      pointwise
      exact block_v m c t _ rfl ⟨j.val, by omega⟩ ⟨128 + d.val, by omega⟩ _ (by show (t.val / 17 % 2 * 2 + 1) * 128 + d.val = t.val / 17 % 2 * 256 + (128 + d.val); omega)
    · intro l
      exact block_g m c t l
  · rw [place t y ⟨t.val / 34, hN⟩ rfl ⟨t.val % 17 * 256 + y 1, by omega⟩ rfl ⟨t.val / 17 % 2 * 2 + 0, by omega⟩ ⟨x 2, x2_lt⟩ (by show (t.val / 17 % 2 * 2 + 0) * 128 + (x 2).val = _; omega)]
    unfold resultOf
    rw [result_at, tokenOut, if_neg (by show ¬ t.val % 17 * 256 + (y 1).val < 256; omega), headOut]
    idx_vars x
    obtain rfl : x0 = 0 := Subsingleton.elim _ _
    refine (head0_B _ _ _ _ _ x1 x2).trans (head_congr ?_ ?_ ?_ ?_ ?_ _)
    · intro r d
      exact block_a m c t r d
    · intro d
      pointwise
      exact block_q m c t _ rfl _ ⟨d.val, by omega⟩ _ (congrArg (t.val % 17 * 256 + ·) (show (y 1).val = x1.val from h1)) _ (by show (t.val / 17 % 2 * 2 + 0) * 128 + d.val = t.val / 17 % 2 * 256 + (d.val); omega)
    · intro j d
      pointwise
      exact block_k m c t _ rfl ⟨j.val, by omega⟩ ⟨d.val, by omega⟩ _ (by show (t.val / 17 % 2 * 2 + 0) * 128 + d.val = t.val / 17 % 2 * 256 + (d.val); omega)
    · intro j d
      pointwise
      exact block_v m c t _ rfl ⟨j.val, by omega⟩ ⟨d.val, by omega⟩ _ (by show (t.val / 17 % 2 * 2 + 0) * 128 + d.val = t.val / 17 % 2 * 256 + (d.val); omega)
    · intro l
      exact block_g m c t l

/-- After the run the kernel's result array is `resultOf` of the launch memory. -/
theorem final (c : Dev nD) : (dats m 0 c).arrAt 5 (cfgs 0).N = resultOf m c := by
  refine (dats m 0 c).arrAt_eq_of_covers 5 _ (by decide +kernel) fun t hf y => ?_
  blk_simp
  rw [after0_5]
  by_cases h : t.val % 17 = 0
  · rw [outsAt0_A m c t h (by omega)]
    exact point_A m c t h (by omega) y
  · rw [outsAt0_B m c t h (by omega)]
    exact point_B m c t h (by omega) y

end Cert.KernelIdeal.Attn

end
-- ==== Proof.AttnRef.lean ====
/- The attention reference's result at an index: the normed reference attention of the specification, context tokens over
   the context's keys and latent tokens over all keys. -/
module

public import proofs.«01_k».proof.Proof.Gen.ReferenceIdeal.Read
public import proofs.«01_k».proof.Proof.AttnArray

@[expose] public section

set_option maxRecDepth 16384

noncomputable section

namespace Cert.ReferenceIdeal.Attn

open Cert.ReferenceIdeal Cert.ReferenceIdeal.Gen Cert.ReferenceIdeal.Read Cert.Attn Idealize.ShloMosaic
open Cert.KernelIdeal.Attn (chan headOut tokenOut seed)

/-- The reference's scale, the literal one eighth. -/
theorem eighth : Ideal.ofBits .f32 0x3E000000#32 = ((8⁻¹ : ℝ) : EReal) := by
  simp [Ideal.ofBits, Ideal.ieee, -EReal.coe_mul]
  norm_num

variable (q k v : FVec Ideal S16x4352x512 .f32) (a : FVec Ideal S4x64 .f32) (g : FVec Ideal S128 .f32)

/-- Half `p` of a head's 128 lanes. -/
def half (p : Fin 2) (d : Fin 64) : Fin 128 := ⟨p.val * 64 + d.val, by omega⟩

/-- The reference's lambda. -/
theorem lambda_at : val_main_v15 (F := Ideal) a ix0 = lambda (fun r d => a (ix2 r d)) := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  rfl

/-- The first half's lanes. -/
theorem half_zero (d : Fin 64) : half 0 d = lo d := Fin.ext (by simp [half, lo])

/-- The second half's lanes. -/
theorem half_one (d : Fin 64) : half 1 d = hi d := Fin.ext (by simp [half, hi])

/-- The scores of the context tokens. -/
theorem score_A (b : Fin 16) (h : Fin 4) (p : Fin 2) (x : Fin 256) (j : Fin 256) :
    val_main_v24 (F := Ideal) q k (ix5 b h p x j)
      = refScore ((8⁻¹ : ℝ) : EReal) (fun d => q (ix3 b ⟨x.val, by omega⟩ (chan h (half p d))))
          (fun (j : Fin 256) d => k (ix3 b ⟨j.val, by omega⟩ (chan h (half p d)))) j := by
  pointwise [val_main_v24, val_main_v23, val_main_v22, val_main_v20, val_main_v19, val_main_v17, val_main_v16, val_main_cst_2, eighth, refScore]
  refine congrArg (· * _) (Finset.sum_congr rfl fun d _ => ?_)
  refine congrArg₂ (· * ·) (congrArg q ?_) (congrArg k ?_)
  all_goals
    exact congrArg (ix3 _ _) (Fin.ext (Nat.add_assoc _ _ _))

/-- The maximum of a row of the context tokens' scores. -/
theorem maxrow_A (s : FVec Ideal S16x4x2x256x256 .f32) (c : FVec Ideal S_ .f32) (b : Fin 16) (h : Fin 4) (p : Fin 2) (x : Fin 256) :
    Host.reduce FloatOps.maximumf s c reducesTo_S16x4x2x256x256_S16x4x2x256_d4 h_S_ (ix4 b h p x)
      = Finset.univ.fold (max : EReal → EReal → EReal) (c ix0) (fun j => s (ix5 b h p x j)) := by
  pointwise
  exact congrArg (fun z => Finset.univ.fold max (c z) _) (funext fun a => Fin.elim0 a)

/-- The number subtracted from a row's scores. -/
theorem top_A (b : Fin 16) (h : Fin 4) (p : Fin 2) (x : Fin 256) :
    val_main_v27 (F := Ideal) q k (ix4 b h p x)
      = max ⊥ (Finset.univ.fold max ⊥ (fun j => val_main_v24 (F := Ideal) q k (ix5 b h p x j))) := by
  have e : val_main_v25 (F := Ideal) q k (ix4 b h p x) = Finset.univ.fold max ⊥ (fun j => val_main_v24 (F := Ideal) q k (ix5 b h p x j)) := by
    unfold val_main_v25
    exact (maxrow_A _ _ b h p x).trans (congrArg (fun z => Finset.univ.fold max z _) seed)
  rw [val_main_v27_apply, e, val_main_v26_apply, val_main_cst_4_apply]
  exact congrArg (fun z => max z _) seed

/-- The exponential of a score less its row's number. -/
theorem exp_A (b : Fin 16) (h : Fin 4) (p : Fin 2) (x : Fin 256) (j : Fin 256) :
    val_main_v31 (F := Ideal) q k (ix5 b h p x j) = Ideal.exp (val_main_v24 (F := Ideal) q k (ix5 b h p x j)
      - max ⊥ (Finset.univ.fold max ⊥ (fun j => val_main_v24 (F := Ideal) q k (ix5 b h p x j)))) := by
  rw [← top_A, val_main_v31_apply, val_main_v30_apply]
  have e : val_main_v29 (F := Ideal) q k (ix5 b h p x j) = val_main_v27 (F := Ideal) q k (ix4 b h p x) := by
    pointwise [val_main_v29, val_main_v28]
  rw [e]
  rfl

/-- The softmax of the context tokens' scores. -/
theorem softmax_A (b : Fin 16) (h : Fin 4) (p : Fin 2) (x : Fin 256) (j : Fin 256) :
    val_main_v35 (F := Ideal) q k (ix5 b h p x j) = softmaxRow (fun j => val_main_v24 (F := Ideal) q k (ix5 b h p x j)) j := by
  have e : val_main_v34 (F := Ideal) q k (ix5 b h p x j) = ∑ j, val_main_v31 (F := Ideal) q k (ix5 b h p x j) := by
    pointwise [val_main_v34, val_main_v33, val_main_v32, val_main_cst_5]
  rw [val_main_v35_apply, e, softmaxRow]
  simp only [exp_A]
  rfl

/-- The weights of a head's first half. -/
theorem weight_A0 (b : Fin 16) (h : Fin 4) (x : Fin 256) (j : Fin 256) :
    val_main_v35 (F := Ideal) q k (ix5 b h 0 x j)
      = softmaxRow (refScore ((8⁻¹ : ℝ) : EReal) (fun d => q (ix3 b ⟨x.val, by omega⟩ (chan h (lo d))))
          (fun (j : Fin 256) d => k (ix3 b ⟨j.val, by omega⟩ (chan h (lo d))))) j := by
  rw [softmax_A]
  refine congrArg (softmaxRow · j) (funext fun j => ?_)
  rw [score_A]
  simp only [half_zero]

/-- The weights of a head's second half. -/
theorem weight_A1 (b : Fin 16) (h : Fin 4) (x : Fin 256) (j : Fin 256) :
    val_main_v35 (F := Ideal) q k (ix5 b h 1 x j)
      = softmaxRow (refScore ((8⁻¹ : ℝ) : EReal) (fun d => q (ix3 b ⟨x.val, by omega⟩ (chan h (hi d))))
          (fun (j : Fin 256) d => k (ix3 b ⟨j.val, by omega⟩ (chan h (hi d))))) j := by
  rw [softmax_A]
  refine congrArg (softmaxRow · j) (funext fun j => ?_)
  rw [score_A]
  simp only [half_one]

/-- Lambda at every place. -/
theorem spread_A (b : Fin 16) (h : Fin 4) (x : Fin 256) (j : Fin 256) :
    val_main_v40 (F := Ideal) a (ix4 b h x j) = lambda (fun r d => a (ix2 r d)) := by
  rw [val_main_v40_apply, ← lambda_at]
  exact congrArg (val_main_v15 (F := Ideal) a) (funext fun x => Fin.elim0 x)

/-- The difference of the two halves' weights. -/
theorem diff_A (b : Fin 16) (h : Fin 4) (x : Fin 256) (j : Fin 256) :
    val_main_v42 (F := Ideal) q k a (ix4 b h x j) = val_main_v35 (F := Ideal) q k (ix5 b h 0 x j)
      - lambda (fun r d => a (ix2 r d)) * val_main_v35 (F := Ideal) q k (ix5 b h 1 x j) := by
  have e0 : val_main_v37 (F := Ideal) q k (ix4 b h x j) = val_main_v35 (F := Ideal) q k (ix5 b h 0 x j) := by
    pointwise [val_main_v37, val_main_v36]
  have e1 : val_main_v39 (F := Ideal) q k (ix4 b h x j) = val_main_v35 (F := Ideal) q k (ix5 b h 1 x j) := by
    pointwise [val_main_v39, val_main_v38]
  rw [val_main_v42_apply, val_main_v41_apply, spread_A, e0, e1]
  rfl

/-- The attention of the context tokens. -/
theorem out_A (b : Fin 16) (h : Fin 4) (x : Fin 256) (l : Fin 128) :
    val_main_v44 (F := Ideal) q k v a (ix4 b x h l)
      = refOut ((8⁻¹ : ℝ) : EReal) (lambda fun r d => a (ix2 r d)) (fun d => q (ix3 b ⟨x.val, by omega⟩ (chan h d)))
          (fun (j : Fin 256) d => k (ix3 b ⟨j.val, by omega⟩ (chan h d))) (fun j => v (ix3 b ⟨j.val, by omega⟩ (chan h l))) := by
  pointwise [val_main_v44, val_main_v43, val_main_v21, val_main_v18]
  simp only [diff_A]
  rw [refOut]
  simp only [weight_A0, weight_A1]
  rfl

/-- The scores of the latent tokens. -/
theorem score_B (b : Fin 16) (h : Fin 4) (p : Fin 2) (x : Fin 4096) (j : Fin 4352) :
    val_main_v48 (F := Ideal) q k (ix5 b h p x j)
      = refScore ((8⁻¹ : ℝ) : EReal) (fun d => q (ix3 b ⟨256 + x.val, by omega⟩ (chan h (half p d))))
          (fun (j : Fin 4352) d => k (ix3 b ⟨j.val, by omega⟩ (chan h (half p d)))) j := by
  pointwise [val_main_v48, val_main_v47, val_main_v46, val_main_v45, val_main_v17, val_main_v16, val_main_cst_6, eighth, refScore]
  refine congrArg (· * _) (Finset.sum_congr rfl fun d _ => ?_)
  refine congrArg₂ (· * ·) (congrArg q ?_) (congrArg k ?_)
  all_goals
    exact congrArg (ix3 _ _) (Fin.ext (Nat.add_assoc _ _ _))

/-- The maximum of a row of the latent tokens' scores. -/
theorem maxrow_B (s : FVec Ideal S16x4x2x4096x4352 .f32) (c : FVec Ideal S_ .f32) (b : Fin 16) (h : Fin 4) (p : Fin 2) (x : Fin 4096) :
    Host.reduce FloatOps.maximumf s c reducesTo_S16x4x2x4096x4352_S16x4x2x4096_d4 h_S_ (ix4 b h p x)
      = Finset.univ.fold (max : EReal → EReal → EReal) (c ix0) (fun j => s (ix5 b h p x j)) := by
  pointwise
  exact congrArg (fun z => Finset.univ.fold max (c z) _) (funext fun a => Fin.elim0 a)

/-- The number subtracted from a row's scores. -/
theorem top_B (b : Fin 16) (h : Fin 4) (p : Fin 2) (x : Fin 4096) :
    val_main_v51 (F := Ideal) q k (ix4 b h p x)
      = max ⊥ (Finset.univ.fold max ⊥ (fun j => val_main_v48 (F := Ideal) q k (ix5 b h p x j))) := by
  have e : val_main_v49 (F := Ideal) q k (ix4 b h p x) = Finset.univ.fold max ⊥ (fun j => val_main_v48 (F := Ideal) q k (ix5 b h p x j)) := by
    unfold val_main_v49
    exact (maxrow_B _ _ b h p x).trans (congrArg (fun z => Finset.univ.fold max z _) seed)
  rw [val_main_v51_apply, e, val_main_v50_apply, val_main_cst_8_apply]
  exact congrArg (fun z => max z _) seed

/-- The exponential of a score less its row's number. -/
theorem exp_B (b : Fin 16) (h : Fin 4) (p : Fin 2) (x : Fin 4096) (j : Fin 4352) :
    val_main_v55 (F := Ideal) q k (ix5 b h p x j) = Ideal.exp (val_main_v48 (F := Ideal) q k (ix5 b h p x j)
      - max ⊥ (Finset.univ.fold max ⊥ (fun j => val_main_v48 (F := Ideal) q k (ix5 b h p x j)))) := by
  rw [← top_B, val_main_v55_apply, val_main_v54_apply]
  have e : val_main_v53 (F := Ideal) q k (ix5 b h p x j) = val_main_v51 (F := Ideal) q k (ix4 b h p x) := by
    pointwise [val_main_v53, val_main_v52]
  rw [e]
  rfl

/-- The softmax of the latent tokens' scores. -/
theorem softmax_B (b : Fin 16) (h : Fin 4) (p : Fin 2) (x : Fin 4096) (j : Fin 4352) :
    val_main_v59 (F := Ideal) q k (ix5 b h p x j) = softmaxRow (fun j => val_main_v48 (F := Ideal) q k (ix5 b h p x j)) j := by
  have e : val_main_v58 (F := Ideal) q k (ix5 b h p x j) = ∑ j, val_main_v55 (F := Ideal) q k (ix5 b h p x j) := by
    pointwise [val_main_v58, val_main_v57, val_main_v56, val_main_cst_9]
  rw [val_main_v59_apply, e, softmaxRow]
  simp only [exp_B]
  rfl

/-- The weights of a head's first half. -/
theorem weight_B0 (b : Fin 16) (h : Fin 4) (x : Fin 4096) (j : Fin 4352) :
    val_main_v59 (F := Ideal) q k (ix5 b h 0 x j)
      = softmaxRow (refScore ((8⁻¹ : ℝ) : EReal) (fun d => q (ix3 b ⟨256 + x.val, by omega⟩ (chan h (lo d))))
          (fun (j : Fin 4352) d => k (ix3 b ⟨j.val, by omega⟩ (chan h (lo d))))) j := by
  rw [softmax_B]
  refine congrArg (softmaxRow · j) (funext fun j => ?_)
  rw [score_B]
  simp only [half_zero]

/-- The weights of a head's second half. -/
theorem weight_B1 (b : Fin 16) (h : Fin 4) (x : Fin 4096) (j : Fin 4352) :
    val_main_v59 (F := Ideal) q k (ix5 b h 1 x j)
      = softmaxRow (refScore ((8⁻¹ : ℝ) : EReal) (fun d => q (ix3 b ⟨256 + x.val, by omega⟩ (chan h (hi d))))
          (fun (j : Fin 4352) d => k (ix3 b ⟨j.val, by omega⟩ (chan h (hi d))))) j := by
  rw [softmax_B]
  refine congrArg (softmaxRow · j) (funext fun j => ?_)
  rw [score_B]
  simp only [half_one]

/-- Lambda at every place. -/
theorem spread_B (b : Fin 16) (h : Fin 4) (x : Fin 4096) (j : Fin 4352) :
    val_main_v64 (F := Ideal) a (ix4 b h x j) = lambda (fun r d => a (ix2 r d)) := by
  rw [val_main_v64_apply, ← lambda_at]
  exact congrArg (val_main_v15 (F := Ideal) a) (funext fun x => Fin.elim0 x)

/-- The difference of the two halves' weights. -/
theorem diff_B (b : Fin 16) (h : Fin 4) (x : Fin 4096) (j : Fin 4352) :
    val_main_v66 (F := Ideal) q k a (ix4 b h x j) = val_main_v59 (F := Ideal) q k (ix5 b h 0 x j)
      - lambda (fun r d => a (ix2 r d)) * val_main_v59 (F := Ideal) q k (ix5 b h 1 x j) := by
  have e0 : val_main_v61 (F := Ideal) q k (ix4 b h x j) = val_main_v59 (F := Ideal) q k (ix5 b h 0 x j) := by
    pointwise [val_main_v61, val_main_v60]
  have e1 : val_main_v63 (F := Ideal) q k (ix4 b h x j) = val_main_v59 (F := Ideal) q k (ix5 b h 1 x j) := by
    pointwise [val_main_v63, val_main_v62]
  rw [val_main_v66_apply, val_main_v65_apply, spread_B, e0, e1]
  rfl

/-- The attention of the latent tokens. -/
theorem out_B (b : Fin 16) (h : Fin 4) (x : Fin 4096) (l : Fin 128) :
    val_main_v68 (F := Ideal) q k v a (ix4 b x h l)
      = refOut ((8⁻¹ : ℝ) : EReal) (lambda fun r d => a (ix2 r d)) (fun d => q (ix3 b ⟨256 + x.val, by omega⟩ (chan h d)))
          (fun (j : Fin 4352) d => k (ix3 b ⟨j.val, by omega⟩ (chan h d))) (fun j => v (ix3 b ⟨j.val, by omega⟩ (chan h l))) := by
  pointwise [val_main_v68, val_main_v67, val_main_v18]
  simp only [diff_B]
  rw [refOut]
  simp only [weight_B0, weight_B1]
  rfl

/-- The attention of every token, before the norm. -/
theorem joined (b : Fin 16) (h : Fin 4) (x : Fin 4352) (l : Fin 128) : val_main_v69 (F := Ideal) q k v a (ix4 b x h l)
    = if hx : x.val < 256 then val_main_v44 (F := Ideal) q k v a (ix4 b ⟨x.val, hx⟩ h l)
      else val_main_v68 (F := Ideal) q k v a (ix4 b ⟨x.val - 256, by omega⟩ h l) := by
  pointwise [val_main_v69]

/-- The reference's result at a head's lane. -/
theorem result_at (b : Fin 16) (h : Fin 4) (x : Fin 4352) (e : Fin 128) :
    val_main_v85 (F := Ideal) q k v a g (ix3 b x (chan h e)) = tokenOut (refOut ((8⁻¹ : ℝ) : EReal)) q k v a g b x h e := by
  pointwise [val_main_v85, val_main_v84, val_main_v83, val_main_v82, val_main_v81, val_main_v80, val_main_v79, val_main_v78, val_main_v77, val_main_v76, val_main_v75,
    val_main_v74, val_main_v73, val_main_v72, val_main_v71, val_main_v70, val_main_cst_10, val_main_cst_11, val_main_cst_12, val_main_cst_13]
  have hh : (⟨(chan h e).val / 128, by have := (chan h e).isLt; omega⟩ : Fin 4) = h :=
    Fin.ext (by show (h.val * 128 + e.val) / 128 = h.val; omega)
  have he : (⟨(chan h e).val % 128, Nat.mod_lt _ (by norm_num)⟩ : Fin 128) = e :=
    Fin.ext (by show (h.val * 128 + e.val) % 128 = e.val; omega)
  rw [hh, he]
  simp only [joined]
  unfold tokenOut
  by_cases hx : x.val < 256
  · simp only [dif_pos hx, if_pos hx, out_A]
    rfl
  · have hs : (⟨256 + (x.val - 256), by omega⟩ : Fin 4352) = x := Fin.ext (by show 256 + (x.val - 256) = x.val; omega)
    simp only [dif_neg hx, if_neg hx, out_B, hs]
    rfl

end Cert.ReferenceIdeal.Attn

end
-- ==== Proof.AttnClaim.lean ====
/- The attention claim: on finite queries, keys, values and lambda vectors the kernel's result array is the reference's.
   The precondition read back gives real numbers; then the two ways to write one token's attention agree. -/
module

public import proofs.«01_k».proof.Defs
public import proofs.«01_k».proof.Proof.Gen.ReferenceIdeal.Run
public import proofs.«01_k».proof.Proof.Gen.Pre_finite
public import proofs.«01_k».proof.Proof.AttnRef
public import Idealize.ShloMosaic.Lib.ReduceAll

@[expose] public section

set_option maxRecDepth 16384

noncomputable section

namespace Cert.AttnClaim

open Cert.Attn Cert.KernelIdeal.Attn Idealize.ShloMosaic Idealize.SL.Sem

instance : Subsingleton Cert.Pre_finite.S_.Idx := ⟨fun i j => funext fun a => Fin.elim0 a⟩

/-- The literal that the precondition compares with is infinity. -/
theorem infinity : Ideal.ofBits .f32 0x7F800000#32 = ⊤ := by
  simp [Ideal.ofBits, Ideal.ieee]

/-- A number whose absolute value is below infinity is neither infinity. -/
theorem real_of_test {x : EReal} (h : Ideal.cmp .olt (max x (-x)) (Ideal.ofBits .f32 0x7F800000#32) = 1#1) : x ≠ ⊥ ∧ x ≠ ⊤ := by
  rw [infinity] at h
  constructor
  · rintro rfl
    simp [Ideal.cmp] at h
  · rintro rfl
    simp [Ideal.cmp] at h

/-- What the precondition says of the arrays: every entry of the four is a real number. -/
theorem real_of_pre {q k v : FVec Ideal Cert.Pre_finite.S16x4352x512 .f32} {a : FVec Ideal Cert.Pre_finite.S4x64 .f32} {g : FVec Ideal Cert.Pre_finite.S128 .f32}
    (h : Cert.Pre_finite.fn (F := Ideal) q k v a g = fun _ => 1#1) :
    (∀ i, q i ≠ ⊥ ∧ q i ≠ ⊤) ∧ (∀ i, k i ≠ ⊥ ∧ k i ≠ ⊤) ∧ (∀ i, v i ≠ ⊥ ∧ v i ≠ ⊤) ∧ (∀ i, a i ≠ ⊥ ∧ a i ≠ ⊤) := by
  have h0 := congrFun h ix0
  unfold Cert.Pre_finite.fn Cert.Pre_finite.fn_part1 at h0
  obtain ⟨h1, ha⟩ := IntOp.andi_eq_one.1 h0
  obtain ⟨h2, hv⟩ := IntOp.andi_eq_one.1 h1
  obtain ⟨hq, hk⟩ := IntOp.andi_eq_one.1 h2
  exact ⟨fun i => real_of_test (Host.reduce_andi_all _ _ _ _ _ hq i), fun i => real_of_test (Host.reduce_andi_all _ _ _ _ _ hk i),
    fun i => real_of_test (Host.reduce_andi_all _ _ _ _ _ hv i), fun i => real_of_test (Host.reduce_andi_all _ _ _ _ _ ha i)⟩

/-- Lambda of real vectors is real. -/
theorem lambda_real {a : Fin 4 → Fin 64 → EReal} (h : ∀ r d, a r d ≠ ⊥ ∧ a r d ≠ ⊤) : lambda a ≠ ⊥ ∧ lambda a ≠ ⊤ := by
  have e : ∀ r d, a r d = (((a r d).toReal : ℝ) : EReal) := fun r d => (EReal.coe_toReal (h r d).2 (h r d).1).symm
  have s : ∀ r r', (∑ d, a r d * a r' d) = ((∑ d, (a r d).toReal * (a r' d).toReal : ℝ) : EReal) := fun r r' => by
    rw [← sum_coe]
    exact Finset.sum_congr rfl fun d _ => by rw [e r d, e r' d]; simp [EReal.coe_mul]
  obtain ⟨l, hl⟩ : ∃ l : ℝ, Ideal.ofBits .f32 0x3E4CCCCD#32 = (l : EReal) := ⟨_, by simp [Ideal.ofBits, Ideal.ieee, -EReal.coe_mul]; rfl⟩
  unfold lambda
  rw [s, s, hl]
  simp only [Ideal.exp_coe, ← EReal.coe_sub, ← EReal.coe_add]
  exact ⟨EReal.coe_ne_bot _, EReal.coe_ne_top _⟩

/-- One token's result, written the kernel's way and the reference's way. -/
theorem token_eq (q k v : FVec Ideal ⟨3, ![16, 4352, 512]⟩ .f32) (a : FVec Ideal ⟨2, ![4, 64]⟩ .f32) (g : FVec Ideal ⟨1, ![128]⟩ .f32)
    (hq : ∀ i, q i ≠ ⊥ ∧ q i ≠ ⊤) (hk : ∀ i, k i ≠ ⊥ ∧ k i ≠ ⊤) (hv : ∀ i, v i ≠ ⊥ ∧ v i ≠ ⊤) (ha : ∀ i, a i ≠ ⊥ ∧ a i ≠ ⊤)
    (b : Fin 16) (x : Fin 4352) (h : Fin 4) (e : Fin 128) :
    tokenOut (kernelOut scale) q k v a g b x h e = tokenOut (refOut ((8⁻¹ : ℝ) : EReal)) q k v a g b x h e := by
  have hl := lambda_real (a := fun r d => a (ix2 r d)) fun r d => ha _
  have key : ∀ (n : ℕ) [NeZero n] (hn : n ≤ 4352), headOut (kernelOut scale) n hn q k v a g b x h e
      = headOut (refOut ((8⁻¹ : ℝ) : EReal)) n hn q k v a g b x h e := fun n _ hn => by
    unfold headOut
    refine congrArg (normed · _ _) (funext fun l => ?_)
    exact kernelOut_eq_of_real _ _ _ hl (fun d => hq _) (fun j d => hk _) (fun j => hv _)
  unfold tokenOut
  rw [key 256, key 4352]

/-- The kernel's result array is the reference's. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨hq, hk, hv, ha⟩ := real_of_pre (hpre c)
  obtain ⟨e0, e1, e2, e3, e4⟩ := hagree c
  rw [Cert.ReferenceIdeal.Read.val_main_v85_eq, e0, e1, e2, e3, e4]
  refine Eq.trans ?_ (final m c).symm
  funext i
  obtain ⟨b, x, n, rfl⟩ : ∃ (b : Fin 16) (x : Fin 4352) (n : Fin 512), i = ix3 b x n :=
    ⟨i 0, i 1, i 2, funext fun a => by fin_cases a <;> rfl⟩
  obtain ⟨h, e, rfl⟩ : ∃ h e, n = chan h e := ⟨⟨n.val / 128, by omega⟩, ⟨n.val % 128, Nat.mod_lt _ (by norm_num)⟩, Fin.ext (by
    show n.val = n.val / 128 * 128 + n.val % 128
    omega)⟩
  unfold resultOf
  exact (Cert.ReferenceIdeal.Attn.result_at _ _ _ _ _ b h x e).trans
    ((token_eq _ _ _ _ _ hq hk hv ha b x h e).symm.trans (Cert.KernelIdeal.Attn.result_at _ _ _ _ _ b x h e).symm)

end Cert.AttnClaim

end
-- ==== Proof.PostSpec.lean ====
/- The mathematics of one token of the layer's closing stage, on the extended reals: the two recurrent branches' heads are
   normalised and gated, the three branches are projected, gated and summed, the result goes through the output
   projection, a norm and the gated residual, and then through the squared-ReLU feed-forward with its own norm and gated
   residual. Nothing here mentions a program. -/
module

public import Idealize.ShloMosaic.Lib.Pointwise

@[expose] public section

noncomputable section

namespace Cert.Post

open Idealize.ShloMosaic

/-- What one token's result depends on: its own rows of the token arrays, its batch's modulation rows (2 to 5), the norms'
    gains and the weights. -/
structure Row where
  /-- The residual stream's row. -/
  x : Fin 1024 → EReal
  /-- The modulation rows: gate of the mixing stage, shift, scale and gate of the feed-forward stage. -/
  m2 : Fin 1024 → EReal
  m3 : Fin 1024 → EReal
  m4 : Fin 1024 → EReal
  m5 : Fin 1024 → EReal
  /-- The three norms' gains. -/
  g1 : Fin 1024 → EReal
  g2 : Fin 1024 → EReal
  g3 : Fin 1024 → EReal
  /-- The attention branch's row. -/
  ya : Fin 512 → EReal
  /-- The first recurrent branch: forward and backward states, output gate, gain per lane. -/
  hf : Fin 512 → EReal
  hb : Fin 512 → EReal
  o : Fin 512 → EReal
  mn : Fin 512 → EReal
  /-- The second recurrent branch: forward and backward states, gate, gain per lane of a head. -/
  gf : Fin 512 → EReal
  gb : Fin 512 → EReal
  z : Fin 512 → EReal
  gn : Fin 128 → EReal
  /-- The three branch gates. -/
  s0 : Fin 1024 → EReal
  s1 : Fin 1024 → EReal
  s2 : Fin 1024 → EReal
  /-- The branch projections, the output projection and the two feed-forward weights. -/
  wb : Fin 3 → Fin 512 → Fin 1024 → EReal
  wo : Fin 1024 → Fin 1024 → EReal
  w1 : Fin 1024 → Fin 4096 → EReal
  w2 : Fin 4096 → Fin 1024 → EReal

/-- The root-mean-square norm with a gain; `count` is the literal the sum of squares is divided by. -/
def rms {n : ℕ} (count : EReal) (o g : Fin n → EReal) (e : Fin n) : EReal :=
  o e * Ideal.rsqrt (Ideal.div (∑ l, o l * o l) count + Ideal.ofBits .f32 0x358637BD#32) * g e

/-- The sigmoid. -/
def sigm (x : EReal) : EReal := Ideal.div 1 (1 + Ideal.exp (-x))

/-- Lane `l` of the head that channel `c` belongs to. -/
def lane (c : Fin 512) (l : Fin 128) : Fin 512 := ⟨c.val / 128 * 128 + l.val, by omega⟩

/-- A channel's own lane in its head. -/
def own (c : Fin 512) : Fin 128 := ⟨c.val % 128, by omega⟩

/-- The norm over the 128 lanes of a channel's head. -/
def headRms (o : Fin 512 → EReal) (g : Fin 128 → EReal) (c : Fin 512) : EReal :=
  rms (Ideal.ofBits .f32 0x43000000#32) (fun l => o (lane c l)) g (own c)

/-- The first recurrent branch: the head norm times the sigmoid of the output gate. -/
def ym (R : Row) (c : Fin 512) : EReal :=
  headRms (fun c => R.hf c + R.hb c) (fun l => R.mn (lane c l)) c * sigm (R.o c)

/-- The second recurrent branch: the head norm times the gate's SiLU. -/
def yg (R : Row) (c : Fin 512) : EReal :=
  headRms (fun c => R.gf c + R.gb c) R.gn c * (R.z c * sigm (R.z c))

/-- The gated sum of the three projected branches. -/
def mixed (R : Row) (d : Fin 1024) : EReal :=
  R.s0 d * (∑ c, R.ya c * R.wb 0 c d) + R.s1 d * (∑ c, ym R c * R.wb 1 c d) + R.s2 d * (∑ c, yg R c * R.wb 2 c d)

/-- The output projection. -/
def projected (R : Row) (d : Fin 1024) : EReal := ∑ c, mixed R c * R.wo c d

/-- The residual stream after the mixing stage. -/
def stream (R : Row) (d : Fin 1024) : EReal :=
  R.x d + R.m2 d * rms (Ideal.ofBits .f32 0x44800000#32) (projected R) R.g1 d

/-- The feed-forward stage's input: normed, scaled and shifted. -/
def ffIn (R : Row) (d : Fin 1024) : EReal :=
  rms (Ideal.ofBits .f32 0x44800000#32) (stream R) R.g2 d * (1 + R.m4 d) + R.m3 d

/-- One hidden unit: the ReLU. -/
def hidden (R : Row) (j : Fin 4096) : EReal := max (∑ c, ffIn R c * R.w1 c j) 0

/-- The feed-forward stage's output: the squared hidden units, projected back. -/
def ffOut (R : Row) (d : Fin 1024) : EReal := ∑ j, hidden R j * hidden R j * R.w2 j d

/-- The token's result. -/
def post (R : Row) (d : Fin 1024) : EReal :=
  stream R d + R.m5 d * rms (Ideal.ofBits .f32 0x44800000#32) (ffOut R) R.g3 d

/-- A head's norm, at its lanes named from the head's first channel. -/
theorem headRms_at (o : Fin 512 → EReal) (g : Fin 128 → EReal) (k : ℕ) (u : Fin 128 → Fin 512) (hu : ∀ l, (u l).val = k * 128 + l.val) (e : Fin 128) :
    headRms o g (u e) = rms (Ideal.ofBits .f32 0x43000000#32) (fun l => o (u l)) g e := by
  have h1 : lane (u e) = u := funext fun l => Fin.ext (by show (u e).val / 128 * 128 + l.val = _; rw [hu, hu]; omega)
  have h2 : own (u e) = e := Fin.ext (by show (u e).val % 128 = _; rw [hu]; omega)
  unfold headRms
  rw [h1, h2]

/-- A channel's head's lanes, at the lanes named from the head's first channel. -/
theorem lane_at (k : ℕ) (u : Fin 128 → Fin 512) (hu : ∀ l, (u l).val = k * 128 + l.val) (e : Fin 128) : lane (u e) = u :=
  funext fun l => Fin.ext (by show (u e).val / 128 * 128 + l.val = _; rw [hu, hu]; omega)

/-- A sum over the 4096 hidden units, taken a quarter at a time. -/
theorem sum_quarters (f : Fin 4096 → EReal) :
    (∑ j, f j) = (∑ j : Fin 1024, f ⟨j.val, by omega⟩) + (∑ j : Fin 1024, f ⟨1024 + j.val, by omega⟩)
      + (∑ j : Fin 1024, f ⟨2048 + j.val, by omega⟩) + ∑ j : Fin 1024, f ⟨3072 + j.val, by omega⟩ := by
  rw [show (∑ j, f j) = ∑ j : Fin (1024 + 1024 + 1024 + 1024), f ⟨j.val, by omega⟩ from rfl,
    Fin.sum_univ_add, Fin.sum_univ_add, Fin.sum_univ_add]
  rfl

end Cert.Post

end
-- ==== Proof.PostBlock.lean ====
/- What the closing call's payloads compute at one row of a block: each head's piece of the two recurrent branches is the
   specification's, and so, stage by stage, is the stored block. -/
module

public import proofs.«01_k».proof.Proof.Gen.Kernel2Ideal.Skeleton
public import proofs.«01_k».proof.Proof.PostSpec

@[expose] public section

set_option maxRecDepth 16384

noncomputable section

namespace Cert.Kernel2Ideal.Post

open Cert.Kernel2Ideal Cert.Kernel2Ideal.Gen Cert.Post Idealize.ShloMosaic

/-- The first recurrent branch's four heads, side by side. -/
theorem ym_block (R : Row) (f b o : FVec Ideal S1x256x512 .f32) (g0 g1 g2 g3 : FVec Ideal S1x128 .f32) (r : Fin 256)
    (hf : ∀ c, f (ix3 0 r c) = R.hf c) (hb : ∀ c, b (ix3 0 r c) = R.hb c) (ho : ∀ c, o (ix3 0 r c) = R.o c)
    (h0 : ∀ l : Fin 128, g0 (ix2 0 l) = R.mn ⟨l.val, by omega⟩) (h1 : ∀ l : Fin 128, g1 (ix2 0 l) = R.mn ⟨128 + l.val, by omega⟩)
    (h2 : ∀ l : Fin 128, g2 (ix2 0 l) = R.mn ⟨256 + l.val, by omega⟩) (h3 : ∀ l : Fin 128, g3 (ix2 0 l) = R.mn ⟨384 + l.val, by omega⟩)
    (c : Fin 512) :
    k0_pay25 (F := Ideal) (k0_pay8 (k0_pay6 f b g0) (k0_pay7 o) (Scalar.ofBits .f32 0x3F800000#32)) (k0_pay9 (k0_pay2 f b) (k0_pay3 o) g1)
        (k0_pay12 (k0_pay10 (k0_pay2 f b) g2) (k0_pay11 (k0_pay3 o)) (Scalar.ofBits .f32 0x00000000#32))
        (k0_pay13 (k0_pay2 f b) (k0_pay3 o) g3) (ix2 r c) = ym R c := by
  have e0 : ∀ e : Fin 128, k0_pay8 (F := Ideal) (k0_pay6 f b g0) (k0_pay7 o) (Scalar.ofBits .f32 0x3F800000#32) (ix2 r e) = ym R ⟨e.val, by omega⟩ := fun e => by
    have hu := headRms_at (fun c => R.hf c + R.hb c) (fun l => R.mn ⟨l.val, by omega⟩) 0 (fun l => ⟨l.val, by omega⟩) (fun l => by simp) e
    have hl := lane_at 0 (fun l => ⟨l.val, by omega⟩) (fun l => by simp) e
    pointwise [k0_pay8, k0_pay6, k0_pay7, k0_pay2, k0_pay3]
    simp only [hf, hb, ho, h0, zero_sub]
    unfold ym
    rw [hl, hu]
    rfl
  have e1 : ∀ e : Fin 128, k0_pay9 (F := Ideal) (k0_pay2 f b) (k0_pay3 o) g1 (ix2 r e) = ym R ⟨128 + e.val, by omega⟩ := fun e => by
    have hu := headRms_at (fun c => R.hf c + R.hb c) (fun l => R.mn ⟨128 + l.val, by omega⟩) 1 (fun l => ⟨128 + l.val, by omega⟩) (fun l => by simp) e
    have hl := lane_at 1 (fun l => ⟨128 + l.val, by omega⟩) (fun l => by simp) e
    pointwise [k0_pay9, k0_pay2, k0_pay3]
    simp only [hf, hb, ho, h1, zero_sub]
    unfold ym
    rw [hl, hu]
    rfl
  have e2 : ∀ e : Fin 128, k0_pay12 (F := Ideal) (k0_pay10 (k0_pay2 f b) g2) (k0_pay11 (k0_pay3 o)) (Scalar.ofBits .f32 0x00000000#32) (ix2 r e) = ym R ⟨256 + e.val, by omega⟩ := fun e => by
    have hu := headRms_at (fun c => R.hf c + R.hb c) (fun l => R.mn ⟨256 + l.val, by omega⟩) 2 (fun l => ⟨256 + l.val, by omega⟩) (fun l => by simp) e
    have hl := lane_at 2 (fun l => ⟨256 + l.val, by omega⟩) (fun l => by simp) e
    pointwise [k0_pay12, k0_pay10, k0_pay11, k0_pay2, k0_pay3]
    simp only [hf, hb, ho, h2, zero_sub]
    unfold ym
    rw [hl, hu]
    rfl
  have e3 : ∀ e : Fin 128, k0_pay13 (F := Ideal) (k0_pay2 f b) (k0_pay3 o) g3 (ix2 r e) = ym R ⟨384 + e.val, by omega⟩ := fun e => by
    have hu := headRms_at (fun c => R.hf c + R.hb c) (fun l => R.mn ⟨384 + l.val, by omega⟩) 3 (fun l => ⟨384 + l.val, by omega⟩) (fun l => by simp) e
    have hl := lane_at 3 (fun l => ⟨384 + l.val, by omega⟩) (fun l => by simp) e
    pointwise [k0_pay13, k0_pay2, k0_pay3]
    simp only [hf, hb, ho, h3, zero_sub]
    unfold ym
    rw [hl, hu]
    rfl
  generalize k0_pay8 (F := Ideal) _ _ _ = p0 at e0 ⊢
  generalize k0_pay9 (F := Ideal) _ _ _ = p1 at e1 ⊢
  generalize k0_pay12 (F := Ideal) _ _ _ = p2 at e2 ⊢
  generalize k0_pay13 (F := Ideal) _ _ _ = p3 at e3 ⊢
  pointwise [k0_pay25]
  by_cases b0 : c.val < 128
  · rw [dif_pos b0]
    exact e0 _
  by_cases b1 : c.val - 128 < 128
  · rw [dif_neg b0, dif_pos b1]
    exact (e1 _).trans (congrArg (ym R) (Fin.ext (by show 128 + (c.val - 128) = c.val; omega)))
  by_cases b2 : c.val - 128 - 128 < 128
  · rw [dif_neg b0, dif_neg b1, dif_pos b2]
    exact (e2 _).trans (congrArg (ym R) (Fin.ext (by show 256 + (c.val - 128 - 128) = c.val; omega)))
  · rw [dif_neg b0, dif_neg b1, dif_neg b2]
    exact (e3 _).trans (congrArg (ym R) (Fin.ext (by show 384 + (c.val - 128 - 128 - 128) = c.val; omega)))

/-- The second recurrent branch's four heads, side by side. -/
theorem yg_block (R : Row) (f b z : FVec Ideal S1x256x512 .f32) (g0 g1 g2 g3 : FVec Ideal S1x128 .f32) (r : Fin 256)
    (hf : ∀ c, f (ix3 0 r c) = R.gf c) (hb : ∀ c, b (ix3 0 r c) = R.gb c) (hz : ∀ c, z (ix3 0 r c) = R.z c)
    (h0 : ∀ l, g0 (ix2 0 l) = R.gn l) (h1 : ∀ l, g1 (ix2 0 l) = R.gn l) (h2 : ∀ l, g2 (ix2 0 l) = R.gn l) (h3 : ∀ l, g3 (ix2 0 l) = R.gn l)
    (c : Fin 512) :
    k0_pay26 (F := Ideal) (k0_pay4 f b) (k0_pay5 z)
        (k0_pay18 (k0_pay14 (k0_pay5 z)) (k0_pay15 (k0_pay4 f b)) (k0_pay16 g0) (k0_pay17 (k0_pay4 f b)))
        (k0_pay19 (k0_pay4 f b) (k0_pay5 z) g1)
        (k0_pay20 (k0_pay5 z)) (k0_pay21 (k0_pay4 f b)) (k0_pay22 g2) (k0_pay23 (k0_pay4 f b)) k0_pay24 g3 (ix2 r c) = yg R c := by
  have e0 : ∀ e : Fin 128, k0_pay18 (F := Ideal) (k0_pay14 (k0_pay5 z)) (k0_pay15 (k0_pay4 f b)) (k0_pay16 g0) (k0_pay17 (k0_pay4 f b)) (ix2 r e) = yg R ⟨e.val, by omega⟩ := fun e => by
    have hu := headRms_at (fun c => R.gf c + R.gb c) R.gn 0 (fun l => ⟨l.val, by omega⟩) (fun l => by simp) e
    pointwise [k0_pay18, k0_pay14, k0_pay15, k0_pay16, k0_pay17, k0_pay4, k0_pay5]
    simp only [hf, hb, hz, h0, zero_sub]
    unfold yg
    rw [hu]
    rfl
  have e1 : ∀ e : Fin 128, k0_pay19 (F := Ideal) (k0_pay4 f b) (k0_pay5 z) g1 (ix2 r e) = yg R ⟨128 + e.val, by omega⟩ := fun e => by
    have hu := headRms_at (fun c => R.gf c + R.gb c) R.gn 1 (fun l => ⟨128 + l.val, by omega⟩) (fun l => by simp) e
    pointwise [k0_pay19, k0_pay4, k0_pay5]
    simp only [hf, hb, hz, h1, zero_sub]
    unfold yg
    rw [hu]
    rfl
  have u2 : ∀ e : Fin 128, _ := fun e => headRms_at (fun c => R.gf c + R.gb c) R.gn 2 (fun l => ⟨256 + l.val, by omega⟩) (fun l => by simp) e
  have u3 : ∀ e : Fin 128, _ := fun e => headRms_at (fun c => R.gf c + R.gb c) R.gn 3 (fun l => ⟨384 + l.val, by omega⟩) (fun l => by simp) e
  generalize k0_pay18 (F := Ideal) _ _ _ _ = p0 at e0 ⊢
  generalize k0_pay19 (F := Ideal) _ _ _ = p1 at e1 ⊢
  pointwise [k0_pay26, k0_pay20, k0_pay21, k0_pay22, k0_pay23, k0_pay24, k0_pay4, k0_pay5]
  by_cases b0 : c.val < 128
  · rw [dif_pos b0]
    exact e0 _
  by_cases b1 : c.val - 128 < 128
  · rw [dif_neg b0, dif_pos b1]
    exact (e1 _).trans (congrArg (yg R) (Fin.ext (by show 128 + (c.val - 128) = c.val; omega)))
  by_cases b2 : c.val - 128 - 128 < 128
  · rw [dif_neg b0, dif_neg b1, dif_pos b2]
    refine Eq.trans ?_ (congrArg (yg R) (Fin.ext (show 256 + (c.val - 128 - 128) = c.val by omega)) : yg R ⟨256 + (c.val - 128 - 128), by omega⟩ = yg R c)
    unfold yg
    rw [u2 ⟨c.val - 128 - 128, by omega⟩]
    simp only [hf, hb, hz, h2, zero_sub]
    rfl
  · rw [dif_neg b0, dif_neg b1, dif_neg b2]
    refine Eq.trans ?_ (congrArg (yg R) (Fin.ext (show 384 + (c.val - 128 - 128 - 128) = c.val by omega)) : yg R ⟨384 + (c.val - 128 - 128 - 128), by omega⟩ = yg R c)
    unfold yg
    rw [u3 ⟨c.val - 128 - 128 - 128, by omega⟩]
    simp only [hf, hb, hz, h3, zero_sub]
    rfl

/-- The three branches projected, gated, summed and projected again. -/
theorem projected_block (R : Row) (m g : FVec Ideal S256x512 .f32) (s0 s1 s2 : FVec Ideal S1x256x1024 .bf16) (a : FVec Ideal S1x256x512 .f32)
    (w0 w1 w2 : FVec Ideal S1x512x1024 .bf16) (wo : FVec Ideal S1024x1024 .bf16) (r : Fin 256)
    (hm : ∀ c, m (ix2 r c) = ym R c) (hg : ∀ c, g (ix2 r c) = yg R c) (h0 : ∀ d, s0 (ix3 0 r d) = R.s0 d) (h1 : ∀ d, s1 (ix3 0 r d) = R.s1 d)
    (h2 : ∀ d, s2 (ix3 0 r d) = R.s2 d) (ha : ∀ c, a (ix3 0 r c) = R.ya c) (hw0 : ∀ c d, w0 (ix3 0 c d) = R.wb 0 c d)
    (hw1 : ∀ c d, w1 (ix3 0 c d) = R.wb 1 c d) (hw2 : ∀ c d, w2 (ix3 0 c d) = R.wb 2 c d) (hwo : ∀ c d, wo (ix2 c d) = R.wo c d) (d : Fin 1024) :
    k0_pay27 (F := Ideal) m g s0 a w0 s1 w1 s2 w2 wo (ix2 r d) = projected R d := by
  pointwise [k0_pay27]
  simp only [hm, hg, h0, h1, h2, ha, hw0, hw1, hw2, hwo]
  rfl

/-- The residual stream after the mixing stage. -/
theorem stream_block (R : Row) (p : FVec Ideal S256x1024 .f32) (x : FVec Ideal S1x256x1024 .f32) (m2 : FVec Ideal S1x1x1024 .f32) (g1 : FVec Ideal S1x1024 .f32) (r : Fin 256)
    (hp : ∀ d, p (ix2 r d) = projected R d) (hx : ∀ d, x (ix3 0 r d) = R.x d) (h2 : ∀ d, m2 (ix3 0 0 d) = R.m2 d) (h1 : ∀ d, g1 (ix2 0 d) = R.g1 d) (d : Fin 1024) :
    k0_pay29 (F := Ideal) p (k0_pay28 x) m2 g1 (ix2 r d) = stream R d := by
  pointwise [k0_pay29, k0_pay28]
  simp only [hp, hx, h2, h1]
  rfl

/-- The feed-forward stage's input. -/
theorem ffIn_block (R : Row) (p x : FVec Ideal S256x1024 .f32) (m2 m3 m4 : FVec Ideal S1x1x1024 .f32) (g1 g2 : FVec Ideal S1x1024 .f32) (r : Fin 256)
    (hs : ∀ d, k0_pay29 (F := Ideal) p x m2 g1 (ix2 r d) = stream R d)
    (h3 : ∀ d, m3 (ix3 0 0 d) = R.m3 d) (h4 : ∀ d, m4 (ix3 0 0 d) = R.m4 d) (h2 : ∀ d, g2 (ix2 0 d) = R.g2 d) (d : Fin 1024) :
    k0_pay32 (F := Ideal) (k0_pay30 p x m2 g1 g2 m4) (k0_pay31 m3) (ix2 r d) = ffIn R d := by
  unfold k0_pay30
  generalize k0_pay29 (F := Ideal) p x m2 g1 = s at hs ⊢
  pointwise [k0_pay32, k0_pay31]
  simp only [hs, h3, h4, h2]
  rfl

/-- The first three quarters of the feed-forward stage's sum. -/
theorem quarters_block (R : Row) (u v : FVec Ideal S256x1024 .f32) (a0 a1 a2 b0 b1 b2 : FVec Ideal S1024x1024 .bf16) (r : Fin 256)
    (hh : ∀ d, k0_pay32 (F := Ideal) u v (ix2 r d) = ffIn R d)
    (ha0 : ∀ c j : Fin 1024, a0 (ix2 c j) = R.w1 c ⟨j.val, by omega⟩) (hb0 : ∀ j d : Fin 1024, b0 (ix2 j d) = R.w2 ⟨j.val, by omega⟩ d)
    (ha1 : ∀ c j : Fin 1024, a1 (ix2 c j) = R.w1 c ⟨1024 + j.val, by omega⟩) (hb1 : ∀ j d : Fin 1024, b1 (ix2 j d) = R.w2 ⟨1024 + j.val, by omega⟩ d)
    (ha2 : ∀ c j : Fin 1024, a2 (ix2 c j) = R.w1 c ⟨2048 + j.val, by omega⟩) (hb2 : ∀ j d : Fin 1024, b2 (ix2 j d) = R.w2 ⟨2048 + j.val, by omega⟩ d) (d : Fin 1024) :
    k0_pay33 (F := Ideal) u v a0 b0 a1 b1 a2 b2 (ix2 r d)
      = (∑ j : Fin 1024, hidden R ⟨j.val, by omega⟩ * hidden R ⟨j.val, by omega⟩ * R.w2 ⟨j.val, by omega⟩ d)
        + (∑ j : Fin 1024, hidden R ⟨1024 + j.val, by omega⟩ * hidden R ⟨1024 + j.val, by omega⟩ * R.w2 ⟨1024 + j.val, by omega⟩ d)
        + ∑ j : Fin 1024, hidden R ⟨2048 + j.val, by omega⟩ * hidden R ⟨2048 + j.val, by omega⟩ * R.w2 ⟨2048 + j.val, by omega⟩ d := by
  unfold k0_pay33
  generalize k0_pay32 (F := Ideal) u v = h at hh ⊢
  pointwise
  simp only [hh, ha0, hb0, ha1, hb1, ha2, hb2]
  rfl

/-- The stored block: the last quarter, the norm and the gated residual. -/
theorem stored_block (R : Row) (s : FVec Ideal S256x1024 .f32) (h : FVec Ideal S256x1024 .bf16) (q : FVec Ideal S256x1024 .f32) (a3 b3 : FVec Ideal S1024x1024 .bf16)
    (m5 : FVec Ideal S1x1x1024 .f32) (g3 : FVec Ideal S1x1024 .f32) (r : Fin 256)
    (hs : ∀ d, s (ix2 r d) = stream R d) (hh : ∀ d, h (ix2 r d) = ffIn R d)
    (hq : ∀ d, q (ix2 r d) = (∑ j : Fin 1024, hidden R ⟨j.val, by omega⟩ * hidden R ⟨j.val, by omega⟩ * R.w2 ⟨j.val, by omega⟩ d)
        + (∑ j : Fin 1024, hidden R ⟨1024 + j.val, by omega⟩ * hidden R ⟨1024 + j.val, by omega⟩ * R.w2 ⟨1024 + j.val, by omega⟩ d)
        + ∑ j : Fin 1024, hidden R ⟨2048 + j.val, by omega⟩ * hidden R ⟨2048 + j.val, by omega⟩ * R.w2 ⟨2048 + j.val, by omega⟩ d)
    (ha3 : ∀ c j : Fin 1024, a3 (ix2 c j) = R.w1 c ⟨3072 + j.val, by omega⟩) (hb3 : ∀ j d : Fin 1024, b3 (ix2 j d) = R.w2 ⟨3072 + j.val, by omega⟩ d)
    (h5 : ∀ d, m5 (ix3 0 0 d) = R.m5 d) (h3 : ∀ d, g3 (ix2 0 d) = R.g3 d) (d : Fin 1024) :
    k0_pay1 (F := Ideal) s h q a3 b3 m5 g3 (ix3 0 r d) = post R d := by
  have hf : ∀ d : Fin 1024, q (ix2 r d) + (∑ j : Fin 1024, max (∑ c : Fin 1024, h (ix2 r c) * a3 (ix2 c j)) 0 * max (∑ c : Fin 1024, h (ix2 r c) * a3 (ix2 c j)) 0 * b3 (ix2 j d)) = ffOut R d := fun d => by
    unfold ffOut
    rw [sum_quarters, hq]
    simp only [hh, ha3, hb3]
    rfl
  pointwise [k0_pay1]
  simp only [hf, hs, h5, h3]
  rfl

end Cert.Kernel2Ideal.Post

end
-- ==== Proof.PostArray.lean ====
/- The closing call's result array as one function of its argument arrays: at each latent token the specification's
   result of that token's row. Each grid point writes a block of that function, and the blocks cover the array. -/
module

public import proofs.«01_k».proof.Proof.Gen.Kernel2Ideal.Value
public import proofs.«01_k».proof.Proof.PostBlock
public import Idealize.ShloMosaic.Lib.Pipeline.ValueKit
public import Idealize.ShloMosaic.Lib.Claim

@[expose] public section

set_option maxRecDepth 16384

noncomputable section

namespace Cert.Kernel2Ideal.Post

open Cert.Kernel2Ideal Cert.Kernel2Ideal.Gen Cert.Post Idealize.ShloMosaic Idealize.ShloMosaic.TcCoe Idealize.SL.Sem
open Idealize.ShloMosaic.Pipeline (Dat)

/-- A latent token's place among all tokens: the 256 context tokens come first. -/
def tok (t : Fin 4096) : Fin 4352 := ⟨256 + t.val, by omega⟩

/-- The row of the latent modulation of a batch: each batch has two, the context's and the latents'. -/
def latent (b : Fin 16) : Fin 32 := ⟨2 * b.val + 1, by omega⟩

/-- What the argument arrays hold for latent token `t` of batch `b`. -/
def rowOf (x : FVec Ideal ⟨3, ![16, 4352, 1024]⟩ .f32) (md : FVec Ideal ⟨3, ![32, 6, 1024]⟩ .f32) (g : FVec Ideal ⟨2, ![4, 1024]⟩ .f32)
    (ya hf hb : FVec Ideal ⟨3, ![16, 4352, 512]⟩ .f32) (pm : FVec Ideal ⟨3, ![16, 4352, 1664]⟩ .f32) (gf gb : FVec Ideal ⟨3, ![16, 4352, 512]⟩ .f32)
    (pg : FVec Ideal ⟨3, ![16, 4352, 640]⟩ .f32) (gs : FVec Ideal ⟨3, ![16, 4352, 3072]⟩ .bf16) (mn : FVec Ideal ⟨2, ![4, 128]⟩ .f32)
    (gn : FVec Ideal ⟨1, ![128]⟩ .f32) (wb : FVec Ideal ⟨3, ![3, 512, 1024]⟩ .f32) (wo : FVec Ideal ⟨2, ![1024, 1024]⟩ .f32)
    (w1 : FVec Ideal ⟨2, ![1024, 4096]⟩ .f32) (w2 : FVec Ideal ⟨2, ![4096, 1024]⟩ .f32) (b : Fin 16) (t : Fin 4096) : Row where
  x d := x (ix3 b (tok t) d)
  m2 d := md (ix3 (latent b) 2 d)
  m3 d := md (ix3 (latent b) 3 d)
  m4 d := md (ix3 (latent b) 4 d)
  m5 d := md (ix3 (latent b) 5 d)
  g1 d := g (ix2 1 d)
  g2 d := g (ix2 2 d)
  g3 d := g (ix2 3 d)
  ya c := ya (ix3 b (tok t) c)
  hf c := hf (ix3 b (tok t) c)
  hb c := hb (ix3 b (tok t) c)
  o c := pm (ix3 b (tok t) ⟨1024 + c.val, by omega⟩)
  mn c := mn (ix2 ⟨c.val / 128, by omega⟩ (own c))
  gf c := gf (ix3 b (tok t) c)
  gb c := gb (ix3 b (tok t) c)
  z c := pg (ix3 b (tok t) ⟨c.val, by omega⟩)
  gn l := gn (ix1 l)
  s0 d := gs (ix3 b (tok t) ⟨d.val, by omega⟩)
  s1 d := gs (ix3 b (tok t) ⟨1024 + d.val, by omega⟩)
  s2 d := gs (ix3 b (tok t) ⟨2048 + d.val, by omega⟩)
  wb k c d := wb (ix3 k c d)
  wo c d := wo (ix2 c d)
  w1 c j := w1 (ix2 c j)
  w2 j d := w2 (ix2 j d)

variable (m : (ℓ : Loc nD τ sig) → Buf (Elt Ideal) ℓ)

/-- The launch memory's row of a latent token. -/
abbrev rowAt (c : Dev nD) (b : Fin 16) (t : Fin 4096) : Row :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) b t

/-- The result array as a function of the launch memory. -/
def resultOf (c : Dev nD) : FVec Ideal S16x4096x1024 .f32 := fun i => post (rowAt m c (i 0) (i 1)) (i 2)

/-- The windows' block indices at every grid point: batch `t / 16`, latent tile `t % 16`, after one tile of context. -/
theorem index_of : ∀ t : Fin cfg0.N, win0_0.index t = ![t.val / 16, t.val % 16 + 1, 0] ∧ win0_1.index t = ![2 * (t.val / 16) + 1, 0, 0]
    ∧ win0_2.index t = ![0, 0] ∧ win0_3.index t = ![t.val / 16, t.val % 16 + 1, 0] ∧ win0_4.index t = ![t.val / 16, t.val % 16 + 1, 0]
    ∧ win0_5.index t = ![t.val / 16, t.val % 16 + 1, 0] ∧ win0_6.index t = ![t.val / 16, t.val % 16 + 1, 2] ∧ win0_7.index t = ![t.val / 16, t.val % 16 + 1, 0]
    ∧ win0_8.index t = ![t.val / 16, t.val % 16 + 1, 0] ∧ win0_9.index t = ![t.val / 16, t.val % 16 + 1, 0] ∧ win0_10.index t = ![t.val / 16, t.val % 16 + 1, 0]
    ∧ win0_11.index t = ![0, 0] ∧ win0_12.index t = ![0, 0] ∧ win0_13.index t = ![0, 0, 0] ∧ win0_14.index t = ![0, 0]
    ∧ win0_15.index t = ![0, 0] ∧ win0_16.index t = ![0, 0] ∧ win0_17.index t = ![t.val / 16, t.val % 16, 0] ∧ t.val / 16 < 16 :=
  (by decide +kernel : ∀ t : Fin grid0.N, _)

/-- The residual stream's block. -/
theorem block_x (c : Dev nD) (t : Fin cfg0.N) (b : Fin 16) (hb : b.val = t.val / 16) (r : Fin 256) (x : Fin 4096) (hx : x.val = t.val % 16 * 256 + r) (d : Fin 1024) :
    (iblk m c 0 t : FVec Ideal S1x256x1024 .f32) (ix3 0 r d) = m ((c : Thread nD τ).loc main_arg0) (ix3 b (tok x) d) := by
  have h2 : (tok x).val = 256 + x.val := rfl
  blk_ext [iblk, V, index_of t]

/-- The modulation's block: the six rows of the batch's latent modulation. -/
theorem block_mod (c : Dev nD) (t : Fin cfg0.N) (b : Fin 16) (hb : b.val = t.val / 16) (k : Fin 6) (d : Fin 1024) :
    (iblk m c 1 t : FVec Ideal S1x6x1024 .f32) (ix3 0 k d) = m ((c : Thread nD τ).loc main_arg1) (ix3 (latent b) k d) := by
  have h2 : (latent b).val = 2 * b.val + 1 := rfl
  blk_ext [iblk, V, index_of t]

/-- The gains' block is their array. -/
theorem block_gain (c : Dev nD) (t : Fin cfg0.N) (k : Fin 4) (d : Fin 1024) :
    (iblk m c 2 t : FVec Ideal S4x1024 .f32) (ix2 k d) = m ((c : Thread nD τ).loc main_arg2) (ix2 k d) := by
  blk_ext [iblk, V, index_of t]

/-- The attention branch's block. -/
theorem block_ya (c : Dev nD) (t : Fin cfg0.N) (b : Fin 16) (hb : b.val = t.val / 16) (r : Fin 256) (x : Fin 4096) (hx : x.val = t.val % 16 * 256 + r) (d : Fin 512) :
    (iblk m c 3 t : FVec Ideal S1x256x512 .f32) (ix3 0 r d) = m ((c : Thread nD τ).loc main_arg3) (ix3 b (tok x) d) := by
  have h2 : (tok x).val = 256 + x.val := rfl
  blk_ext [iblk, V, index_of t]

/-- The first recurrent branch's forward block. -/
theorem block_hf (c : Dev nD) (t : Fin cfg0.N) (b : Fin 16) (hb : b.val = t.val / 16) (r : Fin 256) (x : Fin 4096) (hx : x.val = t.val % 16 * 256 + r) (d : Fin 512) :
    (iblk m c 4 t : FVec Ideal S1x256x512 .f32) (ix3 0 r d) = m ((c : Thread nD τ).loc main_arg4) (ix3 b (tok x) d) := by
  have h2 : (tok x).val = 256 + x.val := rfl
  blk_ext [iblk, V, index_of t]

/-- The first recurrent branch's backward block. -/
theorem block_hb (c : Dev nD) (t : Fin cfg0.N) (b : Fin 16) (hb : b.val = t.val / 16) (r : Fin 256) (x : Fin 4096) (hx : x.val = t.val % 16 * 256 + r) (d : Fin 512) :
    (iblk m c 5 t : FVec Ideal S1x256x512 .f32) (ix3 0 r d) = m ((c : Thread nD τ).loc main_arg5) (ix3 b (tok x) d) := by
  have h2 : (tok x).val = 256 + x.val := rfl
  blk_ext [iblk, V, index_of t]

/-- The output gate's block: channels 1024 to 1535 of the packed projection. -/
theorem block_o (c : Dev nD) (t : Fin cfg0.N) (b : Fin 16) (hb : b.val = t.val / 16) (r : Fin 256) (x : Fin 4096) (hx : x.val = t.val % 16 * 256 + r) (d : Fin 512) :
    (X0_6 m c t : FVec Ideal S1x256x512 .f32) (ix3 0 r d) = m ((c : Thread nD τ).loc main_arg6) (ix3 b (tok x) ⟨1024 + d.val, by omega⟩) := by
  have h2 : (tok x).val = 256 + x.val := rfl
  unfold X0_6 Pipeline.Window.fill
  rw [dif_pos (moved0_6 t _)]
  blk_ext [iblk, V, index_of t]

/-- The second recurrent branch's forward block. -/
theorem block_gf (c : Dev nD) (t : Fin cfg0.N) (b : Fin 16) (hb : b.val = t.val / 16) (r : Fin 256) (x : Fin 4096) (hx : x.val = t.val % 16 * 256 + r) (d : Fin 512) :
    (iblk m c 7 t : FVec Ideal S1x256x512 .f32) (ix3 0 r d) = m ((c : Thread nD τ).loc main_arg7) (ix3 b (tok x) d) := by
  have h2 : (tok x).val = 256 + x.val := rfl
  blk_ext [iblk, V, index_of t]

/-- The second recurrent branch's backward block. -/
theorem block_gb (c : Dev nD) (t : Fin cfg0.N) (b : Fin 16) (hb : b.val = t.val / 16) (r : Fin 256) (x : Fin 4096) (hx : x.val = t.val % 16 * 256 + r) (d : Fin 512) :
    (iblk m c 8 t : FVec Ideal S1x256x512 .f32) (ix3 0 r d) = m ((c : Thread nD τ).loc main_arg8) (ix3 b (tok x) d) := by
  have h2 : (tok x).val = 256 + x.val := rfl
  blk_ext [iblk, V, index_of t]

/-- The second branch's gate: the first 512 channels of its packed projection. -/
theorem block_z (c : Dev nD) (t : Fin cfg0.N) (b : Fin 16) (hb : b.val = t.val / 16) (r : Fin 256) (x : Fin 4096) (hx : x.val = t.val % 16 * 256 + r) (d : Fin 512) :
    (X0_9 m c t : FVec Ideal S1x256x512 .f32) (ix3 0 r d) = m ((c : Thread nD τ).loc main_arg9) (ix3 b (tok x) ⟨d.val, by omega⟩) := by
  have h2 : (tok x).val = 256 + x.val := rfl
  unfold X0_9 Pipeline.Window.fill
  rw [dif_pos (moved0_9 t _)]
  blk_ext [iblk, V, index_of t]

/-- The branch gates' block. -/
theorem block_gs (c : Dev nD) (t : Fin cfg0.N) (b : Fin 16) (hb : b.val = t.val / 16) (r : Fin 256) (x : Fin 4096) (hx : x.val = t.val % 16 * 256 + r) (d : Fin 3072) :
    (iblk m c 10 t : FVec Ideal S1x256x3072 .bf16) (ix3 0 r d) = m ((c : Thread nD τ).loc main_arg10) (ix3 b (tok x) d) := by
  have h2 : (tok x).val = 256 + x.val := rfl
  blk_ext [iblk, V, index_of t]

/-- The first branch's gain, its four heads side by side. -/
theorem block_mn (c : Dev nD) (t : Fin cfg0.N) (l : Fin 512) :
    (iblk m c 11 t : FVec Ideal S1x512 .f32) (ix2 0 l) = m ((c : Thread nD τ).loc main_arg11) (ix2 ⟨l.val / 128, by omega⟩ (own l)) := by
  blk_simp [iblk, index_of t]
  entry_read
  pointwise
  blk_ext [index_of t]
  rfl

/-- The second branch's gain, as a row. -/
theorem block_gn (c : Dev nD) (t : Fin cfg0.N) (l : Fin 128) :
    (iblk m c 12 t : FVec Ideal S1x128 .f32) (ix2 0 l) = m ((c : Thread nD τ).loc main_arg12) (ix1 l) := by
  blk_simp [iblk, index_of t]
  entry_read
  pointwise
  blk_ext [index_of t]

/-- The branch projections' block is their array. -/
theorem block_wb (c : Dev nD) (t : Fin cfg0.N) (k : Fin 3) (l : Fin 512) (d : Fin 1024) :
    (iblk m c 13 t : FVec Ideal S3x512x1024 .bf16) (ix3 k l d) = m ((c : Thread nD τ).loc main_arg13) (ix3 k l d) := by
  blk_simp [iblk, index_of t]
  entry_read
  pointwise
  blk_ext [index_of t]

/-- The output projection's block is its array. -/
theorem block_wo (c : Dev nD) (t : Fin cfg0.N) (l : Fin 1024) (d : Fin 1024) :
    (iblk m c 14 t : FVec Ideal S1024x1024 .bf16) (ix2 l d) = m ((c : Thread nD τ).loc main_arg14) (ix2 l d) := by
  blk_simp [iblk, index_of t]
  entry_read
  pointwise
  blk_ext [index_of t]

/-- The first feed-forward weight's block is its array. -/
theorem block_w1 (c : Dev nD) (t : Fin cfg0.N) (l : Fin 1024) (d : Fin 4096) :
    (iblk m c 15 t : FVec Ideal S1024x4096 .bf16) (ix2 l d) = m ((c : Thread nD τ).loc main_arg15) (ix2 l d) := by
  blk_simp [iblk, index_of t]
  entry_read
  pointwise
  blk_ext [index_of t]

/-- The second feed-forward weight's block is its array. -/
theorem block_w2 (c : Dev nD) (t : Fin cfg0.N) (l : Fin 4096) (d : Fin 1024) :
    (iblk m c 16 t : FVec Ideal S4096x1024 .bf16) (ix2 l d) = m ((c : Thread nD τ).loc main_arg16) (ix2 l d) := by
  blk_simp [iblk, index_of t]
  entry_read
  pointwise
  blk_ext [index_of t]

/-- The array index of a block index, as batch, latent token and channel. -/
theorem place (t : Fin cfg0.N) (r : Fin 256) (d : Fin 1024) (b : Fin 16) (hb : b.val = t.val / 16) (x : Fin 4096) (hx : x.val = t.val % 16 * 256 + r) :
    ((cfg0.win 17).blk t).view.emb (ix3 0 r d : S1x256x1024.Idx) = (ix3 b x d : S16x4096x1024.Idx) := by
  blk_ext [index_of t]

/-- What a grid point stores is the result array's block. -/
theorem point (c : Dev nD) (t : Fin cfg0.N) (y : S1x256x1024.Idx) :
    outsAt0 m c t y = resultOf m c (((cfg0.win 17).blk t).view.emb y) := by
  have hN : t.val / 16 < 16 := (index_of t).2.2.2.2.2.2.2.2.2.2.2.2.2.2.2.2.2.2
  idx_vars y
  obtain rfl : y0 = 0 := Subsingleton.elim _ _
  obtain ⟨b, hb⟩ : ∃ b : Fin 16, b.val = t.val / 16 := ⟨⟨t.val / 16, hN⟩, rfl⟩
  obtain ⟨x, hx⟩ : ∃ x : Fin 4096, x.val = t.val % 16 * 256 + y1 := ⟨⟨t.val % 16 * 256 + y1, by omega⟩, rfl⟩
  rw [place t y1 y2 b hb x hx]
  show _ = post (rowAt m c b x) y2
  unfold outsAt0
  frame_out
  generalize hP : k0_pay27 (F := Ideal) _ _ _ _ _ _ _ _ _ _ = P
  have hp : ∀ d, P (ix2 y1 d) = projected (rowAt m c b x) d := fun d => by
    rw [← hP]
    exact projected_block (rowAt m c b x) _ _ _ _ _ _ _ _ _ _ y1
      (fun l => ym_block (rowAt m c b x) _ _ _ _ _ _ _ y1 (fun l => block_hf m c t b hb y1 x hx l) (fun l => block_hb m c t b hb y1 x hx l)
        (fun l => block_o m c t b hb y1 x hx l) (fun l => by pointwise; exact block_mn m c t _) (fun l => by pointwise; exact block_mn m c t _)
        (fun l => by pointwise; exact block_mn m c t _) (fun l => by pointwise; exact block_mn m c t _) l)
      (fun l => yg_block (rowAt m c b x) _ _ _ _ _ _ _ y1 (fun l => block_gf m c t b hb y1 x hx l) (fun l => block_gb m c t b hb y1 x hx l)
        (fun l => block_z m c t b hb y1 x hx l) (fun l => block_gn m c t l) (fun l => block_gn m c t l) (fun l => block_gn m c t l) (fun l => block_gn m c t l) l)
      (fun d => by pointwise; exact block_gs m c t b hb y1 x hx _) (fun d => by pointwise; exact block_gs m c t b hb y1 x hx _)
      (fun d => by pointwise; exact block_gs m c t b hb y1 x hx _) (fun l => block_ya m c t b hb y1 x hx l)
      (fun l d => by pointwise; exact block_wb m c t 0 l d) (fun l d => by pointwise; exact block_wb m c t 1 l d)
      (fun l d => by pointwise; exact block_wb m c t 2 l d) (fun l d => block_wo m c t l d) d
  clear hP
  generalize hS : k0_pay29 (F := Ideal) P _ _ _ = S
  have hs : ∀ d, S (ix2 y1 d) = stream (rowAt m c b x) d := fun d => by
    rw [← hS]
    exact stream_block (rowAt m c b x) _ _ _ _ y1 hp (fun d => block_x m c t b hb y1 x hx d)
      (fun d => by pointwise; exact block_mod m c t b hb 2 d) (fun d => by pointwise; exact block_gain m c t 1 d) d
  generalize hU : k0_pay30 (F := Ideal) P _ _ _ _ _ = U
  generalize hV : k0_pay31 (F := Ideal) _ = W
  have hh : ∀ d, k0_pay32 (F := Ideal) U W (ix2 y1 d) = ffIn (rowAt m c b x) d := fun d => by
    rw [← hU, ← hV]
    exact ffIn_block (rowAt m c b x) _ _ _ _ _ _ _ y1 (fun d => by rw [hS]; exact hs d)
      (fun d => by pointwise; exact block_mod m c t b hb 3 d) (fun d => by pointwise; exact block_mod m c t b hb 4 d)
      (fun d => by pointwise; exact block_gain m c t 2 d) d
  clear hS hU hV hp
  exact stored_block (rowAt m c b x) _ _ _ _ _ _ _ y1 hs hh
    (fun d => quarters_block (rowAt m c b x) _ _ _ _ _ _ _ _ y1 hh
      (fun l j => by pointwise; exact block_w1 m c t l _) (fun j d => by pointwise; exact block_w2 m c t _ d)
      (fun l j => by pointwise; exact block_w1 m c t l _) (fun j d => by pointwise; exact block_w2 m c t _ d)
      (fun l j => by pointwise; exact block_w1 m c t l _) (fun j d => by pointwise; exact block_w2 m c t _ d) d)
    (fun l j => by pointwise; exact block_w1 m c t l _) (fun j d => by pointwise; exact block_w2 m c t _ d)
    (fun d => by pointwise; exact block_mod m c t b hb 5 d) (fun d => by pointwise; exact block_gain m c t 3 d) y2

/-- The result array after the run. -/
theorem final (c : Dev nD) : (dats m 0 c).arrAt 17 (cfgs 0).N = resultOf m c := by
  refine (dats m 0 c).arrAt_eq_of_covers 17 _ (by decide +kernel) fun t hf y => ?_
  blk_simp
  rw [after0_17]
  exact point m c t y

end Cert.Kernel2Ideal.Post

end
-- ==== Proof.PostRef.lean ====
/- The closing call's reference at an index: stage by stage the specification's row, at a latent token's row of the
   argument arrays. -/
module

public import proofs.«01_k».proof.Proof.Gen.Reference2Ideal.Read
public import proofs.«01_k».proof.Proof.PostArray

@[expose] public section

set_option maxRecDepth 16384

noncomputable section

namespace Cert.Reference2Ideal.Post

open Cert.Reference2Ideal Cert.Reference2Ideal.Gen Cert.Reference2Ideal.Read Cert.Post Idealize.ShloMosaic
open Cert.Kernel2Ideal.Post (tok latent rowOf)

variable (x0 : FVec Ideal S16x4352x1024 .f32) (x1 : FVec Ideal S32x6x1024 .f32) (x2 : FVec Ideal S4x1024 .f32)
  (x3 x4 x5 : FVec Ideal S16x4352x512 .f32) (x6 : FVec Ideal S16x4352x1664 .f32) (x7 x8 : FVec Ideal S16x4352x512 .f32)
  (x9 : FVec Ideal S16x4352x640 .f32) (x10 : FVec Ideal S16x4352x3072 .bf16) (x11 : FVec Ideal S4x128 .f32) (x12 : FVec Ideal S128 .f32)
  (x13 : FVec Ideal S3x512x1024 .f32) (x14 : FVec Ideal S1024x1024 .f32) (x15 : FVec Ideal S1024x4096 .f32) (x16 : FVec Ideal S4096x1024 .f32)

/-- The gate of the mixing stage: row 2 of the batch's latent modulation. -/
theorem gate_at (b : Fin 16) (d : Fin 1024) : val_main_v11 (F := Ideal) x1 (ix3 b 0 d) = x1 (ix3 (latent b) 2 d) := by
  pointwise [val_main_v11, val_main_v10, val_main_v9, val_main_v2, val_main_v1, val_main_v0]
  exact congrArg (fun k => x1 (ix3 k 2 d)) (Fin.ext (by show b.val * 2 + 1 = 2 * b.val + 1; omega))

/-- The shift: row 3 of the batch's latent modulation. -/
theorem shift_at (b : Fin 16) (d : Fin 1024) : val_main_v5 (F := Ideal) x1 (ix3 b 0 d) = x1 (ix3 (latent b) 3 d) := by
  pointwise [val_main_v5, val_main_v4, val_main_v3, val_main_v2, val_main_v1, val_main_v0]
  exact congrArg (fun k => x1 (ix3 k 3 d)) (Fin.ext (by show b.val * 2 + 1 = 2 * b.val + 1; omega))

/-- The scale: row 4 of the batch's latent modulation. -/
theorem scale_at (b : Fin 16) (d : Fin 1024) : val_main_v8 (F := Ideal) x1 (ix3 b 0 d) = x1 (ix3 (latent b) 4 d) := by
  pointwise [val_main_v8, val_main_v7, val_main_v6, val_main_v2, val_main_v1, val_main_v0]
  exact congrArg (fun k => x1 (ix3 k 4 d)) (Fin.ext (by show b.val * 2 + 1 = 2 * b.val + 1; omega))

/-- The gate of the feed-forward stage: row 5 of the batch's latent modulation. -/
theorem gate2_at (b : Fin 16) (d : Fin 1024) : val_main_v14 (F := Ideal) x1 (ix3 b 0 d) = x1 (ix3 (latent b) 5 d) := by
  pointwise [val_main_v14, val_main_v13, val_main_v12, val_main_v2, val_main_v1, val_main_v0]
  exact congrArg (fun k => x1 (ix3 k 5 d)) (Fin.ext (by show b.val * 2 + 1 = 2 * b.val + 1; omega))

/-- A channel is its own lane of its head. -/
theorem lane_own (c : Fin 512) : lane c (own c) = c := Fin.ext (by show c.val / 128 * 128 + c.val % 128 = c.val; omega)

/-- The first recurrent branch. -/
theorem ym_at (b : Fin 16) (t : Fin 4096) (c : Fin 512) :
    val_main_v43 (F := Ideal) x4 x5 x6 x11 (ix3 b t c) = ym (rowOf x0 x1 x2 x3 x4 x5 x6 x7 x8 x9 x10 x11 x12 x13 x14 x15 x16 b t) c := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v16, val_main_v15, val_main_cst, val_main_cst_0, val_main_cst_1, val_main_cst_2, val_main_cst_3]
  unfold ym headRms rms
  dsimp only
  simp only [lane_own]
  rfl

/-- The second recurrent branch. -/
theorem yg_at (b : Fin 16) (t : Fin 4096) (c : Fin 512) :
    val_main_v63 (F := Ideal) x7 x8 x9 x12 (ix3 b t c) = yg (rowOf x0 x1 x2 x3 x4 x5 x6 x7 x8 x9 x10 x11 x12 x13 x14 x15 x16 b t) c := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v18, val_main_v17, val_main_cst_4, val_main_cst_5, val_main_cst_6, val_main_call0_v0, val_main_call0_v1, val_main_call0_v2, val_main_call0_v3, val_main_call0_v4, val_main_call0_v5, val_main_call0_cst, val_main_call0_cst_0]
  unfold yg headRms rms
  dsimp only
  simp only [lane_own]
  rfl

/-- The gated sum of the projected branches, projected again. -/
theorem projected_at (b : Fin 16) (t : Fin 4096) (d : Fin 1024) :
    val_main_v85 (F := Ideal) x3 x4 x5 x6 x7 x8 x9 x10 x11 x12 x13 x14 (ix3 b t d) = projected (rowOf x0 x1 x2 x3 x4 x5 x6 x7 x8 x9 x10 x11 x12 x13 x14 x15 x16 b t) d := by
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64]
  simp only [ym_at x0 x1 x2 x3 x4 x5 x6 x7 x8 x9 x10 x11 x12 x13 x14 x15 x16, yg_at x0 x1 x2 x3 x4 x5 x6 x7 x8 x9 x10 x11 x12 x13 x14 x15 x16]
  rfl

/-- The residual stream after the mixing stage. -/
theorem stream_at (b : Fin 16) (t : Fin 4096) (d : Fin 1024) :
    val_main_v103 (F := Ideal) x0 x1 x2 x3 x4 x5 x6 x7 x8 x9 x10 x11 x12 x13 x14 (ix3 b t d) = stream (rowOf x0 x1 x2 x3 x4 x5 x6 x7 x8 x9 x10 x11 x12 x13 x14 x15 x16 b t) d := by
  pointwise [val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v84, val_main_cst_7, val_main_cst_8, val_main_cst_9]
  simp only [projected_at x0 x1 x2 x3 x4 x5 x6 x7 x8 x9 x10 x11 x12 x13 x14 x15 x16, gate_at]
  rfl

/-- The feed-forward input. -/
theorem ffIn_at (b : Fin 16) (t : Fin 4096) (d : Fin 1024) :
    val_main_v124 (F := Ideal) x0 x1 x2 x3 x4 x5 x6 x7 x8 x9 x10 x11 x12 x13 x14 (ix3 b t d) = ffIn (rowOf x0 x1 x2 x3 x4 x5 x6 x7 x8 x9 x10 x11 x12 x13 x14 x15 x16 b t) d := by
  pointwise [val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_cst_10, val_main_cst_11, val_main_cst_12, val_main_cst_13]
  simp only [stream_at x0 x1 x2 x3 x4 x5 x6 x7 x8 x9 x10 x11 x12 x13 x14 x15 x16, scale_at, shift_at]
  rfl

/-- A hidden unit. -/
theorem hidden_at (b : Fin 16) (t : Fin 4096) (j : Fin 4096) :
    val_main_v126 (F := Ideal) x0 x1 x2 x3 x4 x5 x6 x7 x8 x9 x10 x11 x12 x13 x14 x15 (ix3 b t j) = hidden (rowOf x0 x1 x2 x3 x4 x5 x6 x7 x8 x9 x10 x11 x12 x13 x14 x15 x16 b t) j := by
  pointwise [val_main_v126, val_main_v125, val_main_call1_v0, val_main_call1_cst]
  simp only [ffIn_at x0 x1 x2 x3 x4 x5 x6 x7 x8 x9 x10 x11 x12 x13 x14 x15 x16]
  rfl

/-- The feed-forward output. -/
theorem ffOut_at (b : Fin 16) (t : Fin 4096) (d : Fin 1024) :
    val_main_v128 (F := Ideal) x0 x1 x2 x3 x4 x5 x6 x7 x8 x9 x10 x11 x12 x13 x14 x15 x16 (ix3 b t d) = ffOut (rowOf x0 x1 x2 x3 x4 x5 x6 x7 x8 x9 x10 x11 x12 x13 x14 x15 x16 b t) d := by
  pointwise [val_main_v128, val_main_v127]
  simp only [hidden_at x0 x1 x2 x3 x4 x5 x6 x7 x8 x9 x10 x11 x12 x13 x14 x15 x16]
  rfl

/-- The result. -/
theorem result_at (b : Fin 16) (t : Fin 4096) (d : Fin 1024) :
    val_main_v146 (F := Ideal) x0 x1 x2 x3 x4 x5 x6 x7 x8 x9 x10 x11 x12 x13 x14 x15 x16 (ix3 b t d) = post (rowOf x0 x1 x2 x3 x4 x5 x6 x7 x8 x9 x10 x11 x12 x13 x14 x15 x16 b t) d := by
  pointwise [val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_cst_14, val_main_cst_15, val_main_cst_16]
  simp only [ffOut_at x0 x1 x2 x3 x4 x5 x6 x7 x8 x9 x10 x11 x12 x13 x14 x15 x16, stream_at x0 x1 x2 x3 x4 x5 x6 x7 x8 x9 x10 x11 x12 x13 x14 x15 x16, gate2_at]
  rfl

end Cert.Reference2Ideal.Post

end
-- ==== Proof.PostClaim.lean ====
/- The claim about the closing call: on every input its result array is the reference's. -/
module

public import proofs.«01_k».proof.Defs
public import proofs.«01_k».proof.Proof.Gen.Reference2Ideal.Run
public import proofs.«01_k».proof.Proof.PostRef

@[expose] public section

set_option maxRecDepth 16384

noncomputable section

namespace Cert.PostClaim

open Cert.Kernel2Ideal.Post Idealize.ShloMosaic Idealize.SL.Sem

/-- The closing call's kernel and its reference leave the same result array. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  obtain ⟨e0, e1, e2, e3, e4, e5, e6, e7, e8, e9, e10, e11, e12, e13, e14, e15, e16⟩ := hagree c
  rw [Cert.Reference2Ideal.Read.val_main_v146_eq]
  show Cert.Reference2Ideal.Read.val_main_v146 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10))
      (m' ((c.tc : Thread Cert.Reference2Ideal.nD Cert.Reference2Ideal.τ).loc Cert.Reference2Ideal.main_arg11))
      (m' ((c.tc : Thread Cert.Reference2Ideal.nD Cert.Reference2Ideal.τ).loc Cert.Reference2Ideal.main_arg12))
      (m' ((c.tc : Thread Cert.Reference2Ideal.nD Cert.Reference2Ideal.τ).loc Cert.Reference2Ideal.main_arg13))
      (m' ((c.tc : Thread Cert.Reference2Ideal.nD Cert.Reference2Ideal.τ).loc Cert.Reference2Ideal.main_arg14))
      (m' ((c.tc : Thread Cert.Reference2Ideal.nD Cert.Reference2Ideal.τ).loc Cert.Reference2Ideal.main_arg15))
      (m' ((c.tc : Thread Cert.Reference2Ideal.nD Cert.Reference2Ideal.τ).loc Cert.Reference2Ideal.main_arg16)) = _
  rw [e0, e1, e2, e3, e4, e5, e6, e7, e8, e9, e10, e11, e12, e13, e14, e15, e16]
  refine Eq.trans ?_ (final m c).symm
  funext i
  obtain ⟨b, t, d, rfl⟩ : ∃ (b : Fin 16) (t : Fin 4096) (d : Fin 1024), i = ix3 b t d :=
    ⟨i 0, i 1, i 2, funext fun a => by fin_cases a <;> rfl⟩
  exact Cert.Reference2Ideal.Post.result_at _ _ _ _ _ _ _ _ _ _ _ _ _ _ _ _ _ b t d

end Cert.PostClaim

end
-- ==== Proof.ProjSpec.lean ====
/- The mathematics of one token of the layer's input projection, on the extended reals: the norm with its modulation, the
   projection to 8224 channels, and what the call makes of them: rotated queries and keys, the recurrent branches' packed
   channels, the gates, and the short convolution with its SiLU and its heads' normalisation. Nothing here mentions a
   program. -/
module

public import proofs.«01_k».proof.Proof.PostSpec

@[expose] public section

noncomputable section

namespace Cert.Proj

open Idealize.ShloMosaic

/-- A token's row after the norm with gain `g`, scaled by `1 + sc` and shifted by `sh`. -/
def hid (x g sc sh : Fin 1024 → EReal) (d : Fin 1024) : EReal :=
  Cert.Post.rms (Ideal.ofBits .f32 0x44800000#32) x g d * (1 + sc d) + sh d

/-- The projection of a row, with its bias. -/
def lin (h : Fin 1024 → EReal) (w : Fin 1024 → Fin 8224 → EReal) (bias : Fin 8224 → EReal) (c : Fin 8224) : EReal :=
  (∑ k, h k * w k c) + bias c

/-- The rotation's partner of a query or key channel: in each block of 32 channels the two halves change places, the
    second one negated. -/
def turned (p : Fin 8224 → EReal) (c : Fin 1536) : EReal :=
  if c.val % 32 < 16 then -p ⟨c.val + 16, by omega⟩ else p ⟨c.val - 16, by omega⟩

/-- Queries and keys rotated by a head's angles, values as they are. -/
def roped (cs sn : Fin 64 → EReal) (p : Fin 8224 → EReal) (c : Fin 1536) : EReal :=
  if c.val < 1024 then
    p ⟨c.val, by omega⟩ * cs ⟨c.val % 64, by omega⟩ + turned p c * sn ⟨c.val % 64, by omega⟩
  else p ⟨c.val, by omega⟩

/-- Queries, keys and values as they are. -/
def plain (p : Fin 8224 → EReal) (c : Fin 1536) : EReal := p ⟨c.val, by omega⟩

/-- The source channel of a packed query or key channel: each head's 64 query channels, then its 64 key channels. -/
def qkSource (c : Fin 512) : Fin 8224 :=
  if h : c.val % 128 < 64 then ⟨1536 + c.val / 128 * 64 + c.val % 128, by omega⟩
  else ⟨1792 + c.val / 128 * 64 + (c.val % 128 - 64), by omega⟩

/-- The first recurrent branch's packed channels: queries and keys by head, values, output gate, the heads' input and
    forget gates, and zeros. -/
def packM (p : Fin 8224 → EReal) (c : Fin 1664) : EReal :=
  if h : c.val < 512 then p (qkSource ⟨c.val, h⟩)
  else if h : c.val < 1552 then p ⟨2048 + (c.val - 512), by omega⟩ else 0

/-- The second recurrent branch's packed channels: gate, the heads' decay and write gates, and zeros. -/
def packG (p : Fin 8224 → EReal) (c : Fin 640) : EReal :=
  if h : c.val < 528 then p ⟨4624 + c.val, by omega⟩ else 0

/-- The three branches' gates. -/
def gates (p : Fin 8224 → EReal) (c : Fin 3072) : EReal := Cert.Post.sigm (p ⟨5152 + c.val, by omega⟩)

/-- The convolution's channels of a token's projection. -/
def convIn (p : Fin 8224 → EReal) (c : Fin 1536) : EReal := p ⟨3088 + c.val, by omega⟩

/-- The convolution over five neighbouring tokens. -/
def conv (T cw : Fin 5 → Fin 1536 → EReal) (c : Fin 1536) : EReal :=
  T 0 c * cw 0 c + T 1 c * cw 1 c + T 2 c * cw 2 c + T 3 c * cw 3 c + T 4 c * cw 4 c

/-- The convolution's SiLU. -/
def act (T cw : Fin 5 → Fin 1536 → EReal) (c : Fin 1536) : EReal := conv T cw c * Cert.Post.sigm (conv T cw c)

/-- Lane `l` of the head of 128 that channel `c` belongs to. -/
def head (c : Fin 1536) (l : Fin 128) : Fin 1536 := ⟨c.val / 128 * 128 + l.val, by omega⟩

/-- Queries and keys divided by their head's length, queries scaled besides, values as they are. -/
def unit (a : Fin 1536 → EReal) (c : Fin 1536) : EReal :=
  if c.val < 512 then
    a c * Ideal.rsqrt ((∑ l, a (head c l) * a (head c l)) + Ideal.ofBits .f32 0x358637BD#32) * Ideal.ofBits .f32 0x3DB504F3#32
  else if c.val < 1024 then a c * Ideal.rsqrt ((∑ l, a (head c l) * a (head c l)) + Ideal.ofBits .f32 0x358637BD#32)
  else a c

/-- A channel's head's lanes, at the lanes named from the head's first channel. -/
theorem head_at (k : ℕ) (u : Fin 128 → Fin 1536) (hu : ∀ l, (u l).val = k * 128 + l.val) (e : Fin 128) : head (u e) = u :=
  funext fun l => Fin.ext (by show (u e).val / 128 * 128 + l.val = _; rw [hu, hu]; omega)

/-- The rotation frequency of pair `i` of a block of 32. -/
def freq (i : ℕ) : EReal :=
  Ideal.pow (Ideal.ofBits .f32 0x461C4000#32)
    (Ideal.div (-(Ideal.ofBits .f32 0x40000000#32 * FloatOps.sitofp (F := Ideal) .f32 (BitVec.ofNat 32 i))) (Ideal.ofBits .f32 0x42000000#32))

/-- The angle of latent token `n` in channel `l` of a block of 64: by its grid row in the first half, by its grid column
    in the second. -/
def angle (n : ℕ) (l : Fin 64) : EReal :=
  FloatOps.sitofp (F := Ideal) .f32 (BitVec.ofNat 32 (if l.val < 32 then n / 64 else n % 64)) * freq (l.val % 16)

theorem angle_row (n : ℕ) (l : Fin 64) (i : ℕ) (h : l.val < 32) (hi : l.val % 16 = i) :
    FloatOps.sitofp (F := Ideal) .f32 (BitVec.ofNat 32 (n / 64)) * freq i = angle n l := by
  unfold angle
  rw [if_pos h, hi]

theorem angle_col (n : ℕ) (l : Fin 64) (i : ℕ) (h : ¬l.val < 32) (hi : l.val % 16 = i) :
    FloatOps.sitofp (F := Ideal) .f32 (BitVec.ofNat 32 (n % 64)) * freq i = angle n l := by
  unfold angle
  rw [if_neg h, hi]

/-- The convolution's input at the token `j - 2` places after token `t`, zero when that token is not in `t`'s segment: the
    first 256 tokens are the context, the others the latents. -/
def tap (P : Fin 4352 → Fin 8224 → EReal) (t : Fin 4352) (j : Fin 5) (c : Fin 1536) : EReal :=
  if h : 2 ≤ t.val + j.val ∧ t.val + j.val - 2 < 4352 ∧ (t.val < 256 ↔ t.val + j.val - 2 < 256) then convIn (P ⟨t.val + j.val - 2, h.2.1⟩) c else 0

/-- A batch's modulation row for token `t`: each batch has two, the context's and the latents'. -/
def modRow (b : Fin 16) (t : Fin 4352) : Fin 32 := ⟨2 * b.val + (if t.val < 256 then 0 else 1), by split <;> omega⟩

/-- Token `t`'s projected row. -/
def prow (x : FVec Ideal ⟨3, ![16, 4352, 1024]⟩ .f32) (md : FVec Ideal ⟨3, ![32, 6, 1024]⟩ .f32) (g : FVec Ideal ⟨2, ![1, 1024]⟩ .f32)
    (w : FVec Ideal ⟨2, ![1024, 8224]⟩ .f32) (bias : FVec Ideal ⟨1, ![8224]⟩ .f32) (b : Fin 16) (t : Fin 4352) : Fin 8224 → EReal :=
  lin (hid (fun d => x (ix3 b t d)) (fun d => g (ix2 0 d)) (fun d => md (ix3 (modRow b t) 1 d)) (fun d => md (ix3 (modRow b t) 0 d)))
    (fun k c => w (ix2 k c)) (fun c => bias (ix1 c))

/-- The attention's channels: a latent token's queries and keys are rotated. -/
def resA (P : Fin 4352 → Fin 8224 → EReal) (t : Fin 4352) (c : Fin 1536) : EReal :=
  if t.val < 256 then plain (P t) c
  else roped (fun l => Ideal.cos (angle (t.val - 256) l)) (fun l => Ideal.sin (angle (t.val - 256) l)) (P t) c

/-- The second recurrent branch's queries, keys and values. -/
def resQ (P : Fin 4352 → Fin 8224 → EReal) (cw : FVec Ideal ⟨2, ![5, 1536]⟩ .f32) (t : Fin 4352) (c : Fin 1536) : EReal :=
  unit (act (tap P t) (fun j c => cw (ix2 j c))) c

end Cert.Proj

end
-- ==== Proof.ProjRefRows.lean ====
/- The projection call's reference: its rows, normed, modulated and projected, for the context's tokens and for the
   latents'. -/
module

public import proofs.«01_k».proof.Proof.Gen.Reference3Ideal.Read
public import proofs.«01_k».proof.Proof.ProjSpec
public import Idealize.ShloMosaic.Lib.Pointwise
public import Idealize.ShloMosaic.Lib.Claim

@[expose] public section

set_option maxRecDepth 16384

noncomputable section

namespace Cert.Reference3Ideal.Proj

open Cert.Reference3Ideal Cert.Reference3Ideal.Gen Cert.Reference3Ideal.Read Cert.Proj Idealize.ShloMosaic

/-- A context token's place among all tokens. -/
def ctx (t : Fin 256) : Fin 4352 := ⟨t.val, by omega⟩

/-- A latent token's place among all tokens. -/
def lat (t : Fin 4096) : Fin 4352 := ⟨256 + t.val, by omega⟩

theorem modRow_ctx (b : Fin 16) (t : Fin 256) : modRow b (ctx t) = ⟨2 * b.val, by omega⟩ :=
  Fin.ext (by show 2 * b.val + (if t.val < 256 then 0 else 1) = 2 * b.val; rw [if_pos t.isLt]; rfl)

theorem modRow_lat (b : Fin 16) (t : Fin 4096) : modRow b (lat t) = ⟨2 * b.val + 1, by omega⟩ :=
  Fin.ext (by show 2 * b.val + (if 256 + t.val < 256 then 0 else 1) = 2 * b.val + 1; rw [if_neg (by omega)])

/-- The integer zero as a number. -/
theorem zero_number : FloatOps.sitofp (F := Ideal) .f32 (0#32) = 0 := by
  show (((0#32 : BitVec 32).toInt : ℝ) : EReal) = 0
  simp

/-- A context token's neighbour, when it is one of the context. -/
theorem tap_ctx (P : Fin 4352 → Fin 8224 → EReal) (t : Fin 256) (j : Fin 5) (k : Fin 1536) :
    tap P (ctx t) j k = if h : 2 ≤ j.val + t.val ∧ j.val + t.val - 2 < 256 then convIn (P (ctx ⟨j.val + t.val - 2, h.2⟩)) k else 0 := by
  have e : (ctx t).val = t.val := rfl
  unfold tap
  by_cases h : 2 ≤ j.val + t.val ∧ j.val + t.val - 2 < 256
  · rw [dif_pos (by omega), dif_pos h]
    exact congrArg (fun u => convIn (P u) k) (Fin.ext (by show t.val + j.val - 2 = j.val + t.val - 2; omega))
  · rw [dif_neg (by omega), dif_neg h]

/-- A latent token's neighbour, when it is one of the latents. -/
theorem tap_lat (P : Fin 4352 → Fin 8224 → EReal) (t : Fin 4096) (j : Fin 5) (k : Fin 1536) :
    tap P (lat t) j k = if h : 2 ≤ j.val + t.val ∧ j.val + t.val - 2 < 4096 then convIn (P (lat ⟨j.val + t.val - 2, h.2⟩)) k else 0 := by
  have e : (lat t).val = 256 + t.val := rfl
  unfold tap
  by_cases h : 2 ≤ j.val + t.val ∧ j.val + t.val - 2 < 4096
  · rw [dif_pos (by omega), dif_pos h]
    exact congrArg (fun u => convIn (P u) k) (Fin.ext (by show 256 + t.val + j.val - 2 = 256 + (j.val + t.val - 2); omega))
  · rw [dif_neg (by omega), dif_neg h]

/-- A query channel of the normalised heads. -/
theorem unit_q (a : Fin 1536 → EReal) (k : Fin 512) : unit a ⟨k.val, by omega⟩ =
    a ⟨k.val, by omega⟩ * Ideal.rsqrt ((∑ l : Fin 128, a ⟨k.val / 128 * 128 + l.val, by omega⟩ * a ⟨k.val / 128 * 128 + l.val, by omega⟩) + Ideal.ofBits .f32 0x358637BD#32) * Ideal.ofBits .f32 0x3DB504F3#32 := by
  unfold unit
  rw [if_pos (show k.val < 512 from k.isLt)]
  rfl

/-- A key channel of the normalised heads. -/
theorem unit_k (a : Fin 1536 → EReal) (k : Fin 512) : unit a ⟨512 + k.val, by omega⟩ =
    a ⟨512 + k.val, by omega⟩ * Ideal.rsqrt ((∑ l : Fin 128, a ⟨512 + (k.val / 128 * 128 + l.val), by omega⟩ * a ⟨512 + (k.val / 128 * 128 + l.val), by omega⟩) + Ideal.ofBits .f32 0x358637BD#32) := by
  have hh : ∀ l : Fin 128, head ⟨512 + k.val, by omega⟩ l = ⟨512 + (k.val / 128 * 128 + l.val), by omega⟩ := fun l =>
    Fin.ext (by show (512 + k.val) / 128 * 128 + l.val = 512 + (k.val / 128 * 128 + l.val); omega)
  unfold unit
  rw [if_neg (show ¬(512 + k.val) < 512 by omega), if_pos (show (512 + k.val) < 1024 by omega)]
  simp only [hh]

variable (x0 : FVec Ideal S16x4352x1024 .f32) (x1 : FVec Ideal S32x6x1024 .f32) (x2 : FVec Ideal S1x1024 .f32)
  (x3 : FVec Ideal S1024x8224 .f32) (x4 : FVec Ideal S8224 .f32) (x5 : FVec Ideal S5x1536 .f32)

/-- The context's scale. -/
theorem scaleC_at (b : Fin 16) (d : Fin 1024) : val_main_v19 (F := Ideal) x1 (ix2 b d) = x1 (ix3 (⟨2 * b.val, by omega⟩ : Fin 32) 1 d) := by
  pointwise [val_main_v19, val_main_v18, val_main_v3, val_main_v2, val_main_v0]
  exact congrArg (fun k => x1 (ix3 k 1 d)) (Fin.ext (by show b.val * 2 + 0 = 2 * b.val; omega))

/-- The context's shift. -/
theorem shiftC_at (b : Fin 16) (d : Fin 1024) : val_main_v26 (F := Ideal) x1 (ix2 b d) = x1 (ix3 (⟨2 * b.val, by omega⟩ : Fin 32) 0 d) := by
  pointwise [val_main_v26, val_main_v25, val_main_v3, val_main_v2, val_main_v0]
  exact congrArg (fun k => x1 (ix3 k 0 d)) (Fin.ext (by show b.val * 2 + 0 = 2 * b.val; omega))

/-- The context's normed and modulated rows. -/
theorem hidC_at (b : Fin 16) (t : Fin 256) (d : Fin 1024) :
    val_main_v29 (F := Ideal) x0 x1 x2 (ix3 b t d) = hid (fun d => x0 (ix3 b (ctx t) d)) (fun d => x2 (ix2 0 d)) (fun d => x1 (ix3 (modRow b (ctx t)) 1 d)) (fun d => x1 (ix3 (modRow b (ctx t)) 0 d)) d := by
  simp only [modRow_ctx]
  pointwise [val_main_v29, val_main_v28, val_main_v27, val_main_v25, val_main_v24, val_main_v23, val_main_v22, val_main_v21, val_main_cst_2, val_main_v20, val_main_v18, val_main_v17, val_main_v16, val_main_v15, val_main_v14, val_main_v13, val_main_v12, val_main_v11, val_main_v10, val_main_cst_1, val_main_v9, val_main_v8, val_main_cst_0, val_main_v7, val_main_v6, val_main_cst, val_main_v5, val_main_v1, val_main_v4, scaleC_at x1, shiftC_at x1]
  rfl

/-- The context's projected rows. -/
theorem rowC_at (b : Fin 16) (t : Fin 256) (k : Fin 8224) : val_main_v33 (F := Ideal) x0 x1 x2 x3 x4 (ix3 b t k) = prow x0 x1 x2 x3 x4 b (ctx t) k := by
  pointwise [val_main_v33, val_main_v32, val_main_v31, val_main_v30]
  simp only [hidC_at]
  rfl

/-- The latents' scale. -/
theorem scaleL_at (b : Fin 16) (d : Fin 1024) : val_main_v173 (F := Ideal) x1 (ix2 b d) = x1 (ix3 (⟨2 * b.val + 1, by omega⟩ : Fin 32) 1 d) := by
  pointwise [val_main_v173, val_main_v172, val_main_v127, val_main_v126, val_main_v0]
  exact congrArg (fun k => x1 (ix3 k 1 d)) (Fin.ext (by show b.val * 2 + 1 = 2 * b.val + 1; omega))

/-- The latents' shift. -/
theorem shiftL_at (b : Fin 16) (d : Fin 1024) : val_main_v180 (F := Ideal) x1 (ix2 b d) = x1 (ix3 (⟨2 * b.val + 1, by omega⟩ : Fin 32) 0 d) := by
  pointwise [val_main_v180, val_main_v179, val_main_v127, val_main_v126, val_main_v0]
  exact congrArg (fun k => x1 (ix3 k 0 d)) (Fin.ext (by show b.val * 2 + 1 = 2 * b.val + 1; omega))

/-- The latents' normed and modulated rows. -/
theorem hidL_at (b : Fin 16) (t : Fin 4096) (d : Fin 1024) :
    val_main_v183 (F := Ideal) x0 x1 x2 (ix3 b t d) = hid (fun d => x0 (ix3 b (lat t) d)) (fun d => x2 (ix2 0 d)) (fun d => x1 (ix3 (modRow b (lat t)) 1 d)) (fun d => x1 (ix3 (modRow b (lat t)) 0 d)) d := by
  simp only [modRow_lat]
  pointwise [val_main_v183, val_main_v182, val_main_v181, val_main_v179, val_main_v178, val_main_v177, val_main_v176, val_main_v175, val_main_cst_18, val_main_v174, val_main_v172, val_main_v171, val_main_v170, val_main_v169, val_main_v168, val_main_v167, val_main_v166, val_main_v165, val_main_v164, val_main_cst_17, val_main_v163, val_main_v162, val_main_cst_16, val_main_v161, val_main_v160, val_main_cst_15, val_main_v159, val_main_v125, val_main_v158, scaleL_at x1, shiftL_at x1]
  rfl

/-- The latents' projected rows. -/
theorem rowL_at (b : Fin 16) (t : Fin 4096) (k : Fin 8224) : val_main_v187 (F := Ideal) x0 x1 x2 x3 x4 (ix3 b t k) = prow x0 x1 x2 x3 x4 b (lat t) k := by
  pointwise [val_main_v187, val_main_v186, val_main_v185, val_main_v184]
  simp only [hidL_at]
  rfl

end Cert.Reference3Ideal.Proj

end
-- ==== Proof.ProjRefPack.lean ====
/- The projection call's reference: the recurrent branches' channels, the gates and the convolution. -/
module

public import proofs.«01_k».proof.Proof.Gen.Reference3Ideal.Read
public import proofs.«01_k».proof.Proof.ProjRefRows
public import Idealize.ShloMosaic.Lib.Pointwise
public import Idealize.ShloMosaic.Lib.Claim

@[expose] public section

set_option maxRecDepth 16384

noncomputable section

namespace Cert.Reference3Ideal.Proj

open Cert.Reference3Ideal Cert.Reference3Ideal.Gen Cert.Reference3Ideal.Read Cert.Proj Idealize.ShloMosaic

variable (x0 : FVec Ideal S16x4352x1024 .f32) (x1 : FVec Ideal S32x6x1024 .f32) (x2 : FVec Ideal S1x1024 .f32)
  (x3 : FVec Ideal S1024x8224 .f32) (x4 : FVec Ideal S8224 .f32) (x5 : FVec Ideal S5x1536 .f32)

/-- The context's attention channels. -/
theorem paC_at (b : Fin 16) (t : Fin 256) (k : Fin 1536) : val_main_v115 (F := Ideal) x0 x1 x2 x3 x4 (ix3 b t k) = resA (prow x0 x1 x2 x3 x4 b) (ctx t) k := by
  pointwise [val_main_v115, val_main_v36, val_main_v35, val_main_v34]
  simp only [rowC_at]
  generalize prow x0 x1 x2 x3 x4 b = P
  unfold resA plain
  rw [if_pos (show (ctx t).val < 256 from t.isLt)]
  split_ifs <;> (repeat first | rw [dif_pos (by omega)] | rw [dif_neg (by omega)] | rw [if_pos (by omega)] | rw [if_neg (by omega)]) <;> first
    | rfl
    | exact congrArg (P (ctx t)) (Fin.ext (by simp only []; omega))
    | (exfalso; omega)
    | contradiction

set_option maxHeartbeats 2000000 in
/-- The context's first recurrent branch. -/
theorem pmC_at (b : Fin 16) (t : Fin 256) (k : Fin 1664) : val_main_v116 (F := Ideal) x0 x1 x2 x3 x4 (ix3 b t k) = packM (prow x0 x1 x2 x3 x4 b (ctx t)) k := by
  pointwise [val_main_v116, val_main_v114, val_main_v113, val_main_v112, val_main_v111, val_main_v110, val_main_cst_8, val_main_v41, val_main_v40, val_main_v39, val_main_v38, val_main_v37]
  simp only [rowC_at]
  generalize prow x0 x1 x2 x3 x4 b = P
  unfold packM qkSource
  split_ifs <;> (repeat first | rw [dif_pos (by omega)] | rw [dif_neg (by omega)] | rw [if_pos (by omega)] | rw [if_neg (by omega)]) <;> first
    | rfl
    | exact congrArg (P (ctx t)) (Fin.ext (by simp only []; omega))
    | (exfalso; omega)
    | contradiction

/-- The context's second recurrent branch. -/
theorem pgC_at (b : Fin 16) (t : Fin 256) (k : Fin 640) : val_main_v118 (F := Ideal) x0 x1 x2 x3 x4 (ix3 b t k) = packG (prow x0 x1 x2 x3 x4 b (ctx t)) k := by
  pointwise [val_main_v118, val_main_v110, val_main_cst_8, val_main_v46, val_main_v45]
  simp only [rowC_at]
  generalize prow x0 x1 x2 x3 x4 b = P
  unfold packG
  split_ifs <;> (repeat first | rw [dif_pos (by omega)] | rw [dif_neg (by omega)] | rw [if_pos (by omega)] | rw [if_neg (by omega)]) <;> first
    | rfl
    | exact congrArg (P (ctx t)) (Fin.ext (by simp only []; omega))
    | (exfalso; omega)
    | contradiction

/-- The context's gates. -/
theorem gsC_at (b : Fin 16) (t : Fin 256) (k : Fin 3072) : val_main_v124 (F := Ideal) x0 x1 x2 x3 x4 (ix3 b t k) = gates (prow x0 x1 x2 x3 x4 b (ctx t)) k := by
  pointwise [val_main_v124, val_main_v123, val_main_cst_10, val_main_v122, val_main_v121, val_main_cst_9, val_main_v120, val_main_v119, val_main_v47]
  simp only [rowC_at]
  rfl

/-- The context's convolution input. -/
theorem catC_at (b : Fin 16) (t : Fin 256) (k : Fin 1536) : val_main_v48 (F := Ideal) x0 x1 x2 x3 x4 (ix3 b t k) = convIn (prow x0 x1 x2 x3 x4 b (ctx t)) k := by
  pointwise [val_main_v48, val_main_v44, val_main_v43, val_main_v42]
  simp only [rowC_at]
  generalize prow x0 x1 x2 x3 x4 b = P
  unfold convIn
  split_ifs <;> (repeat first | rw [dif_pos (by omega)] | rw [dif_neg (by omega)] | rw [if_pos (by omega)] | rw [if_neg (by omega)]) <;> first
    | rfl
    | exact congrArg (P (ctx t)) (Fin.ext (by simp only []; omega))
    | (exfalso; omega)
    | contradiction

set_option maxHeartbeats 2000000 in
/-- The context's convolution input with two zero tokens on either side. -/
theorem padC_at (b : Fin 16) (s : Fin 260) (k : Fin 1536) :
    val_main_v49 (F := Ideal) x0 x1 x2 x3 x4 (ix3 b s k) = if h : 2 ≤ s.val ∧ s.val - 2 < 256 then convIn (prow x0 x1 x2 x3 x4 b (ctx ⟨s.val - 2, h.2⟩)) k else 0 := by
  have hc := fun t => catC_at x0 x1 x2 x3 x4 b t k
  revert hc
  generalize prow x0 x1 x2 x3 x4 b = P
  intro hc
  unfold val_main_v49
  revert hc
  generalize val_main_v48 (F := Ideal) x0 x1 x2 x3 x4 = Z
  intro hc
  pointwise [val_main_v49, val_main_call0_v0, val_main_c, val_main_v48]
  simp only [zero_number, hc]

/-- The context's convolution with its SiLU. -/
theorem actC_at (b : Fin 16) (t : Fin 256) (k : Fin 1536) :
    val_main_v84 (F := Ideal) x0 x1 x2 x3 x4 x5 (ix3 b t k) = act (tap (prow x0 x1 x2 x3 x4 b) (ctx t)) (fun j c => x5 (ix2 j c)) k := by
  pointwise [val_main_v84, val_main_call1_v5, val_main_call1_v4, val_main_call1_cst_0, val_main_call1_v3, val_main_call1_v2, val_main_call1_cst, val_main_call1_v1, val_main_call1_v0, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50]
  simp only [padC_at]
  generalize prow x0 x1 x2 x3 x4 b = P
  have ht : ∀ (j : Fin 5) (s : ℕ) (hs : s = j.val + t.val), (if h : 2 ≤ s ∧ s - 2 < 256 then convIn (P (ctx ⟨s - 2, h.2⟩)) k else 0) = tap P (ctx t) j k := fun j s hs => by
    subst hs
    exact (tap_ctx P t j k).symm
  rw [ht 0 _ (by simp), ht 1 _ (by rfl), ht 2 _ (by rfl), ht 3 _ (by rfl), ht 4 _ (by rfl)]
  rfl

set_option maxHeartbeats 2000000 in
/-- The latents' first recurrent branch. -/
theorem pmL_at (b : Fin 16) (t : Fin 4096) (k : Fin 1664) : val_main_v302 (F := Ideal) x0 x1 x2 x3 x4 (ix3 b t k) = packM (prow x0 x1 x2 x3 x4 b (lat t)) k := by
  pointwise [val_main_v302, val_main_v300, val_main_v299, val_main_v298, val_main_v297, val_main_v296, val_main_cst_25, val_main_v195, val_main_v194, val_main_v193, val_main_v192, val_main_v191]
  simp only [rowL_at]
  generalize prow x0 x1 x2 x3 x4 b = P
  unfold packM qkSource
  split_ifs <;> (repeat first | rw [dif_pos (by omega)] | rw [dif_neg (by omega)] | rw [if_pos (by omega)] | rw [if_neg (by omega)]) <;> first
    | rfl
    | exact congrArg (P (lat t)) (Fin.ext (by simp only []; omega))
    | (exfalso; omega)
    | contradiction

/-- The latents' second recurrent branch. -/
theorem pgL_at (b : Fin 16) (t : Fin 4096) (k : Fin 640) : val_main_v304 (F := Ideal) x0 x1 x2 x3 x4 (ix3 b t k) = packG (prow x0 x1 x2 x3 x4 b (lat t)) k := by
  pointwise [val_main_v304, val_main_v296, val_main_cst_25, val_main_v200, val_main_v199]
  simp only [rowL_at]
  generalize prow x0 x1 x2 x3 x4 b = P
  unfold packG
  split_ifs <;> (repeat first | rw [dif_pos (by omega)] | rw [dif_neg (by omega)] | rw [if_pos (by omega)] | rw [if_neg (by omega)]) <;> first
    | rfl
    | exact congrArg (P (lat t)) (Fin.ext (by simp only []; omega))
    | (exfalso; omega)
    | contradiction

/-- The latents' gates. -/
theorem gsL_at (b : Fin 16) (t : Fin 4096) (k : Fin 3072) : val_main_v310 (F := Ideal) x0 x1 x2 x3 x4 (ix3 b t k) = gates (prow x0 x1 x2 x3 x4 b (lat t)) k := by
  pointwise [val_main_v310, val_main_v309, val_main_cst_27, val_main_v308, val_main_v307, val_main_cst_26, val_main_v306, val_main_v305, val_main_v201]
  simp only [rowL_at]
  rfl

/-- The latents' convolution input. -/
theorem catL_at (b : Fin 16) (t : Fin 4096) (k : Fin 1536) : val_main_v234 (F := Ideal) x0 x1 x2 x3 x4 (ix3 b t k) = convIn (prow x0 x1 x2 x3 x4 b (lat t)) k := by
  pointwise [val_main_v234, val_main_v198, val_main_v197, val_main_v196]
  simp only [rowL_at]
  generalize prow x0 x1 x2 x3 x4 b = P
  unfold convIn
  split_ifs <;> (repeat first | rw [dif_pos (by omega)] | rw [dif_neg (by omega)] | rw [if_pos (by omega)] | rw [if_neg (by omega)]) <;> first
    | rfl
    | exact congrArg (P (lat t)) (Fin.ext (by simp only []; omega))
    | (exfalso; omega)
    | contradiction

set_option maxHeartbeats 2000000 in
/-- The latents' convolution input with two zero tokens on either side. -/
theorem padL_at (b : Fin 16) (s : Fin 4100) (k : Fin 1536) :
    val_main_v235 (F := Ideal) x0 x1 x2 x3 x4 (ix3 b s k) = if h : 2 ≤ s.val ∧ s.val - 2 < 4096 then convIn (prow x0 x1 x2 x3 x4 b (lat ⟨s.val - 2, h.2⟩)) k else 0 := by
  have hc := fun t => catL_at x0 x1 x2 x3 x4 b t k
  revert hc
  generalize prow x0 x1 x2 x3 x4 b = P
  intro hc
  unfold val_main_v235
  revert hc
  generalize val_main_v234 (F := Ideal) x0 x1 x2 x3 x4 = Z
  intro hc
  pointwise [val_main_v235, val_main_call2_v0, val_main_c_19, val_main_v234]
  simp only [zero_number, hc]

/-- The latents' convolution with its SiLU. -/
theorem actL_at (b : Fin 16) (t : Fin 4096) (k : Fin 1536) :
    val_main_v270 (F := Ideal) x0 x1 x2 x3 x4 x5 (ix3 b t k) = act (tap (prow x0 x1 x2 x3 x4 b) (lat t)) (fun j c => x5 (ix2 j c)) k := by
  pointwise [val_main_v270, val_main_call3_v5, val_main_call3_v4, val_main_call3_cst_0, val_main_call3_v3, val_main_call3_v2, val_main_call3_cst, val_main_call3_v1, val_main_call3_v0, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236]
  simp only [padL_at]
  generalize prow x0 x1 x2 x3 x4 b = P
  have ht : ∀ (j : Fin 5) (s : ℕ) (hs : s = j.val + t.val), (if h : 2 ≤ s ∧ s - 2 < 4096 then convIn (P (lat ⟨s - 2, h.2⟩)) k else 0) = tap P (lat t) j k := fun j s hs => by
    subst hs
    exact (tap_lat P t j k).symm
  rw [ht 0 _ (by simp), ht 1 _ (by rfl), ht 2 _ (by rfl), ht 3 _ (by rfl), ht 4 _ (by rfl)]
  rfl

end Cert.Reference3Ideal.Proj

end
-- ==== Proof.ProjRefRope.lean ====
/- The projection call's reference: the rotation of the latents' queries and keys. -/
module

public import proofs.«01_k».proof.Proof.Gen.Reference3Ideal.Read
public import proofs.«01_k».proof.Proof.ProjRefRows
public import Idealize.ShloMosaic.Lib.Pointwise
public import Idealize.ShloMosaic.Lib.Claim

@[expose] public section

set_option maxRecDepth 16384

noncomputable section

namespace Cert.Reference3Ideal.Proj

open Cert.Reference3Ideal Cert.Reference3Ideal.Gen Cert.Reference3Ideal.Read Cert.Proj Idealize.ShloMosaic

variable (x0 : FVec Ideal S16x4352x1024 .f32) (x1 : FVec Ideal S32x6x1024 .f32) (x2 : FVec Ideal S1x1024 .f32)
  (x3 : FVec Ideal S1024x8224 .f32) (x4 : FVec Ideal S8224 .f32) (x5 : FVec Ideal S5x1536 .f32)

/-- The rotation frequencies. -/
theorem freq_at (i : Fin 16) : val_main_v144 (F := Ideal) (ix1 i) = freq i.val := by
  pointwise [val_main_v144, val_main_v143, val_main_cst_14, val_main_v142, val_main_v141, val_main_cst_13, val_main_v140, val_main_v139, val_main_v138, val_main_cst_12, val_main_v137, val_main_v136, val_main_cst_11, val_main_v135, freq]

/-- The latents' grid rows. -/
theorem gridRow_at (n : Fin 4096) : val_main_v130 (F := Ideal) (ix1 n) = FloatOps.sitofp (F := Ideal) .f32 (BitVec.ofNat 32 (n.val / 64)) := by
  pointwise [val_main_v130, val_main_v129, val_main_v128]

/-- The latents' grid columns. -/
theorem gridCol_at (n : Fin 4096) : val_main_v134 (F := Ideal) (ix1 n) = FloatOps.sitofp (F := Ideal) .f32 (BitVec.ofNat 32 (n.val % 64)) := by
  pointwise [val_main_v134, val_main_v133, val_main_v132, val_main_v131]

/-- The angles by grid row. -/
theorem rowAngle_at (n : Fin 4096) (i : Fin 16) : val_main_v149 (F := Ideal) (ix2 n i) = FloatOps.sitofp (F := Ideal) .f32 (BitVec.ofNat 32 (n.val / 64)) * freq i.val := by
  rw [← gridRow_at, ← freq_at]
  pointwise [val_main_v149, val_main_v148, val_main_v147, val_main_v146, val_main_v145]

/-- The angles by grid column. -/
theorem colAngle_at (n : Fin 4096) (i : Fin 16) : val_main_v154 (F := Ideal) (ix2 n i) = FloatOps.sitofp (F := Ideal) .f32 (BitVec.ofNat 32 (n.val % 64)) * freq i.val := by
  rw [← gridCol_at, ← freq_at]
  pointwise [val_main_v154, val_main_v153, val_main_v152, val_main_v151, val_main_v150]

/-- The angles. -/
theorem angle_at (n : Fin 4096) (l : Fin 64) : val_main_v155 (F := Ideal) (ix2 n l) = angle n.val l := by
  have hr : ∀ i : Fin 16, l.val < 32 → l.val % 16 = i.val → val_main_v149 (F := Ideal) (ix2 n i) = angle n.val l := fun i h hi =>
    (rowAngle_at n i).trans (angle_row n.val l _ h hi)
  have hc : ∀ i : Fin 16, ¬l.val < 32 → l.val % 16 = i.val → val_main_v154 (F := Ideal) (ix2 n i) = angle n.val l := fun i h hi =>
    (colAngle_at n i).trans (angle_col n.val l _ h hi)
  unfold val_main_v155
  revert hr hc
  generalize val_main_v149 (F := Ideal) = R
  generalize val_main_v154 (F := Ideal) = C
  generalize angle n.val l = A
  intro hr hc
  pointwise
  split_ifs <;> (repeat first | rw [dif_pos (by omega)] | rw [dif_neg (by omega)] | rw [if_pos (by omega)] | rw [if_neg (by omega)]) <;> first
    | rfl
    | exact hr _ (by omega) (by simp only []; omega)
    | exact hc _ (by omega) (by simp only []; omega)
    | (exfalso; omega)
    | contradiction

/-- The cosines. -/
theorem cos_at (n : Fin 4096) (l : Fin 64) : val_main_v156 (F := Ideal) (ix2 n l) = Ideal.cos (angle n.val l) := by
  rw [← angle_at]
  rfl

/-- The sines. -/
theorem sin_at (n : Fin 4096) (l : Fin 64) : val_main_v157 (F := Ideal) (ix2 n l) = Ideal.sin (angle n.val l) := by
  rw [← angle_at]
  rfl

/-- Each half head's pairs of channel blocks swapped, the second negated. -/
def swapped (q : FVec Ideal S16x4096x4x2x64 .f32) : FVec Ideal S16x4096x4x2x64 .f32 :=
  concatenate S16x4096x4x2x64 4 [⟨S16x4096x4x2x16, Host.negf (extractStridedSlice S16x4096x4x2x16 ![0, 0, 0, 0, 16] q slices_S16x4096x4x2x64_S16x4096x4x2x16_0_0_0_0_16)⟩, ⟨S16x4096x4x2x16, extractStridedSlice S16x4096x4x2x16 ![0, 0, 0, 0, 0] q slices_S16x4096x4x2x64_S16x4096x4x2x16_0_0_0_0_0⟩,
    ⟨S16x4096x4x2x16, Host.negf (extractStridedSlice S16x4096x4x2x16 ![0, 0, 0, 0, 48] q slices_S16x4096x4x2x64_S16x4096x4x2x16_0_0_0_0_48)⟩, ⟨S16x4096x4x2x16, extractStridedSlice S16x4096x4x2x16 ![0, 0, 0, 0, 32] q slices_S16x4096x4x2x64_S16x4096x4x2x16_0_0_0_0_32⟩]
    concatenates_S16x4096x4x2x16_S16x4096x4x2x16_S16x4096x4x2x16_S16x4096x4x2x16_S16x4096x4x2x64_d4

set_option maxHeartbeats 1000000 in
theorem swapped_at (q : FVec Ideal S16x4096x4x2x64 .f32) (b : Fin 16) (t : Fin 4096) (h : Fin 4) (i : Fin 2) (l : Fin 64) :
    swapped q (ix5 b t h i l) = if l.val % 32 < 16 then -q (ix5 b t h i ⟨(l.val + 16) % 64, by omega⟩) else q (ix5 b t h i ⟨l.val - 16, by omega⟩) := by
  pointwise [swapped]
  split_ifs <;> (repeat first | rw [if_pos (show l.val % 32 < 16 by omega)] | rw [if_neg (show ¬l.val % 32 < 16 by omega)]) <;> first
    | rfl
    | exact congrArg (fun u : Fin 64 => -q (ix5 b t h i u)) (Fin.ext (by simp only []; omega))
    | exact congrArg (fun u : Fin 64 => q (ix5 b t h i u)) (Fin.ext (by simp only []; omega))
    | (exfalso; omega)
    | contradiction

/-- A table of angles' values, one row a token, at every head. -/
def everyHead (a : FVec Ideal S4096x64 .f32) : FVec Ideal S16x4096x4x2x64 .f32 :=
  broadcastInDim S16x4096x4x2x64 ![0, 1, 2, 3, 4] bcast_S1x4096x1x1x64_S16x4096x4x2x64_0_1_2_3_4 (broadcastInDim S1x4096x1x1x64 ![1, 4] bcast_S4096x64_S1x4096x1x1x64_1_4 a)

theorem everyHead_at (a : FVec Ideal S4096x64 .f32) (b : Fin 16) (t : Fin 4096) (h : Fin 4) (i : Fin 2) (l : Fin 64) :
    everyHead a (ix5 b t h i l) = a (ix2 t l) := by
  pointwise [everyHead]

/-- Queries or keys seen head by head. -/
def halves (x : FVec Ideal S16x4096x512 .f32) : FVec Ideal S16x4096x4x2x64 .f32 := shapeCast _ x shapeCasts_S16x4096x512_S16x4096x4x2x64

theorem halves_at (x : FVec Ideal S16x4096x512 .f32) (b : Fin 16) (t : Fin 4096) (h : Fin 4) (i : Fin 2) (l : Fin 64) :
    halves x (ix5 b t h i l) = x (ix3 b t ⟨h.val * 128 + i.val * 64 + l.val, by omega⟩) := by
  pointwise [halves]

/-- The rotation of queries or keys by the tables. -/
def rotate (x : FVec Ideal S16x4096x512 .f32) (cs sn : FVec Ideal S4096x64 .f32) : FVec Ideal S16x4096x512 .f32 :=
  shapeCast _ (addf (mulf (halves x) (everyHead cs)) (mulf (swapped (halves x)) (everyHead sn))) shapeCasts_S16x4096x4x2x64_S16x4096x512

theorem rotate_at (x : FVec Ideal S16x4096x512 .f32) (cs sn : FVec Ideal S4096x64 .f32) (b : Fin 16) (t : Fin 4096) (k : Fin 512) :
    rotate x cs sn (ix3 b t k) = x (ix3 b t k) * cs (ix2 t ⟨k.val % 64, by omega⟩) +
      (if k.val % 32 < 16 then -x (ix3 b t ⟨(k.val + 16) % 512, by omega⟩) else x (ix3 b t ⟨k.val - 16, by omega⟩)) * sn (ix2 t ⟨k.val % 64, by omega⟩) := by
  unfold rotate
  have h1 := halves_at x b t
  have h2 := swapped_at (halves x) b t
  have h3 := everyHead_at cs b t
  have h4 := everyHead_at sn b t
  revert h1 h2 h3 h4
  generalize swapped (halves x) = W
  generalize halves x = H
  generalize everyHead cs = C
  generalize everyHead sn = S
  intro h1 h2 h3 h4
  pointwise
  simp only [h1, h2, h3, h4]
  rw [show (⟨k.val / 128 * 128 + k.val / 64 % 2 * 64 + k.val % 64, by omega⟩ : Fin 512) = k from Fin.ext (by simp only []; omega)]
  by_cases h : k.val % 32 < 16
  · rw [if_pos h, if_pos (show k.val % 64 % 32 < 16 by omega)]
    rw [show (⟨k.val / 128 * 128 + k.val / 64 % 2 * 64 + (k.val % 64 + 16) % 64, by omega⟩ : Fin 512) = ⟨(k.val + 16) % 512, by omega⟩ from Fin.ext (by simp only []; omega)]
  · rw [if_neg h, if_neg (show ¬k.val % 64 % 32 < 16 by omega)]
    rw [show (⟨k.val / 128 * 128 + k.val / 64 % 2 * 64 + (k.val % 64 - 16), by omega⟩ : Fin 512) = ⟨k.val - 16, by omega⟩ from Fin.ext (by simp only []; omega)]

/-- The latents' rotated queries. -/
theorem ropeq_at (b : Fin 16) (t : Fin 4096) (k : Fin 512) : val_main_v217 (F := Ideal) x0 x1 x2 x3 x4 (ix3 b t k) =
    roped (fun l => Ideal.cos (angle t.val l)) (fun l => Ideal.sin (angle t.val l)) (prow x0 x1 x2 x3 x4 b (lat t)) ⟨k.val, by omega⟩ := by
  have hx : ∀ k : Fin 512, val_main_v188 (F := Ideal) x0 x1 x2 x3 x4 (ix3 b t k) = prow x0 x1 x2 x3 x4 b (lat t) ⟨k.val, by omega⟩ := fun k => by
    pointwise [val_main_v188]
    exact rowL_at x0 x1 x2 x3 x4 b t _
  show rotate (val_main_v188 (F := Ideal) x0 x1 x2 x3 x4) (val_main_v156 (F := Ideal)) (val_main_v157 (F := Ideal)) (ix3 b t k) = _
  rw [rotate_at]
  simp only [hx, cos_at, sin_at]
  generalize prow x0 x1 x2 x3 x4 b = P
  unfold roped turned
  rw [if_pos (show k.val < 1024 by omega)]
  by_cases h : k.val % 32 < 16
  · rw [if_pos h, if_pos h]
    rw [show (⟨(k.val + 16) % 512, by omega⟩ : Fin 8224) = ⟨k.val + 16, by omega⟩ from Fin.ext (by simp only []; omega)]
  · rw [if_neg h, if_neg h]

/-- The latents' rotated keys. -/
theorem ropek_at (b : Fin 16) (t : Fin 4096) (k : Fin 512) : val_main_v233 (F := Ideal) x0 x1 x2 x3 x4 (ix3 b t k) =
    roped (fun l => Ideal.cos (angle t.val l)) (fun l => Ideal.sin (angle t.val l)) (prow x0 x1 x2 x3 x4 b (lat t)) ⟨512 + k.val, by omega⟩ := by
  have hx : ∀ k : Fin 512, val_main_v189 (F := Ideal) x0 x1 x2 x3 x4 (ix3 b t k) = prow x0 x1 x2 x3 x4 b (lat t) ⟨512 + k.val, by omega⟩ := fun k => by
    pointwise [val_main_v189]
    exact rowL_at x0 x1 x2 x3 x4 b t _
  show rotate (val_main_v189 (F := Ideal) x0 x1 x2 x3 x4) (val_main_v156 (F := Ideal)) (val_main_v157 (F := Ideal)) (ix3 b t k) = _
  rw [rotate_at]
  simp only [hx, cos_at, sin_at]
  generalize prow x0 x1 x2 x3 x4 b = P
  unfold roped turned
  rw [if_pos (show 512 + k.val < 1024 by omega)]
  have e : (⟨(512 + k.val) % 64, by omega⟩ : Fin 64) = ⟨k.val % 64, by omega⟩ := Fin.ext (by simp only []; omega)
  by_cases h : k.val % 32 < 16
  · rw [if_pos h, if_pos (show (512 + k.val) % 32 < 16 by omega)]
    rw [show (⟨512 + (k.val + 16) % 512, by omega⟩ : Fin 8224) = ⟨512 + k.val + 16, by omega⟩ from Fin.ext (by simp only []; omega)]
    simp only [e]
  · rw [if_neg h, if_neg (show ¬(512 + k.val) % 32 < 16 by omega)]
    rw [show (⟨512 + (k.val - 16), by omega⟩ : Fin 8224) = ⟨512 + k.val - 16, by omega⟩ from Fin.ext (by simp only []; omega)]
    simp only [e]

/-- The latents' attention channels. -/
theorem paL_at (b : Fin 16) (t : Fin 4096) (k : Fin 1536) : val_main_v301 (F := Ideal) x0 x1 x2 x3 x4 (ix3 b t k) = resA (prow x0 x1 x2 x3 x4 b) (lat t) k := by
  pointwise [val_main_v301, val_main_v190]
  simp only [rowL_at, ropeq_at, ropek_at]
  generalize prow x0 x1 x2 x3 x4 b = P
  have e : (lat t).val - 256 = t.val := by show 256 + t.val - 256 = t.val; omega
  unfold resA
  rw [if_neg (show ¬(lat t).val < 256 by show ¬256 + t.val < 256; omega), e]
  generalize (fun l => Ideal.cos (angle t.val l)) = cs
  generalize (fun l => Ideal.sin (angle t.val l)) = sn
  have hv : ∀ k : Fin 1536, ¬k.val < 1024 → roped cs sn (P (lat t)) k = P (lat t) ⟨k.val, by omega⟩ := fun k h => by
    unfold roped
    rw [if_neg h]
  split_ifs <;> (repeat first | rw [dif_pos (by omega)] | rw [dif_neg (by omega)] | rw [if_pos (by omega)] | rw [if_neg (by omega)]) <;> first
    | rfl
    | exact congrArg (roped cs sn (P (lat t))) (Fin.ext (by simp only []; omega))
    | (refine Eq.trans ?_ (hv k (by omega)).symm; exact congrArg (P (lat t)) (Fin.ext (by simp only []; omega)))
    | (exfalso; omega)
    | contradiction

end Cert.Reference3Ideal.Proj

end
-- ==== Proof.ProjRefUnit.lean ====
/- The projection call's reference: the normalised queries and keys. -/
module

public import proofs.«01_k».proof.Proof.Gen.Reference3Ideal.Read
public import proofs.«01_k».proof.Proof.ProjRefPack
public import Idealize.ShloMosaic.Lib.Pointwise
public import Idealize.ShloMosaic.Lib.Claim

@[expose] public section

set_option maxRecDepth 16384

noncomputable section

namespace Cert.Reference3Ideal.Proj

open Cert.Reference3Ideal Cert.Reference3Ideal.Gen Cert.Reference3Ideal.Read Cert.Proj Idealize.ShloMosaic

variable (x0 : FVec Ideal S16x4352x1024 .f32) (x1 : FVec Ideal S32x6x1024 .f32) (x2 : FVec Ideal S1x1024 .f32)
  (x3 : FVec Ideal S1024x8224 .f32) (x4 : FVec Ideal S8224 .f32) (x5 : FVec Ideal S5x1536 .f32)

/-- The context's normalised queries. -/
theorem qC_at (b : Fin 16) (t : Fin 256) (k : Fin 512) : val_main_v99 (F := Ideal) x0 x1 x2 x3 x4 x5 (ix3 b t k) = unit (fun k => val_main_v84 (F := Ideal) x0 x1 x2 x3 x4 x5 (ix3 b t k)) ⟨k.val, by omega⟩ := by
  rw [unit_q]
  pointwise [val_main_v99, val_main_v98, val_main_v97, val_main_cst_5, val_main_v96, val_main_v95, val_main_v94, val_main_v93, val_main_v92, val_main_cst_4, val_main_v91, val_main_v90, val_main_cst_3, val_main_v89, val_main_v88, val_main_v85]

/-- The context's normalised keys. -/
theorem kC_at (b : Fin 16) (t : Fin 256) (k : Fin 512) : val_main_v109 (F := Ideal) x0 x1 x2 x3 x4 x5 (ix3 b t k) = unit (fun k => val_main_v84 (F := Ideal) x0 x1 x2 x3 x4 x5 (ix3 b t k)) ⟨512 + k.val, by omega⟩ := by
  rw [unit_k]
  pointwise [val_main_v109, val_main_v108, val_main_v107, val_main_v106, val_main_v105, val_main_v104, val_main_cst_7, val_main_v103, val_main_v102, val_main_cst_6, val_main_v101, val_main_v100, val_main_v86]

/-- Three arrays side by side. -/
theorem sideC (Q K W : FVec Ideal S16x256x512 .f32) (b : Fin 16) (t : Fin 256) (k : Fin 1536) :
    concatenate S16x256x1536 2 [⟨S16x256x512, Q⟩, ⟨S16x256x512, K⟩, ⟨S16x256x512, W⟩] concatenates_S16x256x512_S16x256x512_S16x256x512_S16x256x1536_d2 (ix3 b t k)
      = if h : k.val < 512 then Q (ix3 b t ⟨k.val, h⟩) else if h' : k.val < 1024 then K (ix3 b t ⟨k.val - 512, by omega⟩) else W (ix3 b t ⟨k.val - 1024, by omega⟩) := by
  pointwise []
  split_ifs <;> (repeat first | rw [dif_pos (by omega)] | rw [dif_neg (by omega)] | rw [if_pos (by omega)] | rw [if_neg (by omega)]) <;> first
    | rfl
    | exact congrArg (fun u => K (ix3 b t u)) (Fin.ext (by simp only []; omega))
    | exact congrArg (fun u => W (ix3 b t u)) (Fin.ext (by simp only []; omega))
    | (exfalso; omega)
    | contradiction

/-- The context's values. -/
theorem vC_at (b : Fin 16) (t : Fin 256) (k : Fin 512) : val_main_v87 (F := Ideal) x0 x1 x2 x3 x4 x5 (ix3 b t k) = val_main_v84 (F := Ideal) x0 x1 x2 x3 x4 x5 (ix3 b t ⟨1024 + k.val, by omega⟩) := by
  pointwise [val_main_v87]

/-- The context's normalised queries, keys and values. -/
theorem qkvC_at (b : Fin 16) (t : Fin 256) (k : Fin 1536) : val_main_v117 (F := Ideal) x0 x1 x2 x3 x4 x5 (ix3 b t k) = resQ (prow x0 x1 x2 x3 x4 b) x5 (ctx t) k := by
  have e : (fun k => val_main_v84 (F := Ideal) x0 x1 x2 x3 x4 x5 (ix3 b t k)) = act (tap (prow x0 x1 x2 x3 x4 b) (ctx t)) (fun j c => x5 (ix2 j c)) := funext fun k => actC_at x0 x1 x2 x3 x4 x5 b t k
  unfold resQ
  rw [← e]
  rw [val_main_v117, sideC]
  by_cases h : k.val < 512
  · rw [dif_pos h]
    exact qC_at x0 x1 x2 x3 x4 x5 b t ⟨k.val, h⟩
  rw [dif_neg h]
  by_cases h' : k.val < 1024
  · rw [dif_pos h', kC_at]
    exact congrArg (unit _) (Fin.ext (show 512 + (k.val - 512) = k.val by omega))
  · rw [dif_neg h', vC_at]
    unfold unit
    rw [if_neg h, if_neg h']
    exact congrArg (fun u => val_main_v84 (F := Ideal) x0 x1 x2 x3 x4 x5 (ix3 b t u)) (Fin.ext (show 1024 + (k.val - 1024) = k.val by omega))

/-- The latents' channels as heads of 128. -/
theorem heads_in (X : FVec Ideal S16x4096x512 .f32) (b : Fin 16) (t : Fin 4096) (h : Fin 4) (l : Fin 128) :
    shapeCast S16x4096x4x128 X shapeCasts_S16x4096x512_S16x4096x4x128 (ix4 b t h l) = X (ix3 b t ⟨h.val * 128 + l.val, by omega⟩) := by
  pointwise []

/-- The latents' heads as channels. -/
theorem heads_out (Y : FVec Ideal S16x4096x4x128 .f32) (b : Fin 16) (t : Fin 4096) (k : Fin 512) :
    shapeCast S16x4096x512 Y shapeCasts_S16x4096x4x128_S16x4096x512 (ix3 b t k) = Y (ix4 b t ⟨k.val / 128, by omega⟩ ⟨k.val % 128, by omega⟩) := by
  pointwise []

/-- The latents' queries' heads. -/
theorem qL_head (b : Fin 16) (t : Fin 4096) (h : Fin 4) (l : Fin 128) :
    val_main_v274 (F := Ideal) x0 x1 x2 x3 x4 x5 (ix4 b t h l) = val_main_v270 (F := Ideal) x0 x1 x2 x3 x4 x5 (ix3 b t ⟨h.val * 128 + l.val, by omega⟩) := by
  unfold val_main_v274
  rw [heads_in]
  pointwise [val_main_v271]

/-- The latents' queries' heads' squared lengths. -/
theorem qL_sum (b : Fin 16) (t : Fin 4096) (h : Fin 4) :
    val_main_v276 (F := Ideal) x0 x1 x2 x3 x4 x5 (ix3 b t h) = ∑ l' : Fin 128, val_main_v274 (F := Ideal) x0 x1 x2 x3 x4 x5 (ix4 b t h l') * val_main_v274 (F := Ideal) x0 x1 x2 x3 x4 x5 (ix4 b t h l') := by
  rw [val_main_v276_apply]
  have z : (val_main_cst_20 (F := Ideal)) (Shape.Idx.first h_S_) = (0 : EReal) := by pointwise [val_main_cst_20]
  refine (congrArg (· + _) z).trans ((zero_add _).trans (Finset.sum_congr rfl fun l _ => ?_))
  have e : idx_main_v276 (ix3 b t h) l = ix4 b t h l := funext fun a => by fin_cases a <;> rfl
  rw [e, val_main_v275_apply]
  rfl

/-- The latents' queries' heads, normalised. -/
theorem qL_unit (b : Fin 16) (t : Fin 4096) (h : Fin 4) (l : Fin 128) :
    val_main_v284 (F := Ideal) x0 x1 x2 x3 x4 x5 (ix4 b t h l) = val_main_v274 (F := Ideal) x0 x1 x2 x3 x4 x5 (ix4 b t h l) * Ideal.rsqrt ((∑ l' : Fin 128, val_main_v274 (F := Ideal) x0 x1 x2 x3 x4 x5 (ix4 b t h l') * val_main_v274 (F := Ideal) x0 x1 x2 x3 x4 x5 (ix4 b t h l')) + Ideal.ofBits .f32 0x358637BD#32) * Ideal.ofBits .f32 0x3DB504F3#32 := by
  have e : idx_main_v277 (idx_main_v281 (ix4 b t h l)) = ix3 b t h := funext fun a => by fin_cases a <;> rfl
  rw [← qL_sum, val_main_v284_apply, val_main_v283_apply, val_main_cst_22_apply, val_main_v282_apply, val_main_v281_apply, val_main_v280_apply, val_main_v279_apply, val_main_v278_apply, val_main_cst_21_apply, val_main_v277_apply, e]
  rfl

/-- The latents' normalised queries. -/
theorem qL_at (b : Fin 16) (t : Fin 4096) (k : Fin 512) : val_main_v285 (F := Ideal) x0 x1 x2 x3 x4 x5 (ix3 b t k) = unit (fun k => val_main_v270 (F := Ideal) x0 x1 x2 x3 x4 x5 (ix3 b t k)) ⟨k.val, by omega⟩ := by
  unfold val_main_v285
  rw [unit_q, heads_out, qL_unit]
  simp only [qL_head]
  have e : (⟨k.val / 128 * 128 + k.val % 128, by omega⟩ : Fin 1536) = ⟨k.val, by omega⟩ := Fin.ext (by simp only []; omega)
  rw [e]

/-- The latents' keys' heads. -/
theorem kL_head (b : Fin 16) (t : Fin 4096) (h : Fin 4) (l : Fin 128) :
    val_main_v286 (F := Ideal) x0 x1 x2 x3 x4 x5 (ix4 b t h l) = val_main_v270 (F := Ideal) x0 x1 x2 x3 x4 x5 (ix3 b t ⟨512 + (h.val * 128 + l.val), by omega⟩) := by
  unfold val_main_v286
  rw [heads_in]
  pointwise [val_main_v272]

/-- The latents' keys' heads' squared lengths. -/
theorem kL_sum (b : Fin 16) (t : Fin 4096) (h : Fin 4) :
    val_main_v288 (F := Ideal) x0 x1 x2 x3 x4 x5 (ix3 b t h) = ∑ l' : Fin 128, val_main_v286 (F := Ideal) x0 x1 x2 x3 x4 x5 (ix4 b t h l') * val_main_v286 (F := Ideal) x0 x1 x2 x3 x4 x5 (ix4 b t h l') := by
  rw [val_main_v288_apply]
  have z : (val_main_cst_23 (F := Ideal)) (Shape.Idx.first h_S_) = (0 : EReal) := by pointwise [val_main_cst_23]
  refine (congrArg (· + _) z).trans ((zero_add _).trans (Finset.sum_congr rfl fun l _ => ?_))
  have e : idx_main_v288 (ix3 b t h) l = ix4 b t h l := funext fun a => by fin_cases a <;> rfl
  rw [e, val_main_v287_apply]
  rfl

/-- The latents' keys' heads, normalised. -/
theorem kL_unit (b : Fin 16) (t : Fin 4096) (h : Fin 4) (l : Fin 128) :
    val_main_v294 (F := Ideal) x0 x1 x2 x3 x4 x5 (ix4 b t h l) = val_main_v286 (F := Ideal) x0 x1 x2 x3 x4 x5 (ix4 b t h l) * Ideal.rsqrt ((∑ l' : Fin 128, val_main_v286 (F := Ideal) x0 x1 x2 x3 x4 x5 (ix4 b t h l') * val_main_v286 (F := Ideal) x0 x1 x2 x3 x4 x5 (ix4 b t h l')) + Ideal.ofBits .f32 0x358637BD#32) := by
  have e : idx_main_v289 (idx_main_v293 (ix4 b t h l)) = ix3 b t h := funext fun a => by fin_cases a <;> rfl
  rw [← kL_sum, val_main_v294_apply, val_main_v293_apply, val_main_v292_apply, val_main_v291_apply, val_main_v290_apply, val_main_cst_24_apply, val_main_v289_apply, e]
  rfl

/-- The latents' normalised keys. -/
theorem kL_at (b : Fin 16) (t : Fin 4096) (k : Fin 512) : val_main_v295 (F := Ideal) x0 x1 x2 x3 x4 x5 (ix3 b t k) = unit (fun k => val_main_v270 (F := Ideal) x0 x1 x2 x3 x4 x5 (ix3 b t k)) ⟨512 + k.val, by omega⟩ := by
  unfold val_main_v295
  rw [unit_k, heads_out, kL_unit]
  simp only [kL_head]
  have e : (⟨512 + (k.val / 128 * 128 + k.val % 128), by omega⟩ : Fin 1536) = ⟨512 + k.val, by omega⟩ := Fin.ext (by simp only []; omega)
  rw [e]

/-- Three arrays side by side. -/
theorem sideL (Q K W : FVec Ideal S16x4096x512 .f32) (b : Fin 16) (t : Fin 4096) (k : Fin 1536) :
    concatenate S16x4096x1536 2 [⟨S16x4096x512, Q⟩, ⟨S16x4096x512, K⟩, ⟨S16x4096x512, W⟩] concatenates_S16x4096x512_S16x4096x512_S16x4096x512_S16x4096x1536_d2 (ix3 b t k)
      = if h : k.val < 512 then Q (ix3 b t ⟨k.val, h⟩) else if h' : k.val < 1024 then K (ix3 b t ⟨k.val - 512, by omega⟩) else W (ix3 b t ⟨k.val - 1024, by omega⟩) := by
  pointwise []
  split_ifs <;> (repeat first | rw [dif_pos (by omega)] | rw [dif_neg (by omega)] | rw [if_pos (by omega)] | rw [if_neg (by omega)]) <;> first
    | rfl
    | exact congrArg (fun u => K (ix3 b t u)) (Fin.ext (by simp only []; omega))
    | exact congrArg (fun u => W (ix3 b t u)) (Fin.ext (by simp only []; omega))
    | (exfalso; omega)
    | contradiction

/-- The latents' values. -/
theorem vL_at (b : Fin 16) (t : Fin 4096) (k : Fin 512) : val_main_v273 (F := Ideal) x0 x1 x2 x3 x4 x5 (ix3 b t k) = val_main_v270 (F := Ideal) x0 x1 x2 x3 x4 x5 (ix3 b t ⟨1024 + k.val, by omega⟩) := by
  pointwise [val_main_v273]

/-- The latents' normalised queries, keys and values. -/
theorem qkvL_at (b : Fin 16) (t : Fin 4096) (k : Fin 1536) : val_main_v303 (F := Ideal) x0 x1 x2 x3 x4 x5 (ix3 b t k) = resQ (prow x0 x1 x2 x3 x4 b) x5 (lat t) k := by
  have e : (fun k => val_main_v270 (F := Ideal) x0 x1 x2 x3 x4 x5 (ix3 b t k)) = act (tap (prow x0 x1 x2 x3 x4 b) (lat t)) (fun j c => x5 (ix2 j c)) := funext fun k => actL_at x0 x1 x2 x3 x4 x5 b t k
  unfold resQ
  rw [← e]
  rw [val_main_v303, sideL]
  by_cases h : k.val < 512
  · rw [dif_pos h]
    exact qL_at x0 x1 x2 x3 x4 x5 b t ⟨k.val, h⟩
  rw [dif_neg h]
  by_cases h' : k.val < 1024
  · rw [dif_pos h', kL_at]
    exact congrArg (unit _) (Fin.ext (show 512 + (k.val - 512) = k.val by omega))
  · rw [dif_neg h', vL_at]
    unfold unit
    rw [if_neg h, if_neg h']
    exact congrArg (fun u => val_main_v270 (F := Ideal) x0 x1 x2 x3 x4 x5 (ix3 b t u)) (Fin.ext (show 1024 + (k.val - 1024) = k.val by omega))

end Cert.Reference3Ideal.Proj

end
-- ==== Proof.ProjRefRes.lean ====
/- The projection call's reference: its five results, every token's, the context's first and then the latents'. -/
module

public import proofs.«01_k».proof.Proof.Gen.Reference3Ideal.Read
public import proofs.«01_k».proof.Proof.ProjRefPack
public import proofs.«01_k».proof.Proof.ProjRefRope
public import proofs.«01_k».proof.Proof.ProjRefUnit
public import Idealize.ShloMosaic.Lib.Pointwise
public import Idealize.ShloMosaic.Lib.Claim

@[expose] public section

set_option maxRecDepth 16384

noncomputable section

namespace Cert.Reference3Ideal.Proj

open Cert.Reference3Ideal Cert.Reference3Ideal.Gen Cert.Reference3Ideal.Read Cert.Proj Idealize.ShloMosaic

variable (x0 : FVec Ideal S16x4352x1024 .f32) (x1 : FVec Ideal S32x6x1024 .f32) (x2 : FVec Ideal S1x1024 .f32)
  (x3 : FVec Ideal S1024x8224 .f32) (x4 : FVec Ideal S8224 .f32) (x5 : FVec Ideal S5x1536 .f32)

/-- The context's rows and then the latents', 1536 channels. -/
theorem tokens_1536 (A : FVec Ideal S16x256x1536 .f32) (B : FVec Ideal S16x4096x1536 .f32) (b : Fin 16) (t : Fin 4352) (k : Fin 1536) :
    concatenate S16x4352x1536 1 [⟨S16x256x1536, A⟩, ⟨S16x4096x1536, B⟩] concatenates_S16x256x1536_S16x4096x1536_S16x4352x1536_d1 (ix3 b t k)
      = if h : t.val < 256 then A (ix3 b ⟨t.val, h⟩ k) else B (ix3 b ⟨t.val - 256, by omega⟩ k) := by
  pointwise []

/-- The context's rows and then the latents', 1664 channels. -/
theorem tokens_1664 (A : FVec Ideal S16x256x1664 .f32) (B : FVec Ideal S16x4096x1664 .f32) (b : Fin 16) (t : Fin 4352) (k : Fin 1664) :
    concatenate S16x4352x1664 1 [⟨S16x256x1664, A⟩, ⟨S16x4096x1664, B⟩] concatenates_S16x256x1664_S16x4096x1664_S16x4352x1664_d1 (ix3 b t k)
      = if h : t.val < 256 then A (ix3 b ⟨t.val, h⟩ k) else B (ix3 b ⟨t.val - 256, by omega⟩ k) := by
  pointwise []

/-- The context's rows and then the latents', 640 channels. -/
theorem tokens_640 (A : FVec Ideal S16x256x640 .f32) (B : FVec Ideal S16x4096x640 .f32) (b : Fin 16) (t : Fin 4352) (k : Fin 640) :
    concatenate S16x4352x640 1 [⟨S16x256x640, A⟩, ⟨S16x4096x640, B⟩] concatenates_S16x256x640_S16x4096x640_S16x4352x640_d1 (ix3 b t k)
      = if h : t.val < 256 then A (ix3 b ⟨t.val, h⟩ k) else B (ix3 b ⟨t.val - 256, by omega⟩ k) := by
  pointwise []

/-- The context's rows and then the latents', 3072 channels. -/
theorem tokens_3072 (A : FVec Ideal S16x256x3072 .f32) (B : FVec Ideal S16x4096x3072 .f32) (b : Fin 16) (t : Fin 4352) (k : Fin 3072) :
    concatenate S16x4352x3072 1 [⟨S16x256x3072, A⟩, ⟨S16x4096x3072, B⟩] concatenates_S16x256x3072_S16x4096x3072_S16x4352x3072_d1 (ix3 b t k)
      = if h : t.val < 256 then A (ix3 b ⟨t.val, h⟩ k) else B (ix3 b ⟨t.val - 256, by omega⟩ k) := by
  pointwise []

/-- A context token is the one of its number. -/
theorem ctx_of (t : Fin 4352) (h : t.val < 256) : ctx ⟨t.val, h⟩ = t := rfl

/-- A latent token is the one of its number, less the context's. -/
theorem lat_of (t : Fin 4352) (h : ¬t.val < 256) : lat ⟨t.val - 256, by omega⟩ = t := Fin.ext (show 256 + (t.val - 256) = t.val by omega)

/-- The attention's queries, keys and values. -/
theorem pa_at (b : Fin 16) (t : Fin 4352) (k : Fin 1536) : val_main_v316 (F := Ideal) x0 x1 x2 x3 x4 (ix3 b t k) = resA (prow x0 x1 x2 x3 x4 b) t k := by
  refine (tokens_1536 _ _ b t k).trans ?_
  by_cases h : t.val < 256
  · rw [dif_pos h, paC_at, ctx_of t h]
  · rw [dif_neg h, paL_at, lat_of t h]

/-- The first recurrent branch's packed channels. -/
theorem pm_at (b : Fin 16) (t : Fin 4352) (k : Fin 1664) : val_main_v312 (F := Ideal) x0 x1 x2 x3 x4 (ix3 b t k) = packM (prow x0 x1 x2 x3 x4 b t) k := by
  refine (tokens_1664 _ _ b t k).trans ?_
  by_cases h : t.val < 256
  · rw [dif_pos h, pmC_at, ctx_of t h]
  · rw [dif_neg h, pmL_at, lat_of t h]

/-- The second recurrent branch's queries, keys and values. -/
theorem qkv_at (b : Fin 16) (t : Fin 4352) (k : Fin 1536) : val_main_v313 (F := Ideal) x0 x1 x2 x3 x4 x5 (ix3 b t k) = resQ (prow x0 x1 x2 x3 x4 b) x5 t k := by
  refine (tokens_1536 _ _ b t k).trans ?_
  by_cases h : t.val < 256
  · rw [dif_pos h, qkvC_at, ctx_of t h]
  · rw [dif_neg h, qkvL_at, lat_of t h]

/-- The second recurrent branch's packed channels. -/
theorem pg_at (b : Fin 16) (t : Fin 4352) (k : Fin 640) : val_main_v314 (F := Ideal) x0 x1 x2 x3 x4 (ix3 b t k) = packG (prow x0 x1 x2 x3 x4 b t) k := by
  refine (tokens_640 _ _ b t k).trans ?_
  by_cases h : t.val < 256
  · rw [dif_pos h, pgC_at, ctx_of t h]
  · rw [dif_neg h, pgL_at, lat_of t h]

/-- The gates. -/
theorem gs_at (b : Fin 16) (t : Fin 4352) (k : Fin 3072) : val_main_v317 (F := Ideal) x0 x1 x2 x3 x4 (ix3 b t k) = gates (prow x0 x1 x2 x3 x4 b t) k := by
  refine (tokens_3072 _ _ b t k).trans ?_
  by_cases h : t.val < 256
  · rw [dif_pos h, gsC_at, ctx_of t h]
  · rw [dif_neg h, gsL_at, lat_of t h]

end Cert.Reference3Ideal.Proj

end
-- ==== Proof.ProjHost.lean ====
/- The arrays that the projection call's host code makes of its arguments, at an index: the five weight matrices with
   their biases, whose packed columns are columns of the one input weight or zeros, and the rotation tables. -/
module

public import proofs.«01_k».proof.Proof.ProjValue
public import proofs.«01_k».proof.Proof.ProjSpec
public import Idealize.ShloMosaic.Lib.Pipeline.ValueKit
public import Idealize.ShloMosaic.Lib.Claim

@[expose] public section

set_option maxRecDepth 16384

noncomputable section

namespace Cert.Kernel3Ideal.Proj

open Cert.Kernel3Ideal Cert.Kernel3Ideal.Gen Cert.Proj Idealize.ShloMosaic Idealize.ShloMosaic.TcCoe Idealize.SL.Sem
open Idealize.ShloMosaic.Pipeline (Dat)

variable (m : (ℓ : Loc nD τ sig) → Buf (Elt Ideal) ℓ)

/-- The attention's weight. -/
theorem wa_at (c : Dev nD) (k : Fin 1024) (i : Fin 1536) :
    (V m c main_v1 : FVec Ideal S1024x1536 .bf16) (ix2 k i) = m ((c : Thread nD τ).loc main_arg3) (ix2 k ⟨i.val, by omega⟩) := by
  simp only [V, List.flatten_cons, List.flatten_nil, hostOps0, hostOps0_1, hostOps0_2, hostOps0_3, hostOps0_4, hostOps0_5, hostOps0_6, hostOps0_7, hostOps0_8, List.cons_append, List.nil_append]
  entry_read
  pointwise

/-- The attention's bias. -/
theorem ba_at (c : Dev nD) (i : Fin 1536) :
    (V m c main_v3 : FVec Ideal S1x1536 .f32) (ix2 0 i) = m ((c : Thread nD τ).loc main_arg4) (ix1 ⟨i.val, by omega⟩) := by
  simp only [V, List.flatten_cons, List.flatten_nil, hostOps0, hostOps0_1, hostOps0_2, hostOps0_3, hostOps0_4, hostOps0_5, hostOps0_6, hostOps0_7, hostOps0_8, List.cons_append, List.nil_append]
  entry_read
  pointwise

/-- The convolution's weight. -/
theorem wq_at (c : Dev nD) (k : Fin 1024) (i : Fin 1536) :
    (V m c main_v25 : FVec Ideal S1024x1536 .bf16) (ix2 k i) = m ((c : Thread nD τ).loc main_arg3) (ix2 k ⟨3088 + i.val, by omega⟩) := by
  simp only [V, List.flatten_cons, List.flatten_nil, hostOps0, hostOps0_1, hostOps0_2, hostOps0_3, hostOps0_4, hostOps0_5, hostOps0_6, hostOps0_7, hostOps0_8, List.cons_append, List.nil_append]
  entry_read
  pointwise

/-- The convolution's bias. -/
theorem bq_at (c : Dev nD) (i : Fin 1536) :
    (V m c main_v27 : FVec Ideal S1x1536 .f32) (ix2 0 i) = m ((c : Thread nD τ).loc main_arg4) (ix1 ⟨3088 + i.val, by omega⟩) := by
  simp only [V, List.flatten_cons, List.flatten_nil, hostOps0, hostOps0_1, hostOps0_2, hostOps0_3, hostOps0_4, hostOps0_5, hostOps0_6, hostOps0_7, hostOps0_8, List.cons_append, List.nil_append]
  entry_read
  pointwise

/-- The gates' weight. -/
theorem wr_at (c : Dev nD) (k : Fin 1024) (i : Fin 3072) :
    (V m c main_v39 : FVec Ideal S1024x3072 .bf16) (ix2 k i) = m ((c : Thread nD τ).loc main_arg3) (ix2 k ⟨5152 + i.val, by omega⟩) := by
  simp only [V, List.flatten_cons, List.flatten_nil, hostOps0, hostOps0_1, hostOps0_2, hostOps0_3, hostOps0_4, hostOps0_5, hostOps0_6, hostOps0_7, hostOps0_8, List.cons_append, List.nil_append]
  entry_read
  pointwise

/-- The gates' bias. -/
theorem br_at (c : Dev nD) (i : Fin 3072) :
    (V m c main_v41 : FVec Ideal S1x3072 .f32) (ix2 0 i) = m ((c : Thread nD τ).loc main_arg4) (ix1 ⟨5152 + i.val, by omega⟩) := by
  simp only [V, List.flatten_cons, List.flatten_nil, hostOps0, hostOps0_1, hostOps0_2, hostOps0_3, hostOps0_4, hostOps0_5, hostOps0_6, hostOps0_7, hostOps0_8, List.cons_append, List.nil_append]
  entry_read
  pointwise

end Cert.Kernel3Ideal.Proj

end
-- ==== Proof.ProjCell.lean ====
/- What the projection call's windows hold at a grid point: its tile of tokens, the eight tokens before and after it, its
   segment's modulation, the weights and the rotation tables. -/
module

public import proofs.«01_k».proof.Proof.ProjHost
public import proofs.«01_k».proof.Proof.ProjSpec
public import Idealize.ShloMosaic.Lib.Pipeline.ValueKit
public import Idealize.ShloMosaic.Lib.Claim

@[expose] public section

set_option maxRecDepth 16384

noncomputable section

namespace Cert.Kernel3Ideal.Proj

open Cert.Kernel3Ideal Cert.Kernel3Ideal.Gen Cert.Proj Idealize.ShloMosaic Idealize.ShloMosaic.TcCoe Idealize.SL.Sem
open Idealize.ShloMosaic.Pipeline (Dat)

variable (m : (ℓ : Loc nD τ sig) → Buf (Elt Ideal) ℓ)

/-- The windows' block indices at every grid point: batch `t / 17`, tile `t % 17`, of which the first is the context. -/
theorem index_of : ∀ t : Fin cfg0.N, win0_0.index t = ![t.val / 17, t.val % 17, 0] ∧ win0_1.index t = ![t.val / 17, 32 * (t.val % 17) - 1, 0]
    ∧ win0_2.index t = ![t.val / 17, min (32 * (t.val % 17) + 32) 543, 0] ∧ win0_3.index t = ![2 * (t.val / 17) + (if t.val % 17 = 0 then 0 else 1), 0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![t.val % 17 - 1, 0] ∧ win0_17.index t = ![t.val % 17 - 1, 0]
    ∧ win0_18.index t = ![t.val / 17, t.val % 17, 0] ∧ win0_19.index t = ![t.val / 17, t.val % 17, 0] ∧ win0_20.index t = ![t.val / 17, t.val % 17, 0]
    ∧ win0_21.index t = ![t.val / 17, t.val % 17, 0] ∧ win0_22.index t = ![t.val / 17, t.val % 17, 0] ∧ t.val / 17 < 16 :=
  (by decide +kernel : ∀ t : Fin grid0.N, _)

/-- The body's three tests on the tile number. -/
theorem tests : ∀ t : Fin cfg0.N,
    Scalar.ori (Scalar.cmpi .eq (BitVec.ofNat 32 ↑(grid0.coords t 1)) 0#32) (Scalar.cmpi .eq (BitVec.ofNat 32 ↑(grid0.coords t 1)) 1#32) = (if t.val % 17 ≤ 1 then 1#1 else 0#1)
    ∧ Scalar.ori (Scalar.cmpi .eq (BitVec.ofNat 32 ↑(grid0.coords t 1)) 0#32) (Scalar.cmpi .eq (BitVec.ofNat 32 ↑(grid0.coords t 1)) 16#32) = (if t.val % 17 = 0 ∨ t.val % 17 = 16 then 1#1 else 0#1)
    ∧ Scalar.cmpi .sge (BitVec.ofNat 32 ↑(grid0.coords t 1)) 1#32 = (if t.val % 17 = 0 then 0#1 else 1#1) :=
  (by decide +kernel : ∀ t : Fin grid0.N, _)

/-- The tile's tokens. -/
theorem block_x (c : Dev nD) (t : Fin cfg0.N) (b : Fin 16) (hb : b.val = t.val / 17) (r : Fin 256) (x : Fin 4352) (hx : x.val = t.val % 17 * 256 + r) (d : Fin 1024) :
    (iblk m c 0 t : FVec Ideal S1x256x1024 .f32) (ix3 0 r d) = m ((c : Thread nD τ).loc main_arg0) (ix3 b x d) := by
  blk_ext [iblk, V, index_of t]

/-- The eight tokens before the tile. -/
theorem block_before (c : Dev nD) (t : Fin cfg0.N) (b : Fin 16) (hb : b.val = t.val / 17) (h0 : 1 ≤ t.val % 17) (r : Fin 8) (x : Fin 4352) (hx : x.val + 8 = t.val % 17 * 256 + r) (d : Fin 1024) :
    (iblk m c 1 t : FVec Ideal S1x8x1024 .f32) (ix3 0 r d) = m ((c : Thread nD τ).loc main_arg0) (ix3 b x d) := by
  have e : x.val = (32 * (t.val % 17) - 1) * 8 + r := by omega
  blk_ext [iblk, V, index_of t]

/-- The eight tokens after the tile. -/
theorem block_after (c : Dev nD) (t : Fin cfg0.N) (b : Fin 16) (hb : b.val = t.val / 17) (h0 : t.val % 17 ≤ 15) (r : Fin 8) (x : Fin 4352) (hx : x.val = t.val % 17 * 256 + 256 + r) (d : Fin 1024) :
    (iblk m c 2 t : FVec Ideal S1x8x1024 .f32) (ix3 0 r d) = m ((c : Thread nD τ).loc main_arg0) (ix3 b x d) := by
  have e : x.val = min (32 * (t.val % 17) + 32) 543 * 8 + r := by omega
  blk_ext [iblk, V, index_of t]

/-- The segment's modulation. -/
theorem block_mod (c : Dev nD) (t : Fin cfg0.N) (k : Fin 32) (hk : k.val = 2 * (t.val / 17) + (if t.val % 17 = 0 then 0 else 1)) (i : Fin 6) (d : Fin 1024) :
    (iblk m c 3 t : FVec Ideal S1x6x1024 .f32) (ix3 0 i d) = m ((c : Thread nD τ).loc main_arg1) (ix3 k i d) := by
  blk_ext [iblk, V, index_of t]

/-- The norm's gain. -/
theorem block_gain (c : Dev nD) (t : Fin cfg0.N) (d : Fin 1024) :
    (iblk m c 4 t : FVec Ideal S1x1024 .f32) (ix2 0 d) = m ((c : Thread nD τ).loc main_arg2) (ix2 0 d) := by
  blk_ext [iblk, V, index_of t]

/-- The convolution's taps. -/
theorem block_taps (c : Dev nD) (t : Fin cfg0.N) (j : Fin 5) (k : Fin 1536) :
    (iblk m c 15 t : FVec Ideal S5x1536 .f32) (ix2 j k) = m ((c : Thread nD τ).loc main_arg5) (ix2 j k) := by
  blk_ext [iblk, V, index_of t]

/-- The attention's weight is its whole array. -/
theorem block_wa (c : Dev nD) (t : Fin cfg0.N) (k : Fin 1024) (d : Fin 1536) :
    (iblk m c 5 t : FVec Ideal S1024x1536 .bf16) (ix2 k d) = (V m c main_v1 : FVec Ideal S1024x1536 .bf16) (ix2 k d) := by
  blk_ext [iblk, index_of t]

/-- The first recurrent branch's weight is its whole array. -/
theorem block_wm (c : Dev nD) (t : Fin cfg0.N) (k : Fin 1024) (d : Fin 1664) :
    (iblk m c 6 t : FVec Ideal S1024x1664 .bf16) (ix2 k d) = (V m c main_v13 : FVec Ideal S1024x1664 .bf16) (ix2 k d) := by
  blk_ext [iblk, index_of t]

/-- The convolution's weight is its whole array. -/
theorem block_wq (c : Dev nD) (t : Fin cfg0.N) (k : Fin 1024) (d : Fin 1536) :
    (iblk m c 7 t : FVec Ideal S1024x1536 .bf16) (ix2 k d) = (V m c main_v25 : FVec Ideal S1024x1536 .bf16) (ix2 k d) := by
  blk_ext [iblk, index_of t]

/-- The second recurrent branch's weight is its whole array. -/
theorem block_wg (c : Dev nD) (t : Fin cfg0.N) (k : Fin 1024) (d : Fin 640) :
    (iblk m c 8 t : FVec Ideal S1024x640 .bf16) (ix2 k d) = (V m c main_v32 : FVec Ideal S1024x640 .bf16) (ix2 k d) := by
  blk_ext [iblk, index_of t]

/-- The gates' weight is its whole array. -/
theorem block_wr (c : Dev nD) (t : Fin cfg0.N) (k : Fin 1024) (d : Fin 3072) :
    (iblk m c 9 t : FVec Ideal S1024x3072 .bf16) (ix2 k d) = (V m c main_v39 : FVec Ideal S1024x3072 .bf16) (ix2 k d) := by
  blk_ext [iblk, index_of t]

/-- The attention's bias is its whole array. -/
theorem block_ba (c : Dev nD) (t : Fin cfg0.N) (k : Fin 1) (d : Fin 1536) :
    (iblk m c 10 t : FVec Ideal S1x1536 .f32) (ix2 k d) = (V m c main_v3 : FVec Ideal S1x1536 .f32) (ix2 k d) := by
  blk_ext [iblk, index_of t]

/-- The first recurrent branch's bias is its whole array. -/
theorem block_bm (c : Dev nD) (t : Fin cfg0.N) (k : Fin 1) (d : Fin 1664) :
    (iblk m c 11 t : FVec Ideal S1x1664 .f32) (ix2 k d) = (V m c main_v23 : FVec Ideal S1x1664 .f32) (ix2 k d) := by
  blk_ext [iblk, index_of t]

/-- The convolution's bias is its whole array. -/
theorem block_bq (c : Dev nD) (t : Fin cfg0.N) (k : Fin 1) (d : Fin 1536) :
    (iblk m c 12 t : FVec Ideal S1x1536 .f32) (ix2 k d) = (V m c main_v27 : FVec Ideal S1x1536 .f32) (ix2 k d) := by
  blk_ext [iblk, index_of t]

/-- The second recurrent branch's bias is its whole array. -/
theorem block_bg (c : Dev nD) (t : Fin cfg0.N) (k : Fin 1) (d : Fin 640) :
    (iblk m c 13 t : FVec Ideal S1x640 .f32) (ix2 k d) = (V m c main_v37 : FVec Ideal S1x640 .f32) (ix2 k d) := by
  blk_ext [iblk, index_of t]

/-- The gates' bias is its whole array. -/
theorem block_br (c : Dev nD) (t : Fin cfg0.N) (k : Fin 1) (d : Fin 3072) :
    (iblk m c 14 t : FVec Ideal S1x3072 .f32) (ix2 k d) = (V m c main_v41 : FVec Ideal S1x3072 .f32) (ix2 k d) := by
  blk_ext [iblk, index_of t]

/-- A latent tile's cosines of the rotation angles. -/
theorem block_cos (c : Dev nD) (t : Fin cfg0.N) (r : Fin 256) (n : Fin 4096) (hn : n.val = (t.val % 17 - 1) * 256 + r) (l : Fin 128) :
    (iblk m c 16 t : FVec Ideal S256x128 .f32) (ix2 r l) = (V m c main_v70 : FVec Ideal S4096x128 .f32) (ix2 n l) := by
  blk_ext [iblk, index_of t]

/-- A latent tile's sines of the rotation angles. -/
theorem block_sin (c : Dev nD) (t : Fin cfg0.N) (r : Fin 256) (n : Fin 4096) (hn : n.val = (t.val % 17 - 1) * 256 + r) (l : Fin 128) :
    (iblk m c 17 t : FVec Ideal S256x128 .f32) (ix2 r l) = (V m c main_v71 : FVec Ideal S4096x128 .f32) (ix2 n l) := by
  blk_ext [iblk, index_of t]

/-- An index of a block of result 0, as batch, token and channel. -/
theorem place18 (t : Fin cfg0.N) (r : Fin 256) (d : Fin 1536) (b : Fin 16) (hb : b.val = t.val / 17) (x : Fin 4352) (hx : x.val = t.val % 17 * 256 + r) :
    ((cfg0.win 18).blk t).view.emb (ix3 0 r d : S1x256x1536.Idx) = (ix3 b x d : S16x4352x1536.Idx) := by
  blk_ext [index_of t]

/-- An index of a block of result 1, as batch, token and channel. -/
theorem place19 (t : Fin cfg0.N) (r : Fin 256) (d : Fin 1664) (b : Fin 16) (hb : b.val = t.val / 17) (x : Fin 4352) (hx : x.val = t.val % 17 * 256 + r) :
    ((cfg0.win 19).blk t).view.emb (ix3 0 r d : S1x256x1664.Idx) = (ix3 b x d : S16x4352x1664.Idx) := by
  blk_ext [index_of t]

/-- An index of a block of result 2, as batch, token and channel. -/
theorem place20 (t : Fin cfg0.N) (r : Fin 256) (d : Fin 1536) (b : Fin 16) (hb : b.val = t.val / 17) (x : Fin 4352) (hx : x.val = t.val % 17 * 256 + r) :
    ((cfg0.win 20).blk t).view.emb (ix3 0 r d : S1x256x1536.Idx) = (ix3 b x d : S16x4352x1536.Idx) := by
  blk_ext [index_of t]

/-- An index of a block of result 3, as batch, token and channel. -/
theorem place21 (t : Fin cfg0.N) (r : Fin 256) (d : Fin 640) (b : Fin 16) (hb : b.val = t.val / 17) (x : Fin 4352) (hx : x.val = t.val % 17 * 256 + r) :
    ((cfg0.win 21).blk t).view.emb (ix3 0 r d : S1x256x640.Idx) = (ix3 b x d : S16x4352x640.Idx) := by
  blk_ext [index_of t]

/-- An index of a block of result 4, as batch, token and channel. -/
theorem place22 (t : Fin cfg0.N) (r : Fin 256) (d : Fin 3072) (b : Fin 16) (hb : b.val = t.val / 17) (x : Fin 4352) (hx : x.val = t.val % 17 * 256 + r) :
    ((cfg0.win 22).blk t).view.emb (ix3 0 r d : S1x256x3072.Idx) = (ix3 b x d : S16x4352x3072.Idx) := by
  blk_ext [index_of t]

end Cert.Kernel3Ideal.Proj

end
-- ==== Proof.ProjBlock.lean ====
/- What the projection call's payloads compute at one row of a block: the normed and projected rows, the convolution with
   its edges, the heads' normalisation and the rotation, each as the specification has it. -/
module

public import proofs.«01_k».proof.Proof.Gen.Kernel3Ideal.Skeleton
public import proofs.«01_k».proof.Proof.ProjSpec

@[expose] public section

set_option maxRecDepth 16384

noncomputable section

namespace Cert.Kernel3Ideal.Proj

open Cert.Kernel3Ideal Cert.Kernel3Ideal.Gen Cert.Proj Idealize.ShloMosaic

/-- Row `r` of the block with its two edges of eight rows. -/
def edged (x0 : FVec Ideal S1x256x1024 .f32) (x2 x4 : FVec Ideal S1x8x1024 .f32) (r : Fin 272) (d : Fin 1024) : EReal :=
  if h : r.val < 8 then x2 (ix3 0 ⟨r.val, h⟩ d)
  else if h : r.val - 8 < 256 then x0 (ix3 0 ⟨r.val - 8, h⟩ d) else x4 (ix3 0 ⟨r.val - 8 - 256, by omega⟩ d)

/-- The normed rows of the block with its edges. -/
theorem hid_block (x0 : FVec Ideal S1x256x1024 .f32) (x2 x4 : FVec Ideal S1x8x1024 .f32) (g : FVec Ideal S1x1024 .f32) (sc sh : FVec Ideal S1x1x1024 .f32)
    (r : Fin 272) (d : Fin 1024) :
    k0_pay3 (F := Ideal) x0 x2 x4 g sc sh (ix2 r d)
      = hid (edged x0 x2 x4 r) (fun d => g (ix2 0 d)) (fun d => sc (ix3 0 0 d)) (fun d => sh (ix3 0 0 d)) d := by
  pointwise [k0_pay3]
  rfl

/-- The normed rows of the block itself. -/
theorem hid_inner (x0 : FVec Ideal S1x256x1024 .f32) (x2 x4 : FVec Ideal S1x8x1024 .f32) (g : FVec Ideal S1x1024 .f32) (sc sh : FVec Ideal S1x1x1024 .f32)
    (r : Fin 256) (d : Fin 1024) :
    k0_pay4 (F := Ideal) x0 x2 x4 g sc sh (ix2 r d)
      = hid (fun d => x0 (ix3 0 r d)) (fun d => g (ix2 0 d)) (fun d => sc (ix3 0 0 d)) (fun d => sh (ix3 0 0 d)) d := by
  have e : edged x0 x2 x4 ⟨8 + r.val, by omega⟩ = fun d => x0 (ix3 0 r d) := funext fun d => by
    unfold edged
    rw [dif_neg (show ¬8 + r.val < 8 by omega), dif_pos (show 8 + r.val - 8 < 256 by omega)]
    exact congrArg (fun r : Fin 256 => x0 (ix3 0 r d)) (Fin.ext (by show 8 + r.val - 8 = r.val; omega))
  rw [← e, ← hid_block]
  unfold k0_pay4
  generalize k0_pay3 (F := Ideal) _ _ _ _ _ _ = P
  pointwise []

/-- The convolution's channels, projected on the block with its edges. -/
theorem conv_in (h : FVec Ideal S272x1024 .bf16) (w : FVec Ideal S1024x1536 .bf16) (b : FVec Ideal S1x1536 .f32) (r : Fin 272) (c : Fin 1536) :
    k0_pay6 (F := Ideal) h (k0_pay5 w) (constant S272x1536 .f32 0x00000000#32) b (ix2 r c) = (∑ k, h (ix2 r k) * w (ix2 k c)) + b (ix2 0 c) := by
  pointwise [k0_pay6, k0_pay5]

/-- The attention's channels. -/
theorem lin_a (h : FVec Ideal S256x1024 .bf16) (w : FVec Ideal S1024x1536 .bf16) (b : FVec Ideal S1x1536 .f32) (r : Fin 256) (c : Fin 1536) :
    k0_pay34 (F := Ideal) h w b (ix2 r c) = (∑ k, h (ix2 r k) * w (ix2 k c)) + b (ix2 0 c) := by
  pointwise [k0_pay34]

/-- The first recurrent branch's channels. -/
theorem lin_m (h : FVec Ideal S256x1024 .bf16) (w : FVec Ideal S1024x1664 .bf16) (b : FVec Ideal S1x1664 .f32) (r : Fin 256) (c : Fin 1664) :
    k0_pay71 (F := Ideal) h w b (ix3 0 r c) = (∑ k, h (ix2 r k) * w (ix2 k c)) + b (ix2 0 c) := by
  pointwise [k0_pay71]

/-- The second recurrent branch's channels. -/
theorem lin_g (h : FVec Ideal S256x1024 .bf16) (w : FVec Ideal S1024x640 .bf16) (b : FVec Ideal S1x640 .f32) (r : Fin 256) (c : Fin 640) :
    k0_pay1 (F := Ideal) (k0_pay72 h w b) (ix3 0 r c) = (∑ k, h (ix2 r k) * w (ix2 k c)) + b (ix2 0 c) := by
  pointwise [k0_pay1, k0_pay72]

/-- The gates. -/
theorem lin_r (h : FVec Ideal S256x1024 .bf16) (w : FVec Ideal S1024x3072 .bf16) (b : FVec Ideal S1x3072 .f32) (r : Fin 256) (c : Fin 3072) :
    k0_pay2 (F := Ideal) h w b (ix3 0 r c) = Cert.Post.sigm ((∑ k, h (ix2 r k) * w (ix2 k c)) + b (ix2 0 c)) := by
  pointwise [k0_pay2]
  simp only [zero_sub]
  rfl

/-- Which rows a tap leaves out: those whose token lies before the block, where the block begins a segment, and those
    whose token lies after it, where the block ends one. -/
def outside (off : BitVec 32) (rows : IVec S256x1 32) (a b : BitVec 1) : IVec S256x1536 1 :=
  broadcastTo S256x1536 (shapeCast S256x1
    (ori (andi (cmpi .slt (addi rows (broadcast S256x1 off)) (broadcast S256x1 0#32)) (broadcast S256x1 a))
      (andi (cmpi .sge (addi rows (broadcast S256x1 off)) (broadcast S256x1 256#32)) (broadcast S256x1 b)))
    shapeCasts_S256x1_S256x1) broadcasts_S256x1_S256x1536

/-- One row's bit of `outside`. -/
def outBit (off x : BitVec 32) (a b : BitVec 1) : BitVec 1 :=
  IntOp.ori (IntOp.andi (IntOp.cmpi .slt (IntOp.addi x off) 0#32) a) (IntOp.andi (IntOp.cmpi .sge (IntOp.addi x off) 256#32) b)

theorem outside_at (off : BitVec 32) (rows : IVec S256x1 32) (a b : BitVec 1) (r : Fin 256) (c : Fin 1536) :
    outside off rows a b (ix2 r c) = outBit off (rows (ix2 r 0)) a b := by
  pointwise [outside]
  rfl

/-- The tap two tokens back leaves out the first two rows of a block that begins a segment. -/
theorem outBit_0 : ∀ (r : Fin 256) (a b : BitVec 1), outBit 4294967294#32 (BitVec.ofNat 32 r.val) a b = if r.val < 2 ∧ a = 1#1 then 1#1 else 0#1 := by
  decide +kernel

/-- The tap one token back leaves out the first row. -/
theorem outBit_1 : ∀ (r : Fin 256) (a b : BitVec 1), outBit 4294967295#32 (BitVec.ofNat 32 r.val) a b = if r.val < 1 ∧ a = 1#1 then 1#1 else 0#1 := by
  decide +kernel

/-- The tap one token ahead leaves out the last row of a block that ends a segment. -/
theorem outBit_3 : ∀ (r : Fin 256) (a b : BitVec 1), outBit 1#32 (BitVec.ofNat 32 r.val) a b = if 255 ≤ r.val ∧ b = 1#1 then 1#1 else 0#1 := by
  decide +kernel

/-- The tap two tokens ahead leaves out the last two rows. -/
theorem outBit_4 : ∀ (r : Fin 256) (a b : BitVec 1), outBit 2#32 (BitVec.ofNat 32 r.val) a b = if 254 ≤ r.val ∧ b = 1#1 then 1#1 else 0#1 := by
  decide +kernel

/-- The rows' numbers. -/
def rows : IVec S256x1 32 := iota .tc S256x1 32 [0] iota_S256x1_d0_w32

theorem rows_at (r : Fin 256) : rows (ix2 r 0) = BitVec.ofNat 32 r.val := by
  pointwise [rows]

/-- The block's rows `s` places away, cut out of the block with its edges. -/
def shifted (s : BitVec 32) (E : FVec Ideal S272x1536 .f32) : FVec Ideal S256x1536 .f32 :=
  extractStridedSlice S256x1536 ![8, 0] (dynamicRotate 0 s none E rotates_S272x1536_d0) slices_S272x1536_o8_0_S256x1536

theorem shifted_at (s : BitVec 32) (E : FVec Ideal S272x1536 .f32) (r : Fin 256) (c : Fin 1536) (k : Fin 272) (hk : (8 + r.val + 272 - s.toNat % 272) % 272 = k.val) :
    shifted s E (ix2 r c) = E (ix2 k c) := by
  pointwise [shifted]
  exact congrArg (fun k => E (ix2 k c)) (Fin.ext hk)

/-- The convolution's accumulator after its first three taps, in the order the body adds them. -/
theorem conv_eq (a : BitVec 32) (x30 : FVec Ideal S272x1024 .bf16) (x33 : FVec Ideal S1024x1536 .bf16) (z : FVec Ideal S272x1536 .f32)
    (x35 : FVec Ideal S1x1536 .f32) (cw : FVec Ideal S5x1536 .f32) :
    k0_pay7 (F := Ideal) a x30 x33 z x35 cw
      = addf (mulf (extractStridedSlice S256x1536 ![8, 0] (k0_pay6 x30 x33 z x35) slices_S272x1536_o8_0_S256x1536)
            (broadcastTo S256x1536 (extractStridedSlice S1x1536 ![2, 0] cw slices_S5x1536_o2_0_S1x1536) broadcasts_S1x1536_S256x1536))
          (mulf (select (outside 4294967294#32 rows (Scalar.ori (Scalar.cmpi .eq a 0#32) (Scalar.cmpi .eq a 1#32))
              (Scalar.ori (Scalar.cmpi .eq a 0#32) (Scalar.cmpi .eq a 16#32))) (broadcast S256x1536 (Scalar.ofBits .f32 0x00000000#32))
              (shifted 2#32 (k0_pay6 x30 x33 z x35)))
            (broadcastTo S256x1536 (extractStridedSlice S1x1536 ![0, 0] cw slices_S5x1536_o0_0_S1x1536) broadcasts_S1x1536_S256x1536)) := rfl

theorem conv_eq2 (E : FVec Ideal S272x1536 .f32) (a b : BitVec 1) (cw : FVec Ideal S5x1536 .f32) (acc x75 : FVec Ideal S256x1536 .f32) :
    k0_pay10 (F := Ideal) E a b rows cw acc x75 k0_pay9
      = addf (addf acc (mulf (select (outside 4294967295#32 rows a b) (broadcast S256x1536 (Scalar.ofBits .f32 0x00000000#32)) x75)
            (broadcastTo S256x1536 (extractStridedSlice S1x1536 ![1, 0] cw slices_S5x1536_o1_0_S1x1536) broadcasts_S1x1536_S256x1536)))
          (mulf (select (outside 1#32 rows a b) (broadcast S256x1536 (Scalar.ofBits .f32 0x00000000#32)) (shifted 271#32 E))
            (broadcastTo S256x1536 (extractStridedSlice S1x1536 ![3, 0] cw slices_S5x1536_o3_0_S1x1536) broadcasts_S1x1536_S256x1536)) := rfl

/-- The SiLU of an array. -/
def silu (v : FVec Ideal S256x1536 .f32) : FVec Ideal S256x1536 .f32 :=
  mulf v (divf (broadcast S256x1536 (Scalar.ofBits .f32 0x3F800000#32))
    (addf (broadcast S256x1536 (Scalar.ofBits .f32 0x3F800000#32)) (exp (subf (broadcast S256x1536 (Scalar.ofBits .f32 0x00000000#32)) v))))

theorem silu_at (v : FVec Ideal S256x1536 .f32) (r : Fin 256) (c : Fin 1536) : silu v (ix2 r c) = v (ix2 r c) * Cert.Post.sigm (v (ix2 r c)) := by
  pointwise [silu]
  rw [zero_sub]
  rfl

/-- One tap's product, with the rows that it leaves out at zero. -/
theorem tap_at (M : IVec S256x1536 1) (S W : FVec Ideal S256x1536 .f32) (r : Fin 256) (c : Fin 1536) (P : Prop) [Decidable P]
    (h : M (ix2 r c) = if P then 1#1 else 0#1) (v w : EReal) (hv : S (ix2 r c) = v) (hw : W (ix2 r c) = w) :
    mulf (select M (broadcast S256x1536 (Scalar.ofBits .f32 0x00000000#32)) S) W (ix2 r c) = (if P then 0 else v) * w := by
  pointwise []
  rw [h, hv, hw]
  by_cases p : P
  · rw [if_pos p, if_pos p, zero_mul]; rfl
  · rw [if_neg p, if_neg p]; rfl

theorem conv_eq3 (E : FVec Ideal S272x1536 .f32) (a b : BitVec 1) (cw : FVec Ideal S5x1536 .f32) (acc : FVec Ideal S256x1536 .f32) :
    k0_pay14 (F := Ideal) a b rows cw acc (k0_pay11 E) (k0_pay12 rows) k0_pay13
      = silu (addf acc (mulf (select (outside 2#32 rows a b) (broadcast S256x1536 (Scalar.ofBits .f32 0x00000000#32)) (shifted 270#32 E))
            (broadcastTo S256x1536 (extractStridedSlice S1x1536 ![4, 0] cw slices_S5x1536_o4_0_S1x1536) broadcasts_S1x1536_S256x1536))) := rfl

/-- The lanes of the first half of each block of 32. -/
def firstHalf : IVec S256x128 1 := k0_pay52

/-- A head's pair of blocks, rotated. -/
def rotated (x cs sn : FVec Ideal S256x128 .f32) : FVec Ideal S1x256x128 .bf16 :=
  shapeCast S1x256x128 (truncf .bf16 (addf (mulf x cs)
    (mulf (select firstHalf (subf (broadcast S256x128 (Scalar.ofBits .f32 0x00000000#32)) (dynamicRotate 1 112#32 none x rotates_S256x128_d1))
      (dynamicRotate 1 16#32 none x rotates_S256x128_d1)) sn)) bitsLt_bf16_f32) shapeCasts_S256x128_S1x256x128

/-- One lane's bit of `firstHalf`. -/
def halfBit (x y : BitVec 32) : BitVec 1 :=
  IntOp.cmpi .slt (Scalar.select (IntOp.andi (IntOp.xori (IntOp.cmpi .slt (IntOp.remsi .vector x y) 0#32) (Scalar.cmpi .slt y 0#32))
    (IntOp.cmpi .ne (IntOp.remsi .vector x y) 0#32)) (IntOp.addi (IntOp.remsi .vector x y) y) (IntOp.remsi .vector x y)) 16#32

theorem halfBit_at : ∀ l : Fin 128, halfBit (BitVec.ofNat 32 l.val) (Scalar.select (Scalar.cmpi .eq 32#32 0#32) 1#32 32#32) = if l.val % 32 < 16 then 1#1 else 0#1 := by
  decide +kernel

theorem firstHalf_at (r : Fin 256) (l : Fin 128) : firstHalf (ix2 r l) = if l.val % 32 < 16 then 1#1 else 0#1 := by
  rw [← halfBit_at]
  pointwise [firstHalf, k0_pay52]
  rfl

theorem rotated_at (x cs sn : FVec Ideal S256x128 .f32) (r : Fin 256) (l : Fin 128) :
    rotated x cs sn (ix3 0 r l) = x (ix2 r l) * cs (ix2 r l)
      + (if l.val % 32 < 16 then -x (ix2 r ⟨(l.val + 16) % 128, by omega⟩) else x (ix2 r ⟨(l.val + 112) % 128, by omega⟩)) * sn (ix2 r l) := by
  have e := firstHalf_at r l
  unfold rotated
  generalize firstHalf = M at e ⊢
  pointwise []
  rw [e]
  have e1 : (⟨(l.val + 128 - 112) % 128, by omega⟩ : Fin 128) = ⟨(l.val + 16) % 128, by omega⟩ := Fin.ext (by show (l.val + 128 - 112) % 128 = (l.val + 16) % 128; omega)
  have e2 : (⟨(l.val + 128 - 16) % 128, by omega⟩ : Fin 128) = ⟨(l.val + 112) % 128, by omega⟩ := Fin.ext (by show (l.val + 128 - 16) % 128 = (l.val + 112) % 128; omega)
  rw [e1, e2, zero_sub]
  by_cases h : l.val % 32 < 16
  · rw [if_pos h, if_pos h]; rfl
  · rw [if_neg h, if_neg h]; rfl

/-- A head divided by its length. -/
def shortened (x : FVec Ideal S256x128 .f32) : FVec Ideal S256x128 .f32 :=
  mulf x (broadcastTo S256x128 (rsqrt (addf (shapeCast S256x1 (multiReduction .add [1] S256 (mulf x x) 0x00000000#32 reduces_S256x128_S256 (.inl rfl) rfl) shapeCasts_S256_S256x1)
    (broadcast S256x1 (Scalar.ofBits .f32 0x358637BD#32)))) broadcasts_S256x1_S256x128)

theorem shortened_at (x : FVec Ideal S256x128 .f32) (r : Fin 256) (l : Fin 128) :
    shortened x (ix2 r l) = x (ix2 r l) * Ideal.rsqrt ((∑ k, x (ix2 r k) * x (ix2 r k)) + Ideal.ofBits .f32 0x358637BD#32) := by
  pointwise [shortened]

/-- A head divided by its length and scaled, as stored. -/
def scaled (x : FVec Ideal S256x128 .f32) : FVec Ideal S1x256x128 .f32 :=
  shapeCast S1x256x128 (mulf (shortened x) (broadcast S256x128 (Scalar.ofBits .f32 0x3DB504F3#32))) shapeCasts_S256x128_S1x256x128

theorem scaled_at (x : FVec Ideal S256x128 .f32) (r : Fin 256) (l : Fin 128) :
    scaled x (ix3 0 r l) = shortened x (ix2 r l) * Ideal.ofBits .f32 0x3DB504F3#32 := by
  unfold scaled
  generalize shortened x = y
  pointwise []

/-- A head as stored. -/
def stored (x : FVec Ideal S256x128 .f32) : FVec Ideal S1x256x128 .f32 := shapeCast S1x256x128 x shapeCasts_S256x128_S1x256x128

theorem stored_at (x : FVec Ideal S256x128 .f32) (r : Fin 256) (l : Fin 128) : stored x (ix3 0 r l) = x (ix2 r l) := by
  pointwise [stored]

/-- The query heads. -/
theorem unit_q (x : FVec Ideal S256x128 .f32) (a : Fin 1536 → EReal) (k : ℕ) (hk : k < 4) (u : Fin 128 → Fin 1536) (hu : ∀ l, (u l).val = k * 128 + l.val) (r : Fin 256)
    (hx : ∀ l, x (ix2 r l) = a (u l)) (l : Fin 128) : scaled x (ix3 0 r l) = unit a (u l) := by
  rw [scaled_at, shortened_at]
  unfold unit
  rw [if_pos (by rw [hu]; omega), head_at k u hu l]
  simp only [hx]

/-- The key heads. -/
theorem unit_k (x : FVec Ideal S256x128 .f32) (a : Fin 1536 → EReal) (k : ℕ) (hk : 4 ≤ k) (hk' : k < 8) (u : Fin 128 → Fin 1536) (hu : ∀ l, (u l).val = k * 128 + l.val) (r : Fin 256)
    (hx : ∀ l, x (ix2 r l) = a (u l)) (l : Fin 128) : stored (shortened x) (ix3 0 r l) = unit a (u l) := by
  rw [stored_at, shortened_at]
  unfold unit
  rw [if_neg (by rw [hu]; omega), if_pos (by rw [hu]; omega), head_at k u hu l]
  simp only [hx]

/-- The value heads. -/
theorem unit_v (x : FVec Ideal S256x128 .f32) (a : Fin 1536 → EReal) (k : ℕ) (hk : 8 ≤ k) (u : Fin 128 → Fin 1536) (hu : ∀ l, (u l).val = k * 128 + l.val) (r : Fin 256)
    (hx : ∀ l, x (ix2 r l) = a (u l)) (l : Fin 128) : stored x (ix3 0 r l) = unit a (u l) := by
  rw [stored_at]
  unfold unit
  rw [if_neg (by rw [hu]; omega), if_neg (by rw [hu]; omega), hx]

/-- A head's pair of blocks, rotated, as the specification has it. -/
theorem roped_qk (x cs sn : FVec Ideal S256x128 .f32) (p : Fin 8224 → EReal) (ca sa : Fin 64 → EReal) (k : ℕ) (hk : k < 8) (u : Fin 128 → Fin 1536) (hu : ∀ l, (u l).val = k * 128 + l.val)
    (r : Fin 256) (hx : ∀ l, x (ix2 r l) = p ⟨(u l).val, by omega⟩) (hc : ∀ l : Fin 128, cs (ix2 r l) = ca ⟨l.val % 64, by omega⟩)
    (hs : ∀ l : Fin 128, sn (ix2 r l) = sa ⟨l.val % 64, by omega⟩) (l : Fin 128) : rotated x cs sn (ix3 0 r l) = roped ca sa p (u l) := by
  have e : (⟨l.val % 64, by omega⟩ : Fin 64) = ⟨(u l).val % 64, by omega⟩ := Fin.ext (by show l.val % 64 = (u l).val % 64; rw [hu]; omega)
  rw [rotated_at, hx, hc, hs, hx, hx, e]
  have hr : roped ca sa p (u l) = p ⟨(u l).val, by omega⟩ * ca ⟨(u l).val % 64, by omega⟩ + turned p (u l) * sa ⟨(u l).val % 64, by omega⟩ :=
    if_pos (by rw [hu]; omega)
  rw [hr]
  unfold turned
  have e3 : (u l).val % 32 = l.val % 32 := by rw [hu]; omega
  rw [e3]
  by_cases h : l.val % 32 < 16
  · rw [if_pos h, if_pos h]
    have e4 : (⟨(u ⟨(l.val + 16) % 128, by omega⟩).val, by omega⟩ : Fin 8224) = ⟨(u l).val + 16, by omega⟩ :=
      Fin.ext (by show (u ⟨(l.val + 16) % 128, by omega⟩).val = (u l).val + 16; rw [hu, hu]; show k * 128 + (l.val + 16) % 128 = _; omega)
    rw [e4]
  · rw [if_neg h, if_neg h]
    have e4 : (⟨(u ⟨(l.val + 112) % 128, by omega⟩).val, by omega⟩ : Fin 8224) = ⟨(u l).val - 16, by omega⟩ :=
      Fin.ext (by show (u ⟨(l.val + 112) % 128, by omega⟩).val = (u l).val - 16; rw [hu, hu]; show k * 128 + (l.val + 112) % 128 = _; omega)
    rw [e4]

/-- The rotation with cosine one and sine zero leaves a block as it is. -/
theorem plain_qk (x cs sn : FVec Ideal S256x128 .f32) (p : Fin 8224 → EReal) (u : Fin 128 → Fin 1536)
    (r : Fin 256) (hx : ∀ l, x (ix2 r l) = p ⟨(u l).val, by omega⟩) (hc : ∀ l : Fin 128, cs (ix2 r l) = 1)
    (hs : ∀ l : Fin 128, sn (ix2 r l) = 0) (l : Fin 128) : rotated x cs sn (ix3 0 r l) = plain p (u l) := by
  rw [rotated_at, hx, hc, hs, mul_one, mul_zero, add_zero]
  rfl

theorem wrow_0 (cw : FVec Ideal S5x1536 .f32) (r : Fin 256) (c : Fin 1536) :
    broadcastTo S256x1536 (extractStridedSlice S1x1536 ![0, 0] cw slices_S5x1536_o0_0_S1x1536) broadcasts_S1x1536_S256x1536 (ix2 r c) = cw (ix2 0 c) := by
  pointwise []

theorem wrow_1 (cw : FVec Ideal S5x1536 .f32) (r : Fin 256) (c : Fin 1536) :
    broadcastTo S256x1536 (extractStridedSlice S1x1536 ![1, 0] cw slices_S5x1536_o1_0_S1x1536) broadcasts_S1x1536_S256x1536 (ix2 r c) = cw (ix2 1 c) := by
  pointwise []

theorem wrow_2 (cw : FVec Ideal S5x1536 .f32) (r : Fin 256) (c : Fin 1536) :
    broadcastTo S256x1536 (extractStridedSlice S1x1536 ![2, 0] cw slices_S5x1536_o2_0_S1x1536) broadcasts_S1x1536_S256x1536 (ix2 r c) = cw (ix2 2 c) := by
  pointwise []

theorem wrow_3 (cw : FVec Ideal S5x1536 .f32) (r : Fin 256) (c : Fin 1536) :
    broadcastTo S256x1536 (extractStridedSlice S1x1536 ![3, 0] cw slices_S5x1536_o3_0_S1x1536) broadcasts_S1x1536_S256x1536 (ix2 r c) = cw (ix2 3 c) := by
  pointwise []

theorem wrow_4 (cw : FVec Ideal S5x1536 .f32) (r : Fin 256) (c : Fin 1536) :
    broadcastTo S256x1536 (extractStridedSlice S1x1536 ![4, 0] cw slices_S5x1536_o4_0_S1x1536) broadcasts_S1x1536_S256x1536 (ix2 r c) = cw (ix2 4 c) := by
  pointwise []

theorem inner_at (E : FVec Ideal S272x1536 .f32) (r : Fin 256) (c : Fin 1536) :
    extractStridedSlice S256x1536 ![8, 0] E slices_S272x1536_o8_0_S256x1536 (ix2 r c) = E (ix2 ⟨8 + r.val, by omega⟩ c) := by
  pointwise []

/-- The convolution with its SiLU at one row: `T` are the five tokens around the row, zeros beyond the segment. -/
theorem act_block (a : BitVec 32) (h : FVec Ideal S272x1024 .bf16) (w : FVec Ideal S1024x1536 .bf16) (z : FVec Ideal S272x1536 .f32)
    (b : FVec Ideal S1x1536 .f32) (cw : FVec Ideal S5x1536 .f32) (f g : BitVec 1) (hf : Scalar.ori (Scalar.cmpi .eq a 0#32) (Scalar.cmpi .eq a 1#32) = f)
    (hg : Scalar.ori (Scalar.cmpi .eq a 0#32) (Scalar.cmpi .eq a 16#32) = g) (T : Fin 5 → Fin 1536 → EReal) (r : Fin 256)
    (t0 : ∀ c, T 0 c = if r.val < 2 ∧ f = 1#1 then 0 else k0_pay6 h w z b (ix2 ⟨6 + r.val, by omega⟩ c))
    (t1 : ∀ c, T 1 c = if r.val < 1 ∧ f = 1#1 then 0 else k0_pay6 h w z b (ix2 ⟨7 + r.val, by omega⟩ c))
    (t2 : ∀ c, T 2 c = k0_pay6 h w z b (ix2 ⟨8 + r.val, by omega⟩ c))
    (t3 : ∀ c, T 3 c = if 255 ≤ r.val ∧ g = 1#1 then 0 else k0_pay6 h w z b (ix2 ⟨9 + r.val, by omega⟩ c))
    (t4 : ∀ c, T 4 c = if 254 ≤ r.val ∧ g = 1#1 then 0 else k0_pay6 h w z b (ix2 ⟨10 + r.val, by omega⟩ c))
    (c : Fin 1536) :
    k0_pay14 (F := Ideal) f g rows cw (k0_pay10 (k0_pay6 h w z b) f g rows cw (k0_pay7 a h w z b cw) (k0_pay8 h w z b) k0_pay9)
      (k0_pay11 (k0_pay6 h w z b)) (k0_pay12 rows) k0_pay13 (ix2 r c) = act T (fun k c => cw (ix2 k c)) c := by
  rw [conv_eq3, conv_eq2, conv_eq, hf, hg, show k0_pay8 (F := Ideal) h w z b = shifted 1#32 (k0_pay6 h w z b) from rfl]
  generalize k0_pay6 (F := Ideal) h w z b = E at t0 t1 t2 t3 t4 ⊢
  have s0 := shifted_at 2#32 E r c ⟨6 + r.val, by omega⟩ (by show (8 + r.val + 272 - 2 % 272) % 272 = 6 + r.val; omega)
  have s1 := shifted_at 1#32 E r c ⟨7 + r.val, by omega⟩ (by show (8 + r.val + 272 - 1 % 272) % 272 = 7 + r.val; omega)
  have s3 := shifted_at 271#32 E r c ⟨9 + r.val, by omega⟩ (by show (8 + r.val + 272 - 271 % 272) % 272 = 9 + r.val; omega)
  have s4 := shifted_at 270#32 E r c ⟨10 + r.val, by omega⟩ (by show (8 + r.val + 272 - 270 % 272) % 272 = 10 + r.val; omega)
  have o0 := (outside_at 4294967294#32 rows f g r c).trans ((congrArg (fun x => outBit 4294967294#32 x f g) (rows_at r)).trans (outBit_0 r f g))
  have o1 := (outside_at 4294967295#32 rows f g r c).trans ((congrArg (fun x => outBit 4294967295#32 x f g) (rows_at r)).trans (outBit_1 r f g))
  have o3 := (outside_at 1#32 rows f g r c).trans ((congrArg (fun x => outBit 1#32 x f g) (rows_at r)).trans (outBit_3 r f g))
  have o4 := (outside_at 2#32 rows f g r c).trans ((congrArg (fun x => outBit 2#32 x f g) (rows_at r)).trans (outBit_4 r f g))
  rw [silu_at, addf_apply, addf_apply, addf_apply, addf_apply, mulf_apply,
    tap_at _ _ _ r c _ o0 _ _ s0 (wrow_0 cw r c), tap_at _ _ _ r c _ o1 _ _ s1 (wrow_1 cw r c), tap_at _ _ _ r c _ o3 _ _ s3 (wrow_3 cw r c),
    tap_at _ _ _ r c _ o4 _ _ s4 (wrow_4 cw r c), wrow_2, inner_at, ← t0, ← t1, ← t2, ← t3, ← t4]
  have e : act T (fun k c => cw (ix2 k c)) c = conv T (fun k c => cw (ix2 k c)) c * Cert.Post.sigm (conv T (fun k c => cw (ix2 k c)) c) := rfl
  rw [e, show conv T (fun k c => cw (ix2 k c)) c = T 2 c * cw (ix2 2 c) + T 0 c * cw (ix2 0 c) + T 1 c * cw (ix2 1 c) + T 3 c * cw (ix2 3 c) + T 4 c * cw (ix2 4 c) from by
    unfold conv
    congr 2
    rw [add_comm (T 2 c * cw (ix2 2 c)), add_right_comm]]
  rfl

end Cert.Kernel3Ideal.Proj

end
-- ==== Proof.ProjRows.lean ====
/- The projection call's tile, row by row: each row's norm and its projected channels are those of the row's token. -/
module

public import proofs.«01_k».proof.Proof.ProjCell
public import proofs.«01_k».proof.Proof.ProjBlock

@[expose] public section

set_option maxRecDepth 16384

noncomputable section

namespace Cert.Kernel3Ideal.Proj

open Cert.Kernel3Ideal Cert.Kernel3Ideal.Gen Cert.Proj Idealize.ShloMosaic Idealize.ShloMosaic.TcCoe Idealize.SL.Sem

variable (m : (ℓ : Loc nD τ sig) → Buf (Elt Ideal) ℓ)

/-- Token `x`'s row of batch `b` after the norm. -/
def hidRow (c : Dev nD) (b : Fin 16) (x : Fin 4352) : Fin 1024 → EReal :=
  hid (fun d => m ((c : Thread nD τ).loc main_arg0) (ix3 b x d)) (fun d => m ((c : Thread nD τ).loc main_arg2) (ix2 0 d))
    (fun d => m ((c : Thread nD τ).loc main_arg1) (ix3 (modRow b x) 1 d)) (fun d => m ((c : Thread nD τ).loc main_arg1) (ix3 (modRow b x) 0 d))

/-- Token `x`'s projected row of batch `b`. -/
def projRow (c : Dev nD) (b : Fin 16) (x : Fin 4352) : Fin 8224 → EReal :=
  lin (hidRow m c b x) (fun k j => m ((c : Thread nD τ).loc main_arg3) (ix2 k j)) (fun j => m ((c : Thread nD τ).loc main_arg4) (ix1 j))

theorem projRow_at (c : Dev nD) (b : Fin 16) (x : Fin 4352) (j : Fin 8224) :
    projRow m c b x j = (∑ k, hidRow m c b x k * m ((c : Thread nD τ).loc main_arg3) (ix2 k j)) + m ((c : Thread nD τ).loc main_arg4) (ix1 j) := rfl

/-- Equal inputs have equal norms. -/
theorem hid_congr {x x' g g' sc sc' sh sh' : Fin 1024 → EReal} (hx : ∀ d, x d = x' d) (hg : ∀ d, g d = g' d) (hsc : ∀ d, sc d = sc' d) (hsh : ∀ d, sh d = sh' d)
    (d : Fin 1024) : hid x g sc sh d = hid x' g' sc' sh' d := by
  rw [funext hx, funext hg, funext hsc, funext hsh]

/-- Equal factors and biases have equal sums of products. -/
theorem sum_congr {h h' w w' : Fin 1024 → EReal} {b b' : EReal} (hh : ∀ k, h k = h' k) (hw : ∀ k, w k = w' k) (hb : b = b') :
    (∑ k, h k * w k) + b = (∑ k, h' k * w' k) + b' := by
  rw [funext hh, funext hw, hb]

/-- The tile's modulation row. -/
theorem mod_row (t : ℕ) (b : Fin 16) (hb : b.val = t / 17) (x : Fin 4352) (hs : t % 17 = 0 ↔ x.val < 256) :
    (modRow b x).val = 2 * (t / 17) + (if t % 17 = 0 then 0 else 1) := by
  show 2 * b.val + (if x.val < 256 then 0 else 1) = _
  rw [hb]
  by_cases h : x.val < 256
  · rw [if_pos h, if_pos (hs.mpr h)]
  · rw [if_neg h, if_neg (fun e => h (hs.mp e))]

/-- A row of the tile after the norm. -/
theorem inner_row (c : Dev nD) (t : Fin cfg0.N) (b : Fin 16) (hb : b.val = t.val / 17) (sc sh : FVec Ideal S1x1x1024 .f32)
    (hsc : ∀ d, sc (ix3 0 0 d) = (iblk m c 3 t : FVec Ideal S1x6x1024 .f32) (ix3 0 1 d))
    (hsh : ∀ d, sh (ix3 0 0 d) = (iblk m c 3 t : FVec Ideal S1x6x1024 .f32) (ix3 0 0 d))
    (r : Fin 256) (x : Fin 4352) (hx : x.val = t.val % 17 * 256 + r) (d : Fin 1024) :
    k0_pay4 (F := Ideal) (iblk m c 0 t) (iblk m c 1 t) (iblk m c 2 t) (iblk m c 4 t) sc sh (ix2 r d) = hidRow m c b x d := by
  have hk := mod_row t.val b hb x (by omega)
  refine (hid_inner _ _ _ _ _ _ r d).trans (hid_congr ?_ ?_ ?_ ?_ d)
  · exact fun d => block_x m c t b hb r x hx d
  · exact fun d => block_gain m c t d
  · exact fun d => (hsc d).trans (block_mod m c t _ hk 1 d)
  · exact fun d => (hsh d).trans (block_mod m c t _ hk 0 d)

/-- A row of the tile with its edges after the norm, where the row's token is in the tile's segment. -/
theorem edge_row (c : Dev nD) (t : Fin cfg0.N) (b : Fin 16) (hb : b.val = t.val / 17) (sc sh : FVec Ideal S1x1x1024 .f32)
    (hsc : ∀ d, sc (ix3 0 0 d) = (iblk m c 3 t : FVec Ideal S1x6x1024 .f32) (ix3 0 1 d))
    (hsh : ∀ d, sh (ix3 0 0 d) = (iblk m c 3 t : FVec Ideal S1x6x1024 .f32) (ix3 0 0 d))
    (r : Fin 272) (x : Fin 4352) (hx : x.val + 8 = t.val % 17 * 256 + r) (hs : t.val % 17 = 0 ↔ x.val < 256) (d : Fin 1024) :
    k0_pay3 (F := Ideal) (iblk m c 0 t) (iblk m c 1 t) (iblk m c 2 t) (iblk m c 4 t) sc sh (ix2 r d) = hidRow m c b x d := by
  have hk := mod_row t.val b hb x hs
  refine (hid_block _ _ _ _ _ _ r d).trans (hid_congr ?_ ?_ ?_ ?_ d)
  · intro d
    unfold edged
    by_cases h : r.val < 8
    · rw [dif_pos h]
      exact block_before m c t b hb (by omega) ⟨r.val, h⟩ x hx d
    rw [dif_neg h]
    by_cases h' : r.val - 8 < 256
    · rw [dif_pos h']
      exact block_x m c t b hb ⟨r.val - 8, h'⟩ x (by show x.val = t.val % 17 * 256 + (r.val - 8); omega) d
    · rw [dif_neg h']
      exact block_after m c t b hb (by omega) ⟨r.val - 8 - 256, by omega⟩ x (by show x.val = t.val % 17 * 256 + 256 + (r.val - 8 - 256); omega) d
  · exact fun d => block_gain m c t d
  · exact fun d => (hsc d).trans (block_mod m c t _ hk 1 d)
  · exact fun d => (hsh d).trans (block_mod m c t _ hk 0 d)

/-- The convolution's input at a row of the tile with its edges. -/
theorem conv_row (c : Dev nD) (t : Fin cfg0.N) (b : Fin 16) (hb : b.val = t.val / 17) (sc sh : FVec Ideal S1x1x1024 .f32)
    (hsc : ∀ d, sc (ix3 0 0 d) = (iblk m c 3 t : FVec Ideal S1x6x1024 .f32) (ix3 0 1 d))
    (hsh : ∀ d, sh (ix3 0 0 d) = (iblk m c 3 t : FVec Ideal S1x6x1024 .f32) (ix3 0 0 d))
    (r : Fin 272) (x : Fin 4352) (hx : x.val + 8 = t.val % 17 * 256 + r) (hs : t.val % 17 = 0 ↔ x.val < 256) (j : Fin 1536) :
    k0_pay6 (F := Ideal) (k0_pay3 (iblk m c 0 t) (iblk m c 1 t) (iblk m c 2 t) (iblk m c 4 t) sc sh) (k0_pay5 (iblk m c 7 t))
      (constant S272x1536 .f32 0x00000000#32) (iblk m c 12 t) (ix2 r j) = convIn (projRow m c b x) j := by
  refine (conv_in _ _ _ r j).trans ((sum_congr ?_ ?_ ?_).trans (projRow_at m c b x ⟨3088 + j.val, by omega⟩).symm)
  · exact fun k => edge_row m c t b hb sc sh hsc hsh r x hx hs k
  · exact fun k => (block_wq m c t k j).trans (wq_at m c k j)
  · exact (block_bq m c t 0 j).trans (bq_at m c j)

/-- The attention's channels at a row of the tile. -/
theorem attn_row (c : Dev nD) (t : Fin cfg0.N) (b : Fin 16) (hb : b.val = t.val / 17) (sc sh : FVec Ideal S1x1x1024 .f32)
    (hsc : ∀ d, sc (ix3 0 0 d) = (iblk m c 3 t : FVec Ideal S1x6x1024 .f32) (ix3 0 1 d))
    (hsh : ∀ d, sh (ix3 0 0 d) = (iblk m c 3 t : FVec Ideal S1x6x1024 .f32) (ix3 0 0 d))
    (r : Fin 256) (x : Fin 4352) (hx : x.val = t.val % 17 * 256 + r) (j : Fin 1536) :
    k0_pay34 (F := Ideal) (k0_pay4 (iblk m c 0 t) (iblk m c 1 t) (iblk m c 2 t) (iblk m c 4 t) sc sh) (iblk m c 5 t) (iblk m c 10 t) (ix2 r j)
      = projRow m c b x ⟨j.val, by omega⟩ := by
  refine (lin_a _ _ _ r j).trans ((sum_congr ?_ ?_ ?_).trans (projRow_at m c b x ⟨j.val, by omega⟩).symm)
  · exact fun k => inner_row m c t b hb sc sh hsc hsh r x hx k
  · exact fun k => (block_wa m c t k j).trans (wa_at m c k j)
  · exact (block_ba m c t 0 j).trans (ba_at m c j)

/-- The gates at a row of the tile. -/
theorem gate_row (c : Dev nD) (t : Fin cfg0.N) (b : Fin 16) (hb : b.val = t.val / 17) (sc sh : FVec Ideal S1x1x1024 .f32)
    (hsc : ∀ d, sc (ix3 0 0 d) = (iblk m c 3 t : FVec Ideal S1x6x1024 .f32) (ix3 0 1 d))
    (hsh : ∀ d, sh (ix3 0 0 d) = (iblk m c 3 t : FVec Ideal S1x6x1024 .f32) (ix3 0 0 d))
    (r : Fin 256) (x : Fin 4352) (hx : x.val = t.val % 17 * 256 + r) (j : Fin 3072) :
    k0_pay2 (F := Ideal) (k0_pay4 (iblk m c 0 t) (iblk m c 1 t) (iblk m c 2 t) (iblk m c 4 t) sc sh) (iblk m c 9 t) (iblk m c 14 t) (ix3 0 r j)
      = gates (projRow m c b x) j := by
  refine (lin_r _ _ _ r j).trans (congrArg Cert.Post.sigm ((sum_congr ?_ ?_ ?_).trans (projRow_at m c b x ⟨5152 + j.val, by omega⟩).symm))
  · exact fun k => inner_row m c t b hb sc sh hsc hsh r x hx k
  · exact fun k => (block_wr m c t k j).trans (wr_at m c k j)
  · exact (block_br m c t 0 j).trans (br_at m c j)

/-- Packing a weight's columns and the bias packs the products. -/
theorem lin_packM (h : Fin 1024 → EReal) (w : Fin 1024 → Fin 8224 → EReal) (b : Fin 8224 → EReal) (i : Fin 1664) :
    (∑ k, h k * packM (w k) i) + packM b i = packM (lin h w b) i := by
  unfold packM
  by_cases h1 : i.val < 512
  · simp only [dif_pos h1]
    rfl
  simp only [dif_neg h1]
  by_cases h2 : i.val < 1552
  · simp only [dif_pos h2]
    rfl
  · simp only [dif_neg h2, mul_zero, Finset.sum_const_zero, add_zero]

/-- The same for the second recurrent branch. -/
theorem lin_packG (h : Fin 1024 → EReal) (w : Fin 1024 → Fin 8224 → EReal) (b : Fin 8224 → EReal) (i : Fin 640) :
    (∑ k, h k * packG (w k) i) + packG b i = packG (lin h w b) i := by
  unfold packG
  by_cases h1 : i.val < 528
  · simp only [dif_pos h1]
    rfl
  · simp only [dif_neg h1, mul_zero, Finset.sum_const_zero, add_zero]

end Cert.Kernel3Ideal.Proj

end
-- ==== Proof.ProjPack.lean ====
/- The two recurrent branches' weight and bias that the projection call's host code packs, at an index. -/
module

public import proofs.«01_k».proof.Proof.ProjHost
public import proofs.«01_k».proof.Proof.ProjSpec
public import Idealize.ShloMosaic.Lib.Pipeline.ValueKit
public import Idealize.ShloMosaic.Lib.Claim
public import Idealize.ShloMosaic.Lib.StableHlo.RunRead

@[expose] public section

set_option maxRecDepth 131072

noncomputable section

namespace Cert.Kernel3Ideal.Proj

open Cert.Kernel3Ideal Cert.Kernel3Ideal.Gen Cert.Proj Idealize.ShloMosaic Idealize.ShloMosaic.TcCoe Idealize.SL.Sem
open Idealize.ShloMosaic.Pipeline (Dat)

variable (m : (ℓ : Loc nD τ sig) → Buf (Elt Ideal) ℓ)

/-- The integer zero as a number. -/
theorem zero_number : FloatOps.sitofp (F := Ideal) .f32 (0#32) = 0 := by
  show (((0#32 : BitVec 32).toInt : ℝ) : EReal) = 0
  simp

/-- The second recurrent branch's weight as the host code makes it. -/
theorem wg_eq (c : Dev nD) :
    (V m c main_v32 : FVec Ideal S1024x640 .bf16) =
      truncf .bf16 (concatenate S1024x640 1 [⟨S1024x512, extractStridedSlice S1024x512 ![0, 4624] (m ((c : Thread nD τ).loc main_arg3) : FVec Ideal S1024x8224 .f32) slices_S1024x8224_S1024x512_0_4624⟩,
        ⟨S1024x128, pad S1024x128 ![0, 0] ![0, 112] ![0, 0] (extractStridedSlice S1024x16 ![0, 5136] (m ((c : Thread nD τ).loc main_arg3) : FVec Ideal S1024x8224 .f32) slices_S1024x8224_S1024x16_0_5136)
          (sitofp (F := Ideal) .f32 (constantI S_ 32 0#32)) pads_S1024x16_S1024x128_000_01120 h_S_⟩] concatenates_S1024x512_S1024x128_S1024x640_d1) bitsLt_bf16_f32 := by
  simp only [V, List.flatten_cons, List.flatten_nil, hostOps0, hostOps0_1, hostOps0_2, hostOps0_3, hostOps0_4, hostOps0_5, hostOps0_6, hostOps0_7, hostOps0_8, List.cons_append, List.nil_append]
  entry_read
  rfl

/-- The second recurrent branch's weight. -/
theorem wg_at (c : Dev nD) (k : Fin 1024) (i : Fin 640) :
    (V m c main_v32 : FVec Ideal S1024x640 .bf16) (ix2 k i) = packG (fun j => m ((c : Thread nD τ).loc main_arg3) (ix2 k j)) i := by
  rw [wg_eq]
  generalize (m ((c : Thread nD τ).loc main_arg3) : FVec Ideal S1024x8224 .f32) = w
  pointwise [packG]
  split_ifs <;> (repeat first | rw [dif_pos (by omega)] | rw [dif_neg (by omega)] | rw [if_pos (by omega)] | rw [if_neg (by omega)]) <;> first
    | rfl
    | exact congrArg (fun u : Fin 8224 => w (ix2 k u)) (Fin.ext (by simp only []; omega))
    | exact zero_number
    | (exfalso; omega)
    | contradiction

/-- The second recurrent branch's bias as the host code makes it. -/
theorem bg_eq (c : Dev nD) :
    (V m c main_v37 : FVec Ideal S1x640 .f32) =
      concatenate S1x640 1 [⟨S1x512, extractStridedSlice S1x512 ![0, 4624] (broadcastInDim S1x8224 ![1] bcast_S8224_S1x8224_1 (m ((c : Thread nD τ).loc main_arg4) : FVec Ideal S8224 .f32)) slices_S1x8224_S1x512_0_4624⟩,
        ⟨S1x128, pad S1x128 ![0, 0] ![0, 112] ![0, 0] (extractStridedSlice S1x16 ![0, 5136] (broadcastInDim S1x8224 ![1] bcast_S8224_S1x8224_1 (m ((c : Thread nD τ).loc main_arg4) : FVec Ideal S8224 .f32)) slices_S1x8224_S1x16_0_5136)
          (sitofp (F := Ideal) .f32 (constantI S_ 32 0#32)) pads_S1x16_S1x128_000_01120 h_S_⟩] concatenates_S1x512_S1x128_S1x640_d1 := by
  simp only [V, List.flatten_cons, List.flatten_nil, hostOps0, hostOps0_1, hostOps0_2, hostOps0_3, hostOps0_4, hostOps0_5, hostOps0_6, hostOps0_7, hostOps0_8, List.cons_append, List.nil_append]
  entry_read
  rfl

/-- The second recurrent branch's bias. -/
theorem bg_at (c : Dev nD) (i : Fin 640) :
    (V m c main_v37 : FVec Ideal S1x640 .f32) (ix2 0 i) = packG (fun j => m ((c : Thread nD τ).loc main_arg4) (ix1 j)) i := by
  rw [bg_eq]
  generalize (m ((c : Thread nD τ).loc main_arg4) : FVec Ideal S8224 .f32) = w
  pointwise [packG]
  split_ifs <;> (repeat first | rw [dif_pos (by omega)] | rw [dif_neg (by omega)] | rw [if_pos (by omega)] | rw [if_neg (by omega)]) <;> first
    | rfl
    | exact congrArg (fun u : Fin 8224 => w (ix1 u)) (Fin.ext (by simp only []; omega))
    | exact zero_number
    | (exfalso; omega)
    | contradiction

/-- The source channels' indices: a packed query or key channel's source. -/
theorem lit0_at : ∀ j : Fin 512, lit0 j = BitVec.ofNat 32 (qkSource j).val := by decide +kernel

/-- The column indices the host code gathers at. -/
def cols : IVec S512x1 32 :=
  broadcastInDim S512x1 ![0] bcast_S512_S512x1_0 (select (constantI S512 1 0#1) (addi (fun i => lit0 (S512.rowMajor i)) (broadcastInDim S512 ![] bcast_S_S512 (constantI S_ 32 8224#32))) (fun i => lit0 (S512.rowMajor i)))

theorem cols_at (j : Fin 512) : cols (ix2 j 0) = BitVec.ofNat 32 (qkSource j).val := by
  unfold cols
  generalize hz : (fun i => lit0 (S512.rowMajor i) : IVec S512 32) = z
  pointwise
  subst hz
  have hr : S512.rowMajor (ix1 j) = j := Fin.ext (Shape.rowMajor_val_one _)
  show lit0 (S512.rowMajor (ix1 j)) = _
  rw [hr]
  exact lit0_at j

theorem cols_number (j : Fin 512) : min (cols (ix2 j 0)).toInt.toNat (8224 - 1) = (qkSource j).val := by
  have h := (qkSource j).isLt
  rw [cols_at, BitVec.toInt_eq_toNat_of_lt (by rw [BitVec.toNat_ofNat]; omega), BitVec.toNat_ofNat]
  omega

/-- The gather of the weight's columns, at an index. -/
theorem gather_w (x : FVec Ideal S1024x8224 .f32) (k : Fin 1024) (j : Fin 512) :
    Host.gather gather_S1024x8224_S512x1_S1024x512_0_1_n_n_1_1_10241 x cols (ix2 k j) = x (ix2 k (qkSource j)) := by
  unfold Host.gather
  congr 1
  funext a
  refine Fin.ext ?_
  show gather_S1024x8224_S512x1_S1024x512_0_1_n_n_1_1_10241.start _ cols a + gather_S1024x8224_S512x1_S1024x512_0_1_n_n_1_1_10241.batchCoord _ a + gather_S1024x8224_S512x1_S1024x512_0_1_n_n_1_1_10241.offCoord _ a = _
  have ha : a = 0 ∨ a = 1 := by
    match a with
    | ⟨0, _⟩ => exact Or.inl rfl
    | ⟨1, _⟩ => exact Or.inr rfl
  rw [GatherDims.batchCoord_eq_zero _ _ _ List.not_mem_nil]
  rcases ha with rfl | rfl
  · unfold GatherDims.start
    rw [dif_neg (show ¬(0 : Fin 2) ∈ gather_S1024x8224_S512x1_S1024x512_0_1_n_n_1_1_10241.startIndexMap from (by decide))]
    unfold GatherDims.offCoord
    rw [dif_pos (show (0 : Fin 2) ∈ gather_S1024x8224_S512x1_S1024x512_0_1_n_n_1_1_10241.sKept from (by decide))]
    simp only [Nat.zero_add, Nat.add_zero]
    rfl
  · rw [GatherDims.offCoord_eq_zero _ _ _ (fun h => ((GatherDims.mem_sKept _ _).mp h).1 (List.mem_singleton.mpr rfl))]
    unfold GatherDims.start
    rw [dif_pos (show (1 : Fin 2) ∈ gather_S1024x8224_S512x1_S1024x512_0_1_n_n_1_1_10241.startIndexMap from List.mem_singleton.mpr rfl)]
    have hs : gather_S1024x8224_S512x1_S1024x512_0_1_n_n_1_1_10241.siIdx (ix2 k j) ⟨List.idxOf (1 : Fin 2) gather_S1024x8224_S512x1_S1024x512_0_1_n_n_1_1_10241.startIndexMap, List.idxOf_lt_length_iff.2 (List.mem_singleton.mpr rfl)⟩ = ix2 j 0 := by
      funext b
      refine Fin.ext ?_
      match b with
      | ⟨0, _⟩ => rfl
      | ⟨1, _⟩ => rfl
    rw [hs]
    simp only [Nat.add_zero]
    exact cols_number j

/-- The gather of the bias's columns, at an index. -/
theorem gather_b (x : FVec Ideal S1x8224 .f32) (j : Fin 512) :
    Host.gather gather_S1x8224_S512x1_S1x512_0_1_n_n_1_1_11 x cols (ix2 0 j) = x (ix2 0 (qkSource j)) := by
  unfold Host.gather
  congr 1
  funext a
  refine Fin.ext ?_
  show gather_S1x8224_S512x1_S1x512_0_1_n_n_1_1_11.start _ cols a + gather_S1x8224_S512x1_S1x512_0_1_n_n_1_1_11.batchCoord _ a + gather_S1x8224_S512x1_S1x512_0_1_n_n_1_1_11.offCoord _ a = _
  have ha : a = 0 ∨ a = 1 := by
    match a with
    | ⟨0, _⟩ => exact Or.inl rfl
    | ⟨1, _⟩ => exact Or.inr rfl
  rw [GatherDims.batchCoord_eq_zero _ _ _ List.not_mem_nil]
  rcases ha with rfl | rfl
  · unfold GatherDims.start
    rw [dif_neg (show ¬(0 : Fin 2) ∈ gather_S1x8224_S512x1_S1x512_0_1_n_n_1_1_11.startIndexMap from (by decide))]
    unfold GatherDims.offCoord
    rw [dif_pos (show (0 : Fin 2) ∈ gather_S1x8224_S512x1_S1x512_0_1_n_n_1_1_11.sKept from (by decide))]
    simp only [Nat.zero_add, Nat.add_zero]
    rfl
  · rw [GatherDims.offCoord_eq_zero _ _ _ (fun h => ((GatherDims.mem_sKept _ _).mp h).1 (List.mem_singleton.mpr rfl))]
    unfold GatherDims.start
    rw [dif_pos (show (1 : Fin 2) ∈ gather_S1x8224_S512x1_S1x512_0_1_n_n_1_1_11.startIndexMap from List.mem_singleton.mpr rfl)]
    have hs : gather_S1x8224_S512x1_S1x512_0_1_n_n_1_1_11.siIdx (ix2 0 j) ⟨List.idxOf (1 : Fin 2) gather_S1x8224_S512x1_S1x512_0_1_n_n_1_1_11.startIndexMap, List.idxOf_lt_length_iff.2 (List.mem_singleton.mpr rfl)⟩ = ix2 j 0 := by
      funext b
      refine Fin.ext ?_
      match b with
      | ⟨0, _⟩ => rfl
      | ⟨1, _⟩ => rfl
    rw [hs]
    simp only [Nat.add_zero]
    exact cols_number j

set_option maxHeartbeats 4000000 in
/-- The first recurrent branch's weight as the host code makes it. -/
theorem wm_eq (c : Dev nD) :
    (V m c main_v13 : FVec Ideal S1024x1664 .bf16) =
      truncf .bf16 (concatenate S1024x1664 1 [⟨S1024x512, Host.gather gather_S1024x8224_S512x1_S1024x512_0_1_n_n_1_1_10241 (m ((c : Thread nD τ).loc main_arg3) : FVec Ideal S1024x8224 .f32) cols⟩,
        ⟨S1024x1024, extractStridedSlice S1024x1024 ![0, 2048] (m ((c : Thread nD τ).loc main_arg3) : FVec Ideal S1024x8224 .f32) slices_S1024x8224_S1024x1024_0_2048⟩,
        ⟨S1024x128, pad S1024x128 ![0, 0] ![0, 112] ![0, 0] (extractStridedSlice S1024x16 ![0, 3072] (m ((c : Thread nD τ).loc main_arg3) : FVec Ideal S1024x8224 .f32) slices_S1024x8224_S1024x16_0_3072)
          (sitofp (F := Ideal) .f32 (constantI S_ 32 0#32)) pads_S1024x16_S1024x128_000_01120 h_S_⟩] concatenates_S1024x512_S1024x1024_S1024x128_S1024x1664_d1) bitsLt_bf16_f32 := by
  unfold V
  after_reads_simp
  rfl

/-- Three arrays side by side, by rows of the weight. -/
theorem side_w (G : FVec Ideal S1024x512 .f32) (A : FVec Ideal S1024x1024 .f32) (B : FVec Ideal S1024x128 .f32) (k : Fin 1024) (i : Fin 1664) :
    concatenate S1024x1664 1 [⟨S1024x512, G⟩, ⟨S1024x1024, A⟩, ⟨S1024x128, B⟩] concatenates_S1024x512_S1024x1024_S1024x128_S1024x1664_d1 (ix2 k i)
      = if h : i.val < 512 then G (ix2 k ⟨i.val, h⟩) else if h' : i.val < 1536 then A (ix2 k ⟨i.val - 512, by omega⟩) else B (ix2 k ⟨i.val - 1536, by omega⟩) := by
  pointwise []
  split_ifs <;> (repeat first | rw [dif_pos (by omega)] | rw [dif_neg (by omega)] | rw [if_pos (by omega)] | rw [if_neg (by omega)]) <;> first
    | rfl
    | exact congrArg (fun u => A (ix2 k u)) (Fin.ext (by simp only []; omega))
    | exact congrArg (fun u => B (ix2 k u)) (Fin.ext (by simp only []; omega))
    | (exfalso; omega)
    | contradiction

/-- An array with zero columns after it, by rows of the weight. -/
theorem padded_w (Z : FVec Ideal S1024x16 .f32) (k : Fin 1024) (l : Fin 128) :
    pad S1024x128 ![0, 0] ![0, 112] ![0, 0] Z (sitofp (F := Ideal) .f32 (constantI S_ 32 0#32)) pads_S1024x16_S1024x128_000_01120 h_S_ (ix2 k l)
      = if h : l.val < 16 then Z (ix2 k ⟨l.val, h⟩) else 0 := by
  pointwise []
  split_ifs <;> (repeat first | rw [dif_pos (by omega)] | rw [dif_neg (by omega)] | rw [if_pos (by omega)] | rw [if_neg (by omega)]) <;> first
    | rfl
    | exact zero_number
    | exact congrArg (fun u => Z (ix2 k u)) (Fin.ext (by simp only []; omega))
    | (exfalso; omega)
    | contradiction

/-- The first recurrent branch's packed columns of the weight. -/
theorem packed_wm (w : FVec Ideal S1024x8224 .f32) (G : FVec Ideal S1024x512 .f32) (k : Fin 1024) (i : Fin 1664)
    (hg : ∀ j, G (ix2 k j) = w (ix2 k (qkSource j))) :
    ((truncf .bf16 (concatenate S1024x1664 1 [⟨S1024x512, G⟩,
        ⟨S1024x1024, extractStridedSlice S1024x1024 ![0, 2048] w slices_S1024x8224_S1024x1024_0_2048⟩,
        ⟨S1024x128, pad S1024x128 ![0, 0] ![0, 112] ![0, 0] (extractStridedSlice S1024x16 ![0, 3072] w slices_S1024x8224_S1024x16_0_3072)
          (sitofp (F := Ideal) .f32 (constantI S_ 32 0#32)) pads_S1024x16_S1024x128_000_01120 h_S_⟩] concatenates_S1024x512_S1024x1024_S1024x128_S1024x1664_d1) bitsLt_bf16_f32) : FVec Ideal S1024x1664 .bf16) (ix2 k i) = packM (fun j => w (ix2 k j)) i := by
  have ha : ∀ j : Fin 1024, extractStridedSlice S1024x1024 ![0, 2048] w slices_S1024x8224_S1024x1024_0_2048 (ix2 k j) = w (ix2 k ⟨2048 + j.val, by omega⟩) := fun j => by pointwise []
  have hz : ∀ j : Fin 16, extractStridedSlice S1024x16 ![0, 3072] w slices_S1024x8224_S1024x16_0_3072 (ix2 k j) = w (ix2 k ⟨3072 + j.val, by omega⟩) := fun j => by pointwise []
  refine (side_w _ _ _ k i).trans ?_
  unfold packM
  by_cases h : i.val < 512
  · rw [dif_pos h, dif_pos h]
    exact hg _
  rw [dif_neg h, dif_neg h]
  by_cases h' : i.val < 1536
  · rw [dif_pos h', dif_pos (show i.val < 1552 by omega)]
    exact ha _
  rw [dif_neg h', padded_w]
  by_cases h2 : i.val < 1552
  · rw [dif_pos h2, dif_pos (show i.val - 1536 < 16 by omega)]
    refine (hz _).trans (congrArg (fun u : Fin 8224 => w (ix2 k u)) (Fin.ext ?_))
    show 3072 + (i.val - 1536) = 2048 + (i.val - 512)
    omega
  · rw [dif_neg h2, dif_neg (show ¬i.val - 1536 < 16 by omega)]

/-- The first recurrent branch's weight. -/
theorem wm_at (c : Dev nD) (k : Fin 1024) (i : Fin 1664) :
    (V m c main_v13 : FVec Ideal S1024x1664 .bf16) (ix2 k i) = packM (fun j => m ((c : Thread nD τ).loc main_arg3) (ix2 k j)) i := by
  rw [wm_eq]
  exact packed_wm _ _ k i (gather_w _ k)

set_option maxHeartbeats 4000000 in
/-- The first recurrent branch's bias as the host code makes it. -/
theorem bm_eq (c : Dev nD) :
    (V m c main_v23 : FVec Ideal S1x1664 .f32) =
      concatenate S1x1664 1 [⟨S1x512, Host.gather gather_S1x8224_S512x1_S1x512_0_1_n_n_1_1_11 (broadcastInDim S1x8224 ![1] bcast_S8224_S1x8224_1 (m ((c : Thread nD τ).loc main_arg4) : FVec Ideal S8224 .f32)) cols⟩,
        ⟨S1x1024, extractStridedSlice S1x1024 ![0, 2048] (broadcastInDim S1x8224 ![1] bcast_S8224_S1x8224_1 (m ((c : Thread nD τ).loc main_arg4) : FVec Ideal S8224 .f32)) slices_S1x8224_S1x1024_0_2048⟩,
        ⟨S1x128, pad S1x128 ![0, 0] ![0, 112] ![0, 0] (extractStridedSlice S1x16 ![0, 3072] (broadcastInDim S1x8224 ![1] bcast_S8224_S1x8224_1 (m ((c : Thread nD τ).loc main_arg4) : FVec Ideal S8224 .f32)) slices_S1x8224_S1x16_0_3072)
          (sitofp (F := Ideal) .f32 (constantI S_ 32 0#32)) pads_S1x16_S1x128_000_01120 h_S_⟩] concatenates_S1x512_S1x1024_S1x128_S1x1664_d1 := by
  unfold V
  after_reads_simp
  rfl

/-- Three arrays side by side, the bias. -/
theorem side_b (G : FVec Ideal S1x512 .f32) (A : FVec Ideal S1x1024 .f32) (B : FVec Ideal S1x128 .f32) (k : Fin 1) (i : Fin 1664) :
    concatenate S1x1664 1 [⟨S1x512, G⟩, ⟨S1x1024, A⟩, ⟨S1x128, B⟩] concatenates_S1x512_S1x1024_S1x128_S1x1664_d1 (ix2 k i)
      = if h : i.val < 512 then G (ix2 k ⟨i.val, h⟩) else if h' : i.val < 1536 then A (ix2 k ⟨i.val - 512, by omega⟩) else B (ix2 k ⟨i.val - 1536, by omega⟩) := by
  obtain rfl : k = 0 := Subsingleton.elim _ _
  pointwise []
  split_ifs <;> (repeat first | rw [dif_pos (by omega)] | rw [dif_neg (by omega)] | rw [if_pos (by omega)] | rw [if_neg (by omega)]) <;> first
    | rfl
    | exact congrArg (fun u => A (ix2 k u)) (Fin.ext (by simp only []; omega))
    | exact congrArg (fun u => B (ix2 k u)) (Fin.ext (by simp only []; omega))
    | (exfalso; omega)
    | contradiction

/-- An array with zero columns after it, the bias. -/
theorem padded_b (Z : FVec Ideal S1x16 .f32) (k : Fin 1) (l : Fin 128) :
    pad S1x128 ![0, 0] ![0, 112] ![0, 0] Z (sitofp (F := Ideal) .f32 (constantI S_ 32 0#32)) pads_S1x16_S1x128_000_01120 h_S_ (ix2 k l)
      = if h : l.val < 16 then Z (ix2 k ⟨l.val, h⟩) else 0 := by
  obtain rfl : k = 0 := Subsingleton.elim _ _
  pointwise []
  split_ifs <;> (repeat first | rw [dif_pos (by omega)] | rw [dif_neg (by omega)] | rw [if_pos (by omega)] | rw [if_neg (by omega)]) <;> first
    | rfl
    | exact zero_number
    | exact congrArg (fun u => Z (ix2 k u)) (Fin.ext (by simp only []; omega))
    | (exfalso; omega)
    | contradiction

/-- The first recurrent branch's packed columns of the bias. -/
theorem packed_bm (w : FVec Ideal S1x8224 .f32) (G : FVec Ideal S1x512 .f32) (i : Fin 1664)
    (hg : ∀ j, G (ix2 0 j) = w (ix2 0 (qkSource j))) :
    (concatenate S1x1664 1 [⟨S1x512, G⟩,
        ⟨S1x1024, extractStridedSlice S1x1024 ![0, 2048] w slices_S1x8224_S1x1024_0_2048⟩,
        ⟨S1x128, pad S1x128 ![0, 0] ![0, 112] ![0, 0] (extractStridedSlice S1x16 ![0, 3072] w slices_S1x8224_S1x16_0_3072)
          (sitofp (F := Ideal) .f32 (constantI S_ 32 0#32)) pads_S1x16_S1x128_000_01120 h_S_⟩] concatenates_S1x512_S1x1024_S1x128_S1x1664_d1) (ix2 0 i) = packM (fun j => w (ix2 0 j)) i := by
  have ha : ∀ j : Fin 1024, extractStridedSlice S1x1024 ![0, 2048] w slices_S1x8224_S1x1024_0_2048 (ix2 0 j) = w (ix2 0 ⟨2048 + j.val, by omega⟩) := fun j => by pointwise []
  have hz : ∀ j : Fin 16, extractStridedSlice S1x16 ![0, 3072] w slices_S1x8224_S1x16_0_3072 (ix2 0 j) = w (ix2 0 ⟨3072 + j.val, by omega⟩) := fun j => by pointwise []
  refine (side_b _ _ _ 0 i).trans ?_
  unfold packM
  by_cases h : i.val < 512
  · rw [dif_pos h, dif_pos h]
    exact hg _
  rw [dif_neg h, dif_neg h]
  by_cases h' : i.val < 1536
  · rw [dif_pos h', dif_pos (show i.val < 1552 by omega)]
    exact ha _
  rw [dif_neg h', padded_b]
  by_cases h2 : i.val < 1552
  · rw [dif_pos h2, dif_pos (show i.val - 1536 < 16 by omega)]
    refine (hz _).trans (congrArg (fun u : Fin 8224 => w (ix2 0 u)) (Fin.ext ?_))
    show 3072 + (i.val - 1536) = 2048 + (i.val - 512)
    omega
  · rw [dif_neg h2, dif_neg (show ¬i.val - 1536 < 16 by omega)]

/-- A vector as a matrix of one row. -/
theorem row_at (w : FVec Ideal S8224 .f32) (j : Fin 8224) : broadcastInDim S1x8224 ![1] bcast_S8224_S1x8224_1 w (ix2 0 j) = w (ix1 j) := by
  pointwise

/-- The first recurrent branch's bias. -/
theorem bm_at (c : Dev nD) (i : Fin 1664) :
    (V m c main_v23 : FVec Ideal S1x1664 .f32) (ix2 0 i) = packM (fun j => m ((c : Thread nD τ).loc main_arg4) (ix1 j)) i := by
  rw [bm_eq]
  refine (packed_bm _ _ i (gather_b _)).trans ?_
  exact congrArg (fun f => packM f i) (funext fun j => row_at _ j)

end Cert.Kernel3Ideal.Proj

end
-- ==== Proof.ProjFlat.lean ====
/- The projection call's results that one matrix product makes each: the recurrent branches' packed channels and the gates, as functions of the launch memory. -/
module

public import proofs.«01_k».proof.Proof.ProjRows
public import proofs.«01_k».proof.Proof.ProjPack
public import proofs.«01_k».proof.Proof.ProjValue

@[expose] public section

set_option maxRecDepth 16384

noncomputable section

namespace Cert.Kernel3Ideal.Proj

open Cert.Kernel3Ideal Cert.Kernel3Ideal.Gen Cert.Proj Idealize.ShloMosaic Idealize.ShloMosaic.TcCoe Idealize.SL.Sem
open Idealize.ShloMosaic.Pipeline (Dat)

variable (m : (ℓ : Loc nD τ sig) → Buf (Elt Ideal) ℓ)

/-- The first recurrent branch's channels at a row of the tile. -/
theorem packM_row (c : Dev nD) (t : Fin cfg0.N) (b : Fin 16) (hb : b.val = t.val / 17) (sc sh : FVec Ideal S1x1x1024 .f32)
    (hsc : ∀ d, sc (ix3 0 0 d) = (iblk m c 3 t : FVec Ideal S1x6x1024 .f32) (ix3 0 1 d))
    (hsh : ∀ d, sh (ix3 0 0 d) = (iblk m c 3 t : FVec Ideal S1x6x1024 .f32) (ix3 0 0 d))
    (r : Fin 256) (x : Fin 4352) (hx : x.val = t.val % 17 * 256 + r) (j : Fin 1664) :
    k0_pay71 (F := Ideal) (k0_pay4 (iblk m c 0 t) (iblk m c 1 t) (iblk m c 2 t) (iblk m c 4 t) sc sh) (iblk m c 6 t) (iblk m c 11 t) (ix3 0 r j)
      = packM (projRow m c b x) j := by
  refine (lin_m _ _ _ r j).trans ((sum_congr ?_ ?_ ?_).trans (lin_packM (hidRow m c b x) (fun k j => m ((c : Thread nD τ).loc main_arg3) (ix2 k j)) (fun j => m ((c : Thread nD τ).loc main_arg4) (ix1 j)) j))
  · exact fun k => inner_row m c t b hb sc sh hsc hsh r x hx k
  · exact fun k => (block_wm m c t k j).trans (wm_at m c k j)
  · exact (block_bm m c t 0 j).trans (bm_at m c j)

/-- The second recurrent branch's channels at a row of the tile. -/
theorem packG_row (c : Dev nD) (t : Fin cfg0.N) (b : Fin 16) (hb : b.val = t.val / 17) (sc sh : FVec Ideal S1x1x1024 .f32)
    (hsc : ∀ d, sc (ix3 0 0 d) = (iblk m c 3 t : FVec Ideal S1x6x1024 .f32) (ix3 0 1 d))
    (hsh : ∀ d, sh (ix3 0 0 d) = (iblk m c 3 t : FVec Ideal S1x6x1024 .f32) (ix3 0 0 d))
    (r : Fin 256) (x : Fin 4352) (hx : x.val = t.val % 17 * 256 + r) (j : Fin 640) :
    k0_pay1 (F := Ideal) (k0_pay72 (k0_pay4 (iblk m c 0 t) (iblk m c 1 t) (iblk m c 2 t) (iblk m c 4 t) sc sh) (iblk m c 8 t) (iblk m c 13 t)) (ix3 0 r j)
      = packG (projRow m c b x) j := by
  refine (lin_g _ _ _ r j).trans ((sum_congr ?_ ?_ ?_).trans (lin_packG (hidRow m c b x) (fun k j => m ((c : Thread nD τ).loc main_arg3) (ix2 k j)) (fun j => m ((c : Thread nD τ).loc main_arg4) (ix1 j)) j))
  · exact fun k => inner_row m c t b hb sc sh hsc hsh r x hx k
  · exact fun k => (block_wg m c t k j).trans (wg_at m c k j)
  · exact (block_bg m c t 0 j).trans (bg_at m c j)

/-- The first recurrent branch's packed channels, every token's, as a function of the launch memory. -/
def out19 (c : Dev nD) : FVec Ideal S16x4352x1664 .f32 := fun i => packM (projRow m c (i 0) (i 1)) (i 2)

/-- What a grid point stores is the result array's block. -/
theorem point19 (c : Dev nD) (t : Fin cfg0.N) (y : S1x256x1664.Idx) : (outsAt0 m c t).2.1 y = out19 m c (((cfg0.win 19).blk t).view.emb y) := by
  have hN : t.val / 17 < 16 := (index_of t).2.2.2.2.2.2.2.2.2.2.2.2.2.2.2.2.2.2.2.2.2.2.2
  idx_vars y
  obtain rfl : y0 = 0 := Subsingleton.elim _ _
  obtain ⟨b, hb⟩ : ∃ b : Fin 16, b.val = t.val / 17 := ⟨⟨t.val / 17, hN⟩, rfl⟩
  obtain ⟨x, hx⟩ : ∃ x : Fin 4352, x.val = t.val % 17 * 256 + y1 := ⟨⟨t.val % 17 * 256 + y1, by omega⟩, rfl⟩
  rw [place19 t y1 y2 b hb x hx]
  show _ = packM (projRow m c b x) y2
  unfold outsAt0
  frame_out
  exact packM_row m c t b hb _ _ (fun d => by pointwise) (fun d => by pointwise) y1 x hx y2

/-- The result array after the run. -/
theorem final19 (c : Dev nD) : (dats m 0 c).arrAt 19 (cfgs 0).N = out19 m c := by
  refine (dats m 0 c).arrAt_eq_of_covers 19 _ (by decide +kernel) fun t hf y => ?_
  blk_simp
  rw [after0_19]
  exact point19 m c t y

/-- The second recurrent branch's packed channels, every token's, as a function of the launch memory. -/
def out21 (c : Dev nD) : FVec Ideal S16x4352x640 .f32 := fun i => packG (projRow m c (i 0) (i 1)) (i 2)

/-- What a grid point stores is the result array's block. -/
theorem point21 (c : Dev nD) (t : Fin cfg0.N) (y : S1x256x640.Idx) : (outsAt0 m c t).2.2.2.1 y = out21 m c (((cfg0.win 21).blk t).view.emb y) := by
  have hN : t.val / 17 < 16 := (index_of t).2.2.2.2.2.2.2.2.2.2.2.2.2.2.2.2.2.2.2.2.2.2.2
  idx_vars y
  obtain rfl : y0 = 0 := Subsingleton.elim _ _
  obtain ⟨b, hb⟩ : ∃ b : Fin 16, b.val = t.val / 17 := ⟨⟨t.val / 17, hN⟩, rfl⟩
  obtain ⟨x, hx⟩ : ∃ x : Fin 4352, x.val = t.val % 17 * 256 + y1 := ⟨⟨t.val % 17 * 256 + y1, by omega⟩, rfl⟩
  rw [place21 t y1 y2 b hb x hx]
  show _ = packG (projRow m c b x) y2
  unfold outsAt0
  frame_out
  exact packG_row m c t b hb _ _ (fun d => by pointwise) (fun d => by pointwise) y1 x hx y2

/-- The result array after the run. -/
theorem final21 (c : Dev nD) : (dats m 0 c).arrAt 21 (cfgs 0).N = out21 m c := by
  refine (dats m 0 c).arrAt_eq_of_covers 21 _ (by decide +kernel) fun t hf y => ?_
  blk_simp
  rw [after0_21]
  exact point21 m c t y

/-- The gates, every token's, as a function of the launch memory. -/
def out22 (c : Dev nD) : FVec Ideal S16x4352x3072 .bf16 := fun i => gates (projRow m c (i 0) (i 1)) (i 2)

/-- What a grid point stores is the result array's block. -/
theorem point22 (c : Dev nD) (t : Fin cfg0.N) (y : S1x256x3072.Idx) : (outsAt0 m c t).2.2.2.2 y = out22 m c (((cfg0.win 22).blk t).view.emb y) := by
  have hN : t.val / 17 < 16 := (index_of t).2.2.2.2.2.2.2.2.2.2.2.2.2.2.2.2.2.2.2.2.2.2.2
  idx_vars y
  obtain rfl : y0 = 0 := Subsingleton.elim _ _
  obtain ⟨b, hb⟩ : ∃ b : Fin 16, b.val = t.val / 17 := ⟨⟨t.val / 17, hN⟩, rfl⟩
  obtain ⟨x, hx⟩ : ∃ x : Fin 4352, x.val = t.val % 17 * 256 + y1 := ⟨⟨t.val % 17 * 256 + y1, by omega⟩, rfl⟩
  rw [place22 t y1 y2 b hb x hx]
  show _ = gates (projRow m c b x) y2
  unfold outsAt0
  frame_out
  exact gate_row m c t b hb _ _ (fun d => by pointwise) (fun d => by pointwise) y1 x hx y2

/-- The result array after the run. -/
theorem final22 (c : Dev nD) : (dats m 0 c).arrAt 22 (cfgs 0).N = out22 m c := by
  refine (dats m 0 c).arrAt_eq_of_covers 22 _ (by decide +kernel) fun t hf y => ?_
  blk_simp
  rw [after0_22]
  exact point22 m c t y

end Cert.Kernel3Ideal.Proj

end
-- ==== Proof.ProjHeads.lean ====
/- The stored pieces of the projection call's tile, each named by what it does to its 128 channels: the rotated queries and
   keys, the values, and the convolution's heads. -/
module

public import proofs.«01_k».proof.Proof.ProjBlock

@[expose] public section

set_option maxRecDepth 16384

noncomputable section

namespace Cert.Kernel3Ideal.Proj

open Cert.Kernel3Ideal Cert.Kernel3Ideal.Gen Cert.Proj Idealize.ShloMosaic Idealize.ShloMosaic.TcCoe

section conv

variable (f g : BitVec 1) (R Z Y : IVec S256x1 32) (cw : FVec Ideal S5x1536 .f32) (P Q : FVec Ideal S256x1536 .f32) (A : FVec Ideal S256x1536 .f32)

/-- Query head 0. -/
theorem head_q0 : k0_pay15 (F := Ideal) f g R cw P Q Y Z
    = scaled (extractStridedSlice S256x128 ![0, 0] (k0_pay14 f g R cw P Q Y Z) slices_S256x1536_o0_0_S256x128) := rfl

/-- Query head 1. -/
theorem head_q1 : k0_pay19 (F := Ideal) (k0_pay16 f g R cw P Q Y Z) (k0_pay17 f g R cw P Q Y Z) k0_pay18
    = scaled (extractStridedSlice S256x128 ![0, 128] (k0_pay14 f g R cw P Q Y Z) slices_S256x1536_o0_128_S256x128) := rfl

/-- Query head 2. -/
theorem head_q2 : k0_pay20 (F := Ideal) A = scaled (extractStridedSlice S256x128 ![0, 256] A slices_S256x1536_o0_256_S256x128) := rfl

/-- Query head 3. -/
theorem head_q3 : k0_pay21 (F := Ideal) A = scaled (extractStridedSlice S256x128 ![0, 384] A slices_S256x1536_o0_384_S256x128) := rfl

/-- Key head 0. -/
theorem head_k0 : k0_pay24 (F := Ideal) (k0_pay22 A) (k0_pay23 A)
    = stored (shortened (extractStridedSlice S256x128 ![0, 512] A slices_S256x1536_o0_512_S256x128)) := rfl

/-- Key head 1. -/
theorem head_k1 : k0_pay25 (F := Ideal) A = stored (shortened (extractStridedSlice S256x128 ![0, 640] A slices_S256x1536_o0_640_S256x128)) := rfl

/-- Key head 2. -/
theorem head_k2 : k0_pay26 (F := Ideal) A = stored (shortened (extractStridedSlice S256x128 ![0, 768] A slices_S256x1536_o0_768_S256x128)) := rfl

/-- Key head 3. -/
theorem head_k3 : k0_pay29 (F := Ideal) (k0_pay27 A) (k0_pay28 A)
    = stored (shortened (extractStridedSlice S256x128 ![0, 896] A slices_S256x1536_o0_896_S256x128)) := rfl

/-- Value head 0. -/
theorem head_v0 : k0_pay30 (F := Ideal) A = stored (extractStridedSlice S256x128 ![0, 1024] A slices_S256x1536_o0_1024_S256x128) := rfl

/-- Value head 1. -/
theorem head_v1 : k0_pay31 (F := Ideal) A = stored (extractStridedSlice S256x128 ![0, 1152] A slices_S256x1536_o0_1152_S256x128) := rfl

/-- Value head 2. -/
theorem head_v2 : k0_pay32 (F := Ideal) A = stored (extractStridedSlice S256x128 ![0, 1280] A slices_S256x1536_o0_1280_S256x128) := rfl

/-- Value head 3. -/
theorem head_v3 : k0_pay33 (F := Ideal) A = stored (extractStridedSlice S256x128 ![0, 1408] A slices_S256x1536_o0_1408_S256x128) := rfl

end conv

section rope

variable (X : FVec Ideal S256x1536 .f32) (s : BitVec 1) (a b n cs sn : FVec Ideal S256x128 .f32)

/-- The first pair of blocks. -/
theorem rope_0 : k0_pay39 (F := Ideal) X s a b n
    = rotated (extractStridedSlice S256x128 ![0, 0] X slices_S256x1536_o0_0_S256x128) (k0_pay37 s a b) (k0_pay38 s n) := rfl

/-- The mask of the second pair of blocks. -/
theorem second_pair (C : FVec Ideal S256x128 .f32) : k0_pay42 (F := Ideal) sn (k0_pay40 X) C (iota .tc S256x128 32 [1] iota_S256x128_d1_w32) 32#32 (Scalar.cmpi .eq 32#32 0#32)
    = shapeCast S1x256x128 (truncf .bf16 (addf C
    (mulf (select firstHalf (subf (broadcast S256x128 (Scalar.ofBits .f32 0x00000000#32)) (dynamicRotate 1 112#32 none (k0_pay40 X) rotates_S256x128_d1))
      (dynamicRotate 1 16#32 none (k0_pay40 X) rotates_S256x128_d1)) sn)) bitsLt_bf16_f32) shapeCasts_S256x128_S1x256x128 := rfl

/-- The second pair of blocks. -/
theorem rope_1 : k0_pay42 (F := Ideal) sn (k0_pay40 X) (k0_pay41 X s a b) (iota .tc S256x128 32 [1] iota_S256x128_d1_w32) 32#32 0#1
    = rotated (extractStridedSlice S256x128 ![0, 128] X slices_S256x1536_o0_128_S256x128) (k0_pay37 s a b) sn := by
  have e : (0#1 : BitVec 1) = Scalar.cmpi .eq 32#32 0#32 := by decide
  rw [e, second_pair]
  rfl

/-- The mask of the third pair of blocks is the mask of the lanes of each first half. -/
theorem mask_2 : cmpi .slt (select (andi (xori k0_pay47 k0_pay48) k0_pay46) (addi k0_pay45 (broadcast S256x128 32#32)) k0_pay45) (broadcast S256x128 16#32) = firstHalf := by
  have e : Scalar.select (Scalar.cmpi .eq 32#32 0#32) 1#32 32#32 = 32#32 := by decide
  unfold firstHalf k0_pay52 k0_pay48 k0_pay47 k0_pay46 k0_pay45
  simp only [e]

/-- The third pair of blocks. -/
theorem rope_2 : k0_pay49 (F := Ideal) sn (k0_pay43 X) (k0_pay44 X cs) 32#32 k0_pay45 k0_pay46 k0_pay47 k0_pay48
    = rotated (extractStridedSlice S256x128 ![0, 256] X slices_S256x1536_o0_256_S256x128) cs sn := by
  unfold rotated
  rw [← mask_2]
  rfl

/-- The fourth pair of blocks. -/
theorem rope_3 : k0_pay54 (F := Ideal) sn (k0_pay50 X) (k0_pay51 X cs) k0_pay52 (k0_pay53 X) 16#32
    = rotated (extractStridedSlice S256x128 ![0, 384] X slices_S256x1536_o0_384_S256x128) cs sn := rfl

/-- The fifth pair of blocks. -/
theorem rope_4 : k0_pay55 (F := Ideal) X cs sn
    = rotated (extractStridedSlice S256x128 ![0, 512] X slices_S256x1536_o0_512_S256x128) cs sn := rfl

/-- The sixth pair of blocks. -/
theorem rope_5 : k0_pay58 (F := Ideal) sn (k0_pay56 X) (k0_pay57 X cs)
    = rotated (extractStridedSlice S256x128 ![0, 640] X slices_S256x1536_o0_640_S256x128) cs sn := rfl

/-- The mask of the seventh pair of blocks. -/
theorem mask_6 : cmpi .slt (select (andi (xori k0_pay63 (broadcastTo S256x128 (broadcast S256x128 (Scalar.cmpi .slt 32#32 0#32)) broadcasts_S256x128_S256x128)) k0_pay62)
    (addi k0_pay61 (broadcast S256x128 32#32)) k0_pay61) (broadcast S256x128 16#32) = firstHalf := by
  have e : Scalar.select (Scalar.cmpi .eq 32#32 0#32) 1#32 32#32 = 32#32 := by decide
  unfold firstHalf k0_pay52 k0_pay63 k0_pay62 k0_pay61
  simp only [e]

/-- The seventh pair of blocks. -/
theorem rope_6 : k0_pay64 (F := Ideal) sn (k0_pay59 X) (k0_pay60 X cs) 32#32 k0_pay61 k0_pay62 k0_pay63
    = rotated (extractStridedSlice S256x128 ![0, 768] X slices_S256x1536_o0_768_S256x128) cs sn := by
  unfold rotated
  rw [← mask_6]
  rfl

/-- The eighth pair of blocks. -/
theorem rope_7 : k0_pay69 (F := Ideal) sn (k0_pay65 X) (k0_pay66 X cs) k0_pay67 (k0_pay68 X)
    = rotated (extractStridedSlice S256x128 ![0, 896] X slices_S256x1536_o0_896_S256x128) cs sn := rfl

/-- The attention's values are stored as they are. -/
theorem value_at (r : Fin 256) (l : Fin 512) : k0_pay70 (F := Ideal) X (ix3 0 r l) = X (ix2 r ⟨1024 + l.val, by omega⟩) := by
  pointwise [k0_pay70]

/-- A latent tile's cosines are the table's. -/
theorem cos_latent (r : Fin 256) (l : Fin 128) : k0_pay37 (F := Ideal) 1#1 (k0_pay35 a) k0_pay36 (ix2 r l) = a (ix2 r l) := by
  pointwise [k0_pay37, k0_pay35]

/-- The context's cosines are ones. -/
theorem cos_context (r : Fin 256) (l : Fin 128) : k0_pay37 (F := Ideal) 0#1 (k0_pay35 a) k0_pay36 (ix2 r l) = 1 := by
  pointwise [k0_pay37, k0_pay36]

/-- A latent tile's sines are the table's. -/
theorem sin_latent (r : Fin 256) (l : Fin 128) : k0_pay38 (F := Ideal) 1#1 a (ix2 r l) = a (ix2 r l) := by
  pointwise [k0_pay38]

/-- The context's sines are zeros. -/
theorem sin_context (r : Fin 256) (l : Fin 128) : k0_pay38 (F := Ideal) 0#1 a (ix2 r l) = 0 := by
  pointwise [k0_pay38]

end rope

end Cert.Kernel3Ideal.Proj

end
-- ==== Proof.ProjPieces.lean ====
/- The stored pieces of the projection call's tile against the specification: each head's lanes are the head's channels. -/
module

public import proofs.«01_k».proof.Proof.ProjHeads

@[expose] public section

set_option maxRecDepth 16384

noncomputable section

namespace Cert.Kernel3Ideal.Proj

open Cert.Kernel3Ideal Cert.Kernel3Ideal.Gen Cert.Proj Idealize.ShloMosaic Idealize.ShloMosaic.TcCoe

/-- The attention's channels are among the projection's. -/
theorem below_all (j : Fin 1536) : j.val < 8224 := by omega

/-- A head's channel's half. -/
theorem half_lt (l : Fin 128) : l.val % 64 < 64 := by omega

section conv

variable (A : FVec Ideal S256x1536 .f32) (a : Fin 1536 → EReal) (r : Fin 256) (hA : ∀ j, A (ix2 r j) = a j) (l : Fin 128) (y : Fin 1536)

include hA in
/-- Query head 0. -/
theorem lanes_0 (hy : y.val = 0 + l.val) : scaled (extractStridedSlice S256x128 ![0, 0] A slices_S256x1536_o0_0_S256x128) (ix3 0 r l) = unit a y := by
  have e : y = (⟨0 + l.val, by omega⟩ : Fin 1536) := Fin.ext hy
  rw [e]
  refine unit_q _ a 0 (by omega) (fun l => ⟨0 + l.val, by omega⟩) (fun l => by show 0 + l.val = _; omega) r (fun l => ?_) l
  refine Eq.trans ?_ (hA ⟨0 + l.val, by omega⟩)
  pointwise []

include hA in
/-- Query head 1. -/
theorem lanes_1 (hy : y.val = 128 + l.val) : scaled (extractStridedSlice S256x128 ![0, 128] A slices_S256x1536_o0_128_S256x128) (ix3 0 r l) = unit a y := by
  have e : y = (⟨128 + l.val, by omega⟩ : Fin 1536) := Fin.ext hy
  rw [e]
  refine unit_q _ a 1 (by omega) (fun l => ⟨128 + l.val, by omega⟩) (fun l => by show 128 + l.val = _; omega) r (fun l => ?_) l
  refine Eq.trans ?_ (hA ⟨128 + l.val, by omega⟩)
  pointwise []

include hA in
/-- Query head 2. -/
theorem lanes_2 (hy : y.val = 256 + l.val) : scaled (extractStridedSlice S256x128 ![0, 256] A slices_S256x1536_o0_256_S256x128) (ix3 0 r l) = unit a y := by
  have e : y = (⟨256 + l.val, by omega⟩ : Fin 1536) := Fin.ext hy
  rw [e]
  refine unit_q _ a 2 (by omega) (fun l => ⟨256 + l.val, by omega⟩) (fun l => by show 256 + l.val = _; omega) r (fun l => ?_) l
  refine Eq.trans ?_ (hA ⟨256 + l.val, by omega⟩)
  pointwise []

include hA in
/-- Query head 3. -/
theorem lanes_3 (hy : y.val = 384 + l.val) : scaled (extractStridedSlice S256x128 ![0, 384] A slices_S256x1536_o0_384_S256x128) (ix3 0 r l) = unit a y := by
  have e : y = (⟨384 + l.val, by omega⟩ : Fin 1536) := Fin.ext hy
  rw [e]
  refine unit_q _ a 3 (by omega) (fun l => ⟨384 + l.val, by omega⟩) (fun l => by show 384 + l.val = _; omega) r (fun l => ?_) l
  refine Eq.trans ?_ (hA ⟨384 + l.val, by omega⟩)
  pointwise []

include hA in
/-- Key head 0. -/
theorem lanes_4 (hy : y.val = 512 + l.val) : stored (shortened (extractStridedSlice S256x128 ![0, 512] A slices_S256x1536_o0_512_S256x128)) (ix3 0 r l) = unit a y := by
  have e : y = (⟨512 + l.val, by omega⟩ : Fin 1536) := Fin.ext hy
  rw [e]
  refine unit_k _ a 4 (by omega) (by omega) (fun l => ⟨512 + l.val, by omega⟩) (fun l => by show 512 + l.val = _; omega) r (fun l => ?_) l
  refine Eq.trans ?_ (hA ⟨512 + l.val, by omega⟩)
  pointwise []

include hA in
/-- Key head 1. -/
theorem lanes_5 (hy : y.val = 640 + l.val) : stored (shortened (extractStridedSlice S256x128 ![0, 640] A slices_S256x1536_o0_640_S256x128)) (ix3 0 r l) = unit a y := by
  have e : y = (⟨640 + l.val, by omega⟩ : Fin 1536) := Fin.ext hy
  rw [e]
  refine unit_k _ a 5 (by omega) (by omega) (fun l => ⟨640 + l.val, by omega⟩) (fun l => by show 640 + l.val = _; omega) r (fun l => ?_) l
  refine Eq.trans ?_ (hA ⟨640 + l.val, by omega⟩)
  pointwise []

include hA in
/-- Key head 2. -/
theorem lanes_6 (hy : y.val = 768 + l.val) : stored (shortened (extractStridedSlice S256x128 ![0, 768] A slices_S256x1536_o0_768_S256x128)) (ix3 0 r l) = unit a y := by
  have e : y = (⟨768 + l.val, by omega⟩ : Fin 1536) := Fin.ext hy
  rw [e]
  refine unit_k _ a 6 (by omega) (by omega) (fun l => ⟨768 + l.val, by omega⟩) (fun l => by show 768 + l.val = _; omega) r (fun l => ?_) l
  refine Eq.trans ?_ (hA ⟨768 + l.val, by omega⟩)
  pointwise []

include hA in
/-- Key head 3. -/
theorem lanes_7 (hy : y.val = 896 + l.val) : stored (shortened (extractStridedSlice S256x128 ![0, 896] A slices_S256x1536_o0_896_S256x128)) (ix3 0 r l) = unit a y := by
  have e : y = (⟨896 + l.val, by omega⟩ : Fin 1536) := Fin.ext hy
  rw [e]
  refine unit_k _ a 7 (by omega) (by omega) (fun l => ⟨896 + l.val, by omega⟩) (fun l => by show 896 + l.val = _; omega) r (fun l => ?_) l
  refine Eq.trans ?_ (hA ⟨896 + l.val, by omega⟩)
  pointwise []

include hA in
/-- Value head 0. -/
theorem lanes_8 (hy : y.val = 1024 + l.val) : stored (extractStridedSlice S256x128 ![0, 1024] A slices_S256x1536_o0_1024_S256x128) (ix3 0 r l) = unit a y := by
  have e : y = (⟨1024 + l.val, by omega⟩ : Fin 1536) := Fin.ext hy
  rw [e]
  refine unit_v _ a 8 (by omega) (fun l => ⟨1024 + l.val, by omega⟩) (fun l => by show 1024 + l.val = _; omega) r (fun l => ?_) l
  refine Eq.trans ?_ (hA ⟨1024 + l.val, by omega⟩)
  pointwise []

include hA in
/-- Value head 1. -/
theorem lanes_9 (hy : y.val = 1152 + l.val) : stored (extractStridedSlice S256x128 ![0, 1152] A slices_S256x1536_o0_1152_S256x128) (ix3 0 r l) = unit a y := by
  have e : y = (⟨1152 + l.val, by omega⟩ : Fin 1536) := Fin.ext hy
  rw [e]
  refine unit_v _ a 9 (by omega) (fun l => ⟨1152 + l.val, by omega⟩) (fun l => by show 1152 + l.val = _; omega) r (fun l => ?_) l
  refine Eq.trans ?_ (hA ⟨1152 + l.val, by omega⟩)
  pointwise []

include hA in
/-- Value head 2. -/
theorem lanes_10 (hy : y.val = 1280 + l.val) : stored (extractStridedSlice S256x128 ![0, 1280] A slices_S256x1536_o0_1280_S256x128) (ix3 0 r l) = unit a y := by
  have e : y = (⟨1280 + l.val, by omega⟩ : Fin 1536) := Fin.ext hy
  rw [e]
  refine unit_v _ a 10 (by omega) (fun l => ⟨1280 + l.val, by omega⟩) (fun l => by show 1280 + l.val = _; omega) r (fun l => ?_) l
  refine Eq.trans ?_ (hA ⟨1280 + l.val, by omega⟩)
  pointwise []

include hA in
/-- Value head 3. -/
theorem lanes_11 (hy : y.val = 1408 + l.val) : stored (extractStridedSlice S256x128 ![0, 1408] A slices_S256x1536_o0_1408_S256x128) (ix3 0 r l) = unit a y := by
  have e : y = (⟨1408 + l.val, by omega⟩ : Fin 1536) := Fin.ext hy
  rw [e]
  refine unit_v _ a 11 (by omega) (fun l => ⟨1408 + l.val, by omega⟩) (fun l => by show 1408 + l.val = _; omega) r (fun l => ?_) l
  refine Eq.trans ?_ (hA ⟨1408 + l.val, by omega⟩)
  pointwise []

end conv

section rope

variable (X cs sn : FVec Ideal S256x128 .f32) (A : FVec Ideal S256x1536 .f32) (P : Fin 4352 → Fin 8224 → EReal) (n : Fin 4352) (r : Fin 256)
  (hA : ∀ j : Fin 1536, A (ix2 r j) = P n ⟨j.val, below_all j⟩)
  (h1 : n.val < 256 → ∀ l, cs (ix2 r l) = 1 ∧ sn (ix2 r l) = 0)
  (h2 : ¬n.val < 256 → ∀ l, cs (ix2 r l) = Ideal.cos (angle (n.val - 256) ⟨l.val % 64, half_lt l⟩) ∧ sn (ix2 r l) = Ideal.sin (angle (n.val - 256) ⟨l.val % 64, half_lt l⟩))
  (l : Fin 128) (y : Fin 1536)

include h1 h2 in
/-- A pair of blocks: the context's as it is, a latent's rotated. -/
theorem pair_at (k : ℕ) (hk : k < 8) (u : Fin 128 → Fin 1536) (hu : ∀ l, (u l).val = k * 128 + l.val)
    (hx : ∀ l, X (ix2 r l) = P n ⟨(u l).val, below_all (u l)⟩) : rotated X cs sn (ix3 0 r l) = resA P n (u l) := by
  unfold resA
  by_cases h : n.val < 256
  · rw [if_pos h]
    exact plain_qk X cs sn (P n) u r hx (fun l => (h1 h l).1) (fun l => (h1 h l).2) l
  · rw [if_neg h]
    exact roped_qk X cs sn (P n) (fun l => Ideal.cos (angle (n.val - 256) l)) (fun l => Ideal.sin (angle (n.val - 256) l)) k hk u hu r hx (fun l => (h2 h l).1) (fun l => (h2 h l).2) l

include hA h1 h2 in
/-- Pair 0. -/
theorem pair_0 (hy : y.val = 0 + l.val) : rotated (extractStridedSlice S256x128 ![0, 0] A slices_S256x1536_o0_0_S256x128) cs sn (ix3 0 r l) = resA P n y := by
  have e : y = (⟨0 + l.val, by omega⟩ : Fin 1536) := Fin.ext hy
  rw [e]
  refine pair_at _ cs sn P n r h1 h2 l 0 (by omega) (fun l => ⟨0 + l.val, by omega⟩) (fun l => by show 0 + l.val = _; omega) (fun l => ?_)
  refine Eq.trans ?_ (hA ⟨0 + l.val, by omega⟩)
  pointwise []

include hA h1 h2 in
/-- Pair 1. -/
theorem pair_1 (hy : y.val = 128 + l.val) : rotated (extractStridedSlice S256x128 ![0, 128] A slices_S256x1536_o0_128_S256x128) cs sn (ix3 0 r l) = resA P n y := by
  have e : y = (⟨128 + l.val, by omega⟩ : Fin 1536) := Fin.ext hy
  rw [e]
  refine pair_at _ cs sn P n r h1 h2 l 1 (by omega) (fun l => ⟨128 + l.val, by omega⟩) (fun l => by show 128 + l.val = _; omega) (fun l => ?_)
  refine Eq.trans ?_ (hA ⟨128 + l.val, by omega⟩)
  pointwise []

include hA h1 h2 in
/-- Pair 2. -/
theorem pair_2 (hy : y.val = 256 + l.val) : rotated (extractStridedSlice S256x128 ![0, 256] A slices_S256x1536_o0_256_S256x128) cs sn (ix3 0 r l) = resA P n y := by
  have e : y = (⟨256 + l.val, by omega⟩ : Fin 1536) := Fin.ext hy
  rw [e]
  refine pair_at _ cs sn P n r h1 h2 l 2 (by omega) (fun l => ⟨256 + l.val, by omega⟩) (fun l => by show 256 + l.val = _; omega) (fun l => ?_)
  refine Eq.trans ?_ (hA ⟨256 + l.val, by omega⟩)
  pointwise []

include hA h1 h2 in
/-- Pair 3. -/
theorem pair_3 (hy : y.val = 384 + l.val) : rotated (extractStridedSlice S256x128 ![0, 384] A slices_S256x1536_o0_384_S256x128) cs sn (ix3 0 r l) = resA P n y := by
  have e : y = (⟨384 + l.val, by omega⟩ : Fin 1536) := Fin.ext hy
  rw [e]
  refine pair_at _ cs sn P n r h1 h2 l 3 (by omega) (fun l => ⟨384 + l.val, by omega⟩) (fun l => by show 384 + l.val = _; omega) (fun l => ?_)
  refine Eq.trans ?_ (hA ⟨384 + l.val, by omega⟩)
  pointwise []

include hA h1 h2 in
/-- Pair 4. -/
theorem pair_4 (hy : y.val = 512 + l.val) : rotated (extractStridedSlice S256x128 ![0, 512] A slices_S256x1536_o0_512_S256x128) cs sn (ix3 0 r l) = resA P n y := by
  have e : y = (⟨512 + l.val, by omega⟩ : Fin 1536) := Fin.ext hy
  rw [e]
  refine pair_at _ cs sn P n r h1 h2 l 4 (by omega) (fun l => ⟨512 + l.val, by omega⟩) (fun l => by show 512 + l.val = _; omega) (fun l => ?_)
  refine Eq.trans ?_ (hA ⟨512 + l.val, by omega⟩)
  pointwise []

include hA h1 h2 in
/-- Pair 5. -/
theorem pair_5 (hy : y.val = 640 + l.val) : rotated (extractStridedSlice S256x128 ![0, 640] A slices_S256x1536_o0_640_S256x128) cs sn (ix3 0 r l) = resA P n y := by
  have e : y = (⟨640 + l.val, by omega⟩ : Fin 1536) := Fin.ext hy
  rw [e]
  refine pair_at _ cs sn P n r h1 h2 l 5 (by omega) (fun l => ⟨640 + l.val, by omega⟩) (fun l => by show 640 + l.val = _; omega) (fun l => ?_)
  refine Eq.trans ?_ (hA ⟨640 + l.val, by omega⟩)
  pointwise []

include hA h1 h2 in
/-- Pair 6. -/
theorem pair_6 (hy : y.val = 768 + l.val) : rotated (extractStridedSlice S256x128 ![0, 768] A slices_S256x1536_o0_768_S256x128) cs sn (ix3 0 r l) = resA P n y := by
  have e : y = (⟨768 + l.val, by omega⟩ : Fin 1536) := Fin.ext hy
  rw [e]
  refine pair_at _ cs sn P n r h1 h2 l 6 (by omega) (fun l => ⟨768 + l.val, by omega⟩) (fun l => by show 768 + l.val = _; omega) (fun l => ?_)
  refine Eq.trans ?_ (hA ⟨768 + l.val, by omega⟩)
  pointwise []

include hA h1 h2 in
/-- Pair 7. -/
theorem pair_7 (hy : y.val = 896 + l.val) : rotated (extractStridedSlice S256x128 ![0, 896] A slices_S256x1536_o0_896_S256x128) cs sn (ix3 0 r l) = resA P n y := by
  have e : y = (⟨896 + l.val, by omega⟩ : Fin 1536) := Fin.ext hy
  rw [e]
  refine pair_at _ cs sn P n r h1 h2 l 7 (by omega) (fun l => ⟨896 + l.val, by omega⟩) (fun l => by show 896 + l.val = _; omega) (fun l => ?_)
  refine Eq.trans ?_ (hA ⟨896 + l.val, by omega⟩)
  pointwise []

include hA in
/-- The values. -/
theorem values_at (v : Fin 512) (hy : y.val = 1024 + v.val) : k0_pay70 (F := Ideal) A (ix3 0 r v) = resA P n y := by
  rw [value_at, hA]
  unfold resA roped plain
  have e : y = (⟨1024 + v.val, by omega⟩ : Fin 1536) := Fin.ext hy
  rw [e]
  by_cases h : n.val < 256
  · rw [if_pos h]
  · rw [if_neg h, if_neg (show ¬1024 + v.val < 1024 by omega)]

end rope

end Cert.Kernel3Ideal.Proj

end
-- ==== Proof.ProjConv.lean ====
/- The projection call's queries, keys and values of the second recurrent branch, as a function of the launch memory. -/
module

public import proofs.«01_k».proof.Proof.ProjRows
public import proofs.«01_k».proof.Proof.ProjPieces
public import proofs.«01_k».proof.Proof.ProjValue

@[expose] public section

set_option maxRecDepth 16384

noncomputable section

namespace Cert.Kernel3Ideal.Proj

open Cert.Kernel3Ideal Cert.Kernel3Ideal.Gen Cert.Proj Idealize.ShloMosaic Idealize.ShloMosaic.TcCoe Idealize.SL.Sem
open Idealize.ShloMosaic.Pipeline (Dat)

variable (m : (ℓ : Loc nD τ sig) → Buf (Elt Ideal) ℓ)

/-- A tap of the convolution at a row of the tile: where the token it names is in another segment, zero, and else the
    convolution's input at the row of the tile with its edges. -/
theorem tap_row (c : Dev nD) (t : Fin cfg0.N) (b : Fin 16) (hb : b.val = t.val / 17) (sc sh : FVec Ideal S1x1x1024 .f32)
    (hsc : ∀ d, sc (ix3 0 0 d) = (iblk m c 3 t : FVec Ideal S1x6x1024 .f32) (ix3 0 1 d))
    (hsh : ∀ d, sh (ix3 0 0 d) = (iblk m c 3 t : FVec Ideal S1x6x1024 .f32) (ix3 0 0 d))
    (r : Fin 256) (x : Fin 4352) (hx : x.val = t.val % 17 * 256 + r) (k : Fin 5) (s : ℕ) (hk : k.val = s)
    (Q : Prop) [Decidable Q] (hQ : Q ↔ ¬(2 ≤ x.val + s ∧ x.val + s - 2 < 4352 ∧ (x.val < 256 ↔ x.val + s - 2 < 256))) (i : Fin 272) (hi : i.val = 6 + s + r.val) (j : Fin 1536) :
    tap (projRow m c b) x k j = if Q then 0 else
      k0_pay6 (F := Ideal) (k0_pay3 (iblk m c 0 t) (iblk m c 1 t) (iblk m c 2 t) (iblk m c 4 t) sc sh) (k0_pay5 (iblk m c 7 t))
        (constant S272x1536 .f32 0x00000000#32) (iblk m c 12 t) (ix2 i j) := by
  subst hk
  unfold tap
  by_cases h : 2 ≤ x.val + k.val ∧ x.val + k.val - 2 < 4352 ∧ (x.val < 256 ↔ x.val + k.val - 2 < 256)
  · rw [dif_pos h, if_neg (fun q => hQ.mp q h)]
    exact (conv_row m c t b hb sc sh hsc hsh i ⟨x.val + k.val - 2, h.2.1⟩ (by show x.val + k.val - 2 + 8 = _; omega)
      (by show t.val % 17 = 0 ↔ x.val + k.val - 2 < 256; omega) j).symm
  · rw [dif_neg h, if_pos (hQ.mpr h)]

/-- The convolution with its SiLU at a row of the tile. -/
theorem act_row (c : Dev nD) (t : Fin cfg0.N) (b : Fin 16) (hb : b.val = t.val / 17) (sc sh : FVec Ideal S1x1x1024 .f32)
    (hsc : ∀ d, sc (ix3 0 0 d) = (iblk m c 3 t : FVec Ideal S1x6x1024 .f32) (ix3 0 1 d))
    (hsh : ∀ d, sh (ix3 0 0 d) = (iblk m c 3 t : FVec Ideal S1x6x1024 .f32) (ix3 0 0 d))
    (r : Fin 256) (x : Fin 4352) (hx : x.val = t.val % 17 * 256 + r) (a : BitVec 32) (ha : a = BitVec.ofNat 32 ↑(grid0.coords t 1)) (j : Fin 1536) :
    k0_pay14 (F := Ideal) (Scalar.ori (Scalar.cmpi .eq a 0#32) (Scalar.cmpi .eq a 1#32)) (Scalar.ori (Scalar.cmpi .eq a 0#32) (Scalar.cmpi .eq a 16#32)) rows (iblk m c 15 t)
      (k0_pay10 (k0_pay6 (k0_pay3 (iblk m c 0 t) (iblk m c 1 t) (iblk m c 2 t) (iblk m c 4 t) sc sh) (k0_pay5 (iblk m c 7 t)) (constant S272x1536 .f32 0x00000000#32) (iblk m c 12 t))
        (Scalar.ori (Scalar.cmpi .eq a 0#32) (Scalar.cmpi .eq a 1#32)) (Scalar.ori (Scalar.cmpi .eq a 0#32) (Scalar.cmpi .eq a 16#32)) rows (iblk m c 15 t)
        (k0_pay7 a (k0_pay3 (iblk m c 0 t) (iblk m c 1 t) (iblk m c 2 t) (iblk m c 4 t) sc sh) (k0_pay5 (iblk m c 7 t)) (constant S272x1536 .f32 0x00000000#32) (iblk m c 12 t) (iblk m c 15 t))
        (k0_pay8 (k0_pay3 (iblk m c 0 t) (iblk m c 1 t) (iblk m c 2 t) (iblk m c 4 t) sc sh) (k0_pay5 (iblk m c 7 t)) (constant S272x1536 .f32 0x00000000#32) (iblk m c 12 t)) k0_pay9)
      (k0_pay11 (k0_pay6 (k0_pay3 (iblk m c 0 t) (iblk m c 1 t) (iblk m c 2 t) (iblk m c 4 t) sc sh) (k0_pay5 (iblk m c 7 t)) (constant S272x1536 .f32 0x00000000#32) (iblk m c 12 t)))
      (k0_pay12 rows) k0_pay13 (ix2 r j)
      = act (tap (projRow m c b) x) (fun k j => m ((c : Thread nD τ).loc main_arg5) (ix2 k j)) j := by
  have hf := (tests t).1
  have hg := (tests t).2.1
  rw [← ha] at hf hg
  have hf1 : Scalar.ori (Scalar.cmpi .eq a 0#32) (Scalar.cmpi .eq a 1#32) = 1#1 ↔ t.val % 17 ≤ 1 := by
    rw [hf]
    by_cases h : t.val % 17 ≤ 1
    · simp [h]
    · simp [h]
  have hg1 : Scalar.ori (Scalar.cmpi .eq a 0#32) (Scalar.cmpi .eq a 16#32) = 1#1 ↔ (t.val % 17 = 0 ∨ t.val % 17 = 16) := by
    rw [hg]
    by_cases h : t.val % 17 = 0 ∨ t.val % 17 = 16
    · simp [h]
    · simp [h]
  have hq : t.val % 17 < 17 := Nat.mod_lt _ (by omega)
  have hr := r.isLt
  refine (act_block a _ _ _ _ _ _ _ rfl rfl (tap (projRow m c b) x) r ?_ ?_ ?_ ?_ ?_ j).trans ?_
  · exact fun j => tap_row m c t b hb sc sh hsc hsh r x hx 0 0 rfl _ (by rw [hf1]; omega) _ (by show 6 + r.val = 6 + 0 + r.val; omega) j
  · exact fun j => tap_row m c t b hb sc sh hsc hsh r x hx 1 1 rfl _ (by rw [hf1]; omega) _ (by show 7 + r.val = 6 + 1 + r.val; omega) j
  · exact fun j => (tap_row m c t b hb sc sh hsc hsh r x hx 2 2 rfl False ⟨False.elim, fun q => q ⟨by omega, by rw [Nat.add_sub_cancel]; exact x.isLt, by rw [Nat.add_sub_cancel]⟩⟩ _ (by show 8 + r.val = 6 + 2 + r.val; omega) j).trans (if_neg id)
  · exact fun j => tap_row m c t b hb sc sh hsc hsh r x hx 3 3 rfl _ (by rw [hg1]; omega) _ (by show 9 + r.val = 6 + 3 + r.val; omega) j
  · exact fun j => tap_row m c t b hb sc sh hsc hsh r x hx 4 4 rfl _ (by rw [hg1]; omega) _ (by show 10 + r.val = 6 + 4 + r.val; omega) j
  · exact congrArg (fun w => act (tap (projRow m c b) x) w j) (funext fun k => funext fun j => block_taps m c t k j)

end Cert.Kernel3Ideal.Proj

end
-- ==== Proof.ProjConvArray.lean ====
/- The projection call's queries, keys and values of the second recurrent branch: what the grid points store, and the result array. -/
module

public import proofs.«01_k».proof.Proof.ProjConv

@[expose] public section

set_option maxRecDepth 16384

noncomputable section

namespace Cert.Kernel3Ideal.Proj

open Cert.Kernel3Ideal Cert.Kernel3Ideal.Gen Cert.Proj Idealize.ShloMosaic Idealize.ShloMosaic.TcCoe Idealize.SL.Sem
open Idealize.ShloMosaic.Pipeline (Dat)

variable (m : (ℓ : Loc nD τ sig) → Buf (Elt Ideal) ℓ)

/-- The second recurrent branch's queries, keys and values, every token's, as a function of the launch memory. -/
def out20 (c : Dev nD) : FVec Ideal S16x4352x1536 .f32 := fun i => resQ (projRow m c (i 0)) (m ((c : Thread nD τ).loc main_arg5)) (i 1) (i 2)

/-- The result array at a block's index. -/
theorem out20_at (c : Dev nD) (t : Fin cfg0.N) (y : S1x256x1536.Idx) (b : Fin 16) (hb : b.val = t.val / 17) (n : Fin 4352) (hn : n.val = t.val % 17 * 256 + (y 1).val) :
    out20 m c (((cfg0.win 20).blk t).view.emb y) = unit (act (tap (projRow m c b) n) (fun k j => m ((c : Thread nD τ).loc main_arg5) (ix2 k j))) (y 2) := by
  idx_vars y
  obtain rfl : y0 = 0 := Subsingleton.elim _ _
  rw [place20 t y1 y2 b hb n hn]
  rfl

/-- What a grid point stores is the result array's block. -/
theorem point20 (c : Dev nD) (t : Fin cfg0.N) (y : S1x256x1536.Idx) : (outsAt0 m c t).2.2.1 y = out20 m c (((cfg0.win 20).blk t).view.emb y) := by
  have hN : t.val / 17 < 16 := (index_of t).2.2.2.2.2.2.2.2.2.2.2.2.2.2.2.2.2.2.2.2.2.2.2
  obtain ⟨b, hb⟩ : ∃ b : Fin 16, b.val = t.val / 17 := ⟨⟨t.val / 17, hN⟩, rfl⟩
  have y1_lt : (y 1).val < 256 := (y 1).isLt
  obtain ⟨n, hn⟩ : ∃ n : Fin 4352, n.val = t.val % 17 * 256 + (y 1).val := ⟨⟨t.val % 17 * 256 + (y 1).val, by omega⟩, rfl⟩
  rw [out20_at m c t y b hb n hn]
  unfold outsAt0
  frame_out
  canon_tiles x h
  · idx_vars x
    obtain rfl : x0 = 0 := Subsingleton.elim _ _
    rw [head_v3]
    exact lanes_11 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_v2]
    exact lanes_10 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_v1]
    exact lanes_9 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_v0]
    exact lanes_8 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_k3]
    exact lanes_7 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_k2]
    exact lanes_6 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_k1]
    exact lanes_5 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_k0]
    exact lanes_4 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_q3]
    exact lanes_3 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_q2]
    exact lanes_2 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_q1]
    exact lanes_1 _ _ x1 (fun j => act_row m c t b hb _ _ (fun d => by pointwise) (fun d => by pointwise) x1 n (hn.trans (congrArg (t.val % 17 * 256 + ·) h1)) _ rfl j) x2 (y 2) (by omega)
  · idx_vars x
    obtain rfl : x0 = 0 := Subsingleton.elim _ _
    rw [head_q0]
    exact lanes_0 _ _ x1 (fun j => act_row m c t b hb _ _ (fun d => by pointwise) (fun d => by pointwise) x1 n (hn.trans (congrArg (t.val % 17 * 256 + ·) h1)) _ rfl j) x2 (y 2) (by omega)

/-- The result array after the run. -/
theorem final20 (c : Dev nD) : (dats m 0 c).arrAt 20 (cfgs 0).N = out20 m c := by
  refine (dats m 0 c).arrAt_eq_of_covers 20 _ (by decide +kernel) fun t hf y => ?_
  blk_simp
  rw [after0_20]
  exact point20 m c t y

end Cert.Kernel3Ideal.Proj

end
-- ==== Proof.ProjTables.lean ====
/- The rotation tables that the projection call's host code makes, at an index. -/
module

public import proofs.«01_k».proof.Proof.ProjHost
public import proofs.«01_k».proof.Proof.ProjSpec
public import Idealize.ShloMosaic.Lib.Pipeline.ValueKit
public import Idealize.ShloMosaic.Lib.Claim
public import Idealize.ShloMosaic.Lib.StableHlo.RunRead

@[expose] public section

set_option maxRecDepth 131072

noncomputable section

namespace Cert.Kernel3Ideal.Proj

open Cert.Kernel3Ideal Cert.Kernel3Ideal.Gen Cert.Proj Idealize.ShloMosaic Idealize.ShloMosaic.TcCoe Idealize.SL.Sem
open Idealize.ShloMosaic.Pipeline (Dat)

variable (m : (ℓ : Loc nD τ sig) → Buf (Elt Ideal) ℓ)

/-- The sixteen rotation frequencies. -/
def freqs : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

theorem freqs_at (i : Fin 16) : freqs (ix1 i) = freq i.val := by
  pointwise [freqs, freq]

/-- Each latent token's grid row. -/
def gridRow : FVec Ideal S4096 .f32 :=
  shapeCast S4096 (broadcastInDim S64x64 ![0] bcast_S64_S64x64_0 (sitofp (F := Ideal) .f32 (iotaInDim S64 32 0))) shapeCasts_S64x64_S4096

/-- Each latent token's grid column. -/
def gridCol : FVec Ideal S4096 .f32 :=
  shapeCast S4096 (broadcastInDim S64x64 ![0, 1] bcast_S1x64_S64x64_0_1 (shapeCast S1x64 (sitofp (F := Ideal) .f32 (iotaInDim S64 32 0)) shapeCasts_S64_S1x64)) shapeCasts_S64x64_S4096

theorem gridRow_at (n : Fin 4096) : gridRow (ix1 n) = FloatOps.sitofp (F := Ideal) .f32 (BitVec.ofNat 32 (n.val / 64)) := by
  pointwise [gridRow]

theorem gridCol_at (n : Fin 4096) : gridCol (ix1 n) = FloatOps.sitofp (F := Ideal) .f32 (BitVec.ofNat 32 (n.val % 64)) := by
  pointwise [gridCol]

/-- Positions times frequencies. -/
def spread (p : FVec Ideal S4096 .f32) (f : FVec Ideal S16 .f32) : FVec Ideal S4096x16 .f32 :=
  mulf (broadcastInDim S4096x16 ![0, 1] bcast_S4096x1_S4096x16_0_1 (broadcastInDim S4096x1 ![0] bcast_S4096_S4096x1_0 p))
    (broadcastInDim S4096x16 ![0, 1] bcast_S1x16_S4096x16_0_1 (broadcastInDim S1x16 ![1] bcast_S16_S1x16_1 f))

theorem spread_at (p : FVec Ideal S4096 .f32) (f : FVec Ideal S16 .f32) (n : Fin 4096) (i : Fin 16) :
    spread p f (ix2 n i) = p (ix1 n) * f (ix1 i) := by
  pointwise [spread]

/-- Eight blocks of sixteen angles. -/
def joined (r k : FVec Ideal S4096x16 .f32) : FVec Ideal S4096x128 .f32 :=
  concatenate S4096x128 1 [⟨S4096x16, r⟩, ⟨S4096x16, r⟩, ⟨S4096x16, k⟩, ⟨S4096x16, k⟩, ⟨S4096x16, r⟩, ⟨S4096x16, r⟩, ⟨S4096x16, k⟩, ⟨S4096x16, k⟩] concatenates_S4096x16_S4096x16_S4096x16_S4096x16_S4096x16_S4096x16_S4096x16_S4096x16_S4096x128_d1

theorem joined_at (r k : FVec Ideal S4096x16 .f32) (n : Fin 4096) (l : Fin 128) :
    joined r k (ix2 n l) = if l.val % 64 < 32 then r (ix2 n ⟨l.val % 16, by omega⟩) else k (ix2 n ⟨l.val % 16, by omega⟩) := by
  pointwise [joined]
  split_ifs <;> (repeat first | rw [if_pos (show l.val % 64 < 32 by omega)] | rw [if_neg (show ¬l.val % 64 < 32 by omega)]) <;> first
    | rfl
    | exact congrArg (fun u : Fin 16 => r (ix2 n u)) (Fin.ext (by simp only []; omega))
    | exact congrArg (fun u : Fin 16 => k (ix2 n u)) (Fin.ext (by simp only []; omega))
    | (exfalso; omega)
    | contradiction

/-- Every latent token's angles. -/
theorem angles_at (n : Fin 4096) (l : Fin 128) :
    joined (spread gridRow freqs) (spread gridCol freqs) (ix2 n l) = angle n.val ⟨l.val % 64, by omega⟩ := by
  rw [joined_at, spread_at, spread_at, gridRow_at, gridCol_at, freqs_at]
  have hm : l.val % 64 % 16 = l.val % 16 := by omega
  split_ifs with h
  · exact angle_row n.val ⟨l.val % 64, by omega⟩ _ h hm
  · exact angle_col n.val ⟨l.val % 64, by omega⟩ _ h hm

/-- The grid rows by frequencies, before the angles are joined. -/
theorem v63_eq (c : Dev nD) :
    (StableHlo.upto [hostOps0, hostOps0_1, hostOps0_2, hostOps0_3, hostOps0_4, hostOps0_5, hostOps0_6, hostOps0_7, hostOps0_8].flatten (fun b => m (c, b)) 86 (Proc.tc.devRef main_v63) : FVec Ideal S4096x16 .f32) = spread gridRow freqs := by
  after_reads_simp
  rfl

/-- The grid columns by frequencies, before the angles are joined. -/
theorem v68_eq (c : Dev nD) :
    (StableHlo.upto [hostOps0, hostOps0_1, hostOps0_2, hostOps0_3, hostOps0_4, hostOps0_5, hostOps0_6, hostOps0_7, hostOps0_8].flatten (fun b => m (c, b)) 86 (Proc.tc.devRef main_v68) : FVec Ideal S4096x16 .f32) = spread gridCol freqs := by
  after_reads_simp
  rfl

/-- The cosines' array. -/
theorem cos_eq (c : Dev nD) :
    (V m c main_v70 : FVec Ideal S4096x128 .f32) = Host.cos (joined (spread gridRow freqs) (spread gridCol freqs)) := by
  unfold V joined
  rw [← v63_eq m c, ← v68_eq m c]
  after_reads_simp
  rfl

/-- The sines' array. -/
theorem sin_eq (c : Dev nD) :
    (V m c main_v71 : FVec Ideal S4096x128 .f32) = Host.sin (joined (spread gridRow freqs) (spread gridCol freqs)) := by
  unfold V joined
  rw [← v63_eq m c, ← v68_eq m c]
  after_reads_simp
  rfl

/-- The cosines. -/
theorem cos_at (c : Dev nD) (n : Fin 4096) (l : Fin 128) :
    (V m c main_v70 : FVec Ideal S4096x128 .f32) (ix2 n l) = Ideal.cos (angle n.val ⟨l.val % 64, by omega⟩) := by
  rw [cos_eq, ← angles_at]
  rfl

/-- The sines. -/
theorem sin_at (c : Dev nD) (n : Fin 4096) (l : Fin 128) :
    (V m c main_v71 : FVec Ideal S4096x128 .f32) (ix2 n l) = Ideal.sin (angle n.val ⟨l.val % 64, by omega⟩) := by
  rw [sin_eq, ← angles_at]
  rfl

end Cert.Kernel3Ideal.Proj

end
-- ==== Proof.ProjAttn.lean ====
/- The projection call's queries, keys and values of the attention: what the grid points store, and the result array. -/
module

public import proofs.«01_k».proof.Proof.ProjRows
public import proofs.«01_k».proof.Proof.ProjPieces
public import proofs.«01_k».proof.Proof.ProjTables
public import proofs.«01_k».proof.Proof.ProjValue

@[expose] public section

set_option maxRecDepth 16384

noncomputable section

namespace Cert.Kernel3Ideal.Proj

open Cert.Kernel3Ideal Cert.Kernel3Ideal.Gen Cert.Proj Idealize.ShloMosaic Idealize.ShloMosaic.TcCoe Idealize.SL.Sem
open Idealize.ShloMosaic.Pipeline (Dat)

variable (m : (ℓ : Loc nD τ sig) → Buf (Elt Ideal) ℓ)

/-- The attention's queries, keys and values, every token's, as a function of the launch memory. -/
def out18 (c : Dev nD) : FVec Ideal S16x4352x1536 .bf16 := fun i => resA (projRow m c (i 0)) (i 1) (i 2)

/-- The result array at a block's index. -/
theorem out18_at (c : Dev nD) (t : Fin cfg0.N) (y : S1x256x1536.Idx) (b : Fin 16) (hb : b.val = t.val / 17) (n : Fin 4352) (hn : n.val = t.val % 17 * 256 + (y 1).val) :
    out18 m c (((cfg0.win 18).blk t).view.emb y) = resA (projRow m c b) n (y 2) := by
  idx_vars y
  obtain rfl : y0 = 0 := Subsingleton.elim _ _
  rw [place18 t y1 y2 b hb n hn]
  rfl

/-- The context's tile takes ones for the cosines and zeros for the sines. -/
theorem ones_row (c : Dev nD) (t : Fin cfg0.N) (r : Fin 256) (n : Fin 4352) (hn : n.val = t.val % 17 * 256 + r) (h : n.val < 256) (l : Fin 128) :
    k0_pay37 (F := Ideal) (Scalar.cmpi .sge (BitVec.ofNat 32 ↑(grid0.coords t 1)) 1#32) (k0_pay35 (iblk m c 16 t)) k0_pay36 (ix2 r l) = 1
      ∧ k0_pay38 (F := Ideal) (Scalar.cmpi .sge (BitVec.ofNat 32 ↑(grid0.coords t 1)) 1#32) (iblk m c 17 t) (ix2 r l) = 0 := by
  have e := (tests t).2.2
  rw [if_pos (show t.val % 17 = 0 by omega)] at e
  rw [e]
  exact ⟨cos_context _ r l, sin_context _ r l⟩

/-- A latent tile takes the rotation tables' cosines and sines. -/
theorem angles_row (c : Dev nD) (t : Fin cfg0.N) (r : Fin 256) (n : Fin 4352) (hn : n.val = t.val % 17 * 256 + r) (h : ¬n.val < 256) (l : Fin 128) :
    k0_pay37 (F := Ideal) (Scalar.cmpi .sge (BitVec.ofNat 32 ↑(grid0.coords t 1)) 1#32) (k0_pay35 (iblk m c 16 t)) k0_pay36 (ix2 r l) = Ideal.cos (angle (n.val - 256) ⟨l.val % 64, by omega⟩)
      ∧ k0_pay38 (F := Ideal) (Scalar.cmpi .sge (BitVec.ofNat 32 ↑(grid0.coords t 1)) 1#32) (iblk m c 17 t) (ix2 r l) = Ideal.sin (angle (n.val - 256) ⟨l.val % 64, by omega⟩) := by
  have e := (tests t).2.2
  rw [if_neg (show ¬t.val % 17 = 0 by omega)] at e
  rw [e]
  have hi : n.val - 256 < 4096 := by omega
  have hk : n.val - 256 = (t.val % 17 - 1) * 256 + r := by omega
  exact ⟨(cos_latent _ r l).trans ((block_cos m c t r ⟨n.val - 256, hi⟩ hk l).trans (cos_at m c _ l)),
    (sin_latent _ r l).trans ((block_sin m c t r ⟨n.val - 256, hi⟩ hk l).trans (sin_at m c _ l))⟩

/-- What a grid point stores is the result array's block. -/
theorem point18 (c : Dev nD) (t : Fin cfg0.N) (y : S1x256x1536.Idx) : (outsAt0 m c t).1 y = out18 m c (((cfg0.win 18).blk t).view.emb y) := by
  have hN : t.val / 17 < 16 := (index_of t).2.2.2.2.2.2.2.2.2.2.2.2.2.2.2.2.2.2.2.2.2.2.2
  obtain ⟨b, hb⟩ : ∃ b : Fin 16, b.val = t.val / 17 := ⟨⟨t.val / 17, hN⟩, rfl⟩
  have y1_lt : (y 1).val < 256 := (y 1).isLt
  obtain ⟨n, hn⟩ : ∃ n : Fin 4352, n.val = t.val % 17 * 256 + (y 1).val := ⟨⟨t.val % 17 * 256 + (y 1).val, by omega⟩, rfl⟩
  rw [out18_at m c t y b hb n hn]
  unfold outsAt0
  frame_out
  canon_tiles x h using (View.cover_of_tiledBy (s := S1x256x1536) _ ![1, 256, 128] (by sl_kernel_rfl) y)
  · idx_vars x
    obtain rfl : x0 = 0 := Subsingleton.elim _ _
    exact values_at _ (projRow m c b) n x1 (fun j => attn_row m c t b hb _ _ (fun d => by pointwise) (fun d => by pointwise) x1 n (hn.trans (congrArg (t.val % 17 * 256 + ·) h1)) j) (y 2) x2 (by omega)
  · idx_vars x
    obtain rfl : x0 = 0 := Subsingleton.elim _ _
    have hx : n.val = t.val % 17 * 256 + x1.val := hn.trans (congrArg (t.val % 17 * 256 + ·) h1)
    rw [rope_7]
    exact pair_7 _ _ _ (projRow m c b) n x1 (fun j => attn_row m c t b hb _ _ (fun d => by pointwise) (fun d => by pointwise) x1 n hx j)
      (fun h l => ones_row m c t x1 n hx h l) (fun h l => angles_row m c t x1 n hx h l) x2 (y 2) (by omega)
  · idx_vars x
    obtain rfl : x0 = 0 := Subsingleton.elim _ _
    have hx : n.val = t.val % 17 * 256 + x1.val := hn.trans (congrArg (t.val % 17 * 256 + ·) h1)
    rw [rope_6]
    exact pair_6 _ _ _ (projRow m c b) n x1 (fun j => attn_row m c t b hb _ _ (fun d => by pointwise) (fun d => by pointwise) x1 n hx j)
      (fun h l => ones_row m c t x1 n hx h l) (fun h l => angles_row m c t x1 n hx h l) x2 (y 2) (by omega)
  · idx_vars x
    obtain rfl : x0 = 0 := Subsingleton.elim _ _
    have hx : n.val = t.val % 17 * 256 + x1.val := hn.trans (congrArg (t.val % 17 * 256 + ·) h1)
    rw [rope_5]
    exact pair_5 _ _ _ (projRow m c b) n x1 (fun j => attn_row m c t b hb _ _ (fun d => by pointwise) (fun d => by pointwise) x1 n hx j)
      (fun h l => ones_row m c t x1 n hx h l) (fun h l => angles_row m c t x1 n hx h l) x2 (y 2) (by omega)
  · idx_vars x
    obtain rfl : x0 = 0 := Subsingleton.elim _ _
    have hx : n.val = t.val % 17 * 256 + x1.val := hn.trans (congrArg (t.val % 17 * 256 + ·) h1)
    rw [rope_4]
    exact pair_4 _ _ _ (projRow m c b) n x1 (fun j => attn_row m c t b hb _ _ (fun d => by pointwise) (fun d => by pointwise) x1 n hx j)
      (fun h l => ones_row m c t x1 n hx h l) (fun h l => angles_row m c t x1 n hx h l) x2 (y 2) (by omega)
  · idx_vars x
    obtain rfl : x0 = 0 := Subsingleton.elim _ _
    have hx : n.val = t.val % 17 * 256 + x1.val := hn.trans (congrArg (t.val % 17 * 256 + ·) h1)
    rw [rope_3]
    exact pair_3 _ _ _ (projRow m c b) n x1 (fun j => attn_row m c t b hb _ _ (fun d => by pointwise) (fun d => by pointwise) x1 n hx j)
      (fun h l => ones_row m c t x1 n hx h l) (fun h l => angles_row m c t x1 n hx h l) x2 (y 2) (by omega)
  · idx_vars x
    obtain rfl : x0 = 0 := Subsingleton.elim _ _
    have hx : n.val = t.val % 17 * 256 + x1.val := hn.trans (congrArg (t.val % 17 * 256 + ·) h1)
    rw [rope_2]
    exact pair_2 _ _ _ (projRow m c b) n x1 (fun j => attn_row m c t b hb _ _ (fun d => by pointwise) (fun d => by pointwise) x1 n hx j)
      (fun h l => ones_row m c t x1 n hx h l) (fun h l => angles_row m c t x1 n hx h l) x2 (y 2) (by omega)
  · idx_vars x
    obtain rfl : x0 = 0 := Subsingleton.elim _ _
    have hx : n.val = t.val % 17 * 256 + x1.val := hn.trans (congrArg (t.val % 17 * 256 + ·) h1)
    rw [rope_1]
    exact pair_1 _ _ _ (projRow m c b) n x1 (fun j => attn_row m c t b hb _ _ (fun d => by pointwise) (fun d => by pointwise) x1 n hx j)
      (fun h l => ones_row m c t x1 n hx h l) (fun h l => angles_row m c t x1 n hx h l) x2 (y 2) (by omega)
  · idx_vars x
    obtain rfl : x0 = 0 := Subsingleton.elim _ _
    have hx : n.val = t.val % 17 * 256 + x1.val := hn.trans (congrArg (t.val % 17 * 256 + ·) h1)
    rw [rope_0]
    exact pair_0 _ _ _ (projRow m c b) n x1 (fun j => attn_row m c t b hb _ _ (fun d => by pointwise) (fun d => by pointwise) x1 n hx j)
      (fun h l => ones_row m c t x1 n hx h l) (fun h l => angles_row m c t x1 n hx h l) x2 (y 2) (by omega)

/-- The result array after the run. -/
theorem final18 (c : Dev nD) : (dats m 0 c).arrAt 18 (cfgs 0).N = out18 m c := by
  refine (dats m 0 c).arrAt_eq_of_covers 18 _ (by decide +kernel) fun t hf y => ?_
  blk_simp
  rw [after0_18]
  exact point18 m c t y

end Cert.Kernel3Ideal.Proj

end
-- ==== Proof.ProjClaim.lean ====
/- The claim about the projection call: on every input its five result arrays are the reference's. -/
module

public import proofs.«01_k».proof.Defs
public import proofs.«01_k».proof.Proof.Gen.Reference3Ideal.Run
public import proofs.«01_k».proof.Proof.ProjRefRes
public import proofs.«01_k».proof.Proof.ProjFlat
public import proofs.«01_k».proof.Proof.ProjConvArray
public import proofs.«01_k».proof.Proof.ProjAttn

@[expose] public section

set_option maxRecDepth 16384

noncomputable section

namespace Cert.ProjClaim

open Cert.Kernel3Ideal.Proj Idealize.ShloMosaic Idealize.SL.Sem

variable (m : (ℓ : Loc Cert.Kernel3Ideal.nD Cert.Kernel3Ideal.τ Cert.Kernel3Ideal.sig) → Buf (Elt Ideal) ℓ) (c : Dev Cert.Kernel3Ideal.nD)
  (x0 : FVec Ideal Cert.Reference3Ideal.S16x4352x1024 .f32) (x1 : FVec Ideal Cert.Reference3Ideal.S32x6x1024 .f32) (x2 : FVec Ideal Cert.Reference3Ideal.S1x1024 .f32)
  (x3 : FVec Ideal Cert.Reference3Ideal.S1024x8224 .f32) (x4 : FVec Ideal Cert.Reference3Ideal.S8224 .f32) (x5 : FVec Ideal Cert.Reference3Ideal.S5x1536 .f32)

/-- The specification's rows of the launch memory's arrays. -/
theorem rows_eq (b : Fin 16) : Cert.Proj.prow (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) b
      = projRow m c b := rfl

/-- The attention's queries, keys and values. -/
theorem same18 (h0 : x0 = m ((c.tc : Thread Cert.Kernel3Ideal.nD Cert.Kernel3Ideal.τ).loc Cert.Kernel3Ideal.main_arg0)) (h1 : x1 = m ((c.tc : Thread Cert.Kernel3Ideal.nD Cert.Kernel3Ideal.τ).loc Cert.Kernel3Ideal.main_arg1)) (h2 : x2 = m ((c.tc : Thread Cert.Kernel3Ideal.nD Cert.Kernel3Ideal.τ).loc Cert.Kernel3Ideal.main_arg2)) (h3 : x3 = m ((c.tc : Thread Cert.Kernel3Ideal.nD Cert.Kernel3Ideal.τ).loc Cert.Kernel3Ideal.main_arg3)) (h4 : x4 = m ((c.tc : Thread Cert.Kernel3Ideal.nD Cert.Kernel3Ideal.τ).loc Cert.Kernel3Ideal.main_arg4)) :
    Cert.Reference3Ideal.Read.val_main_v316 (F := Ideal) x0 x1 x2 x3 x4 = out18 m c := by
  funext i
  obtain ⟨b, t, d, rfl⟩ : ∃ (b : Fin 16) (t : Fin 4352) (d : Fin 1536), i = ix3 b t d :=
    ⟨i 0, i 1, i 2, funext fun a => by fin_cases a <;> rfl⟩
  refine (Cert.Reference3Ideal.Proj.pa_at x0 x1 x2 x3 x4 b t d).trans ?_
  rw [h0, h1, h2, h3, h4, rows_eq]
  rfl

/-- The first recurrent branch's packed channels. -/
theorem same19 (h0 : x0 = m ((c.tc : Thread Cert.Kernel3Ideal.nD Cert.Kernel3Ideal.τ).loc Cert.Kernel3Ideal.main_arg0)) (h1 : x1 = m ((c.tc : Thread Cert.Kernel3Ideal.nD Cert.Kernel3Ideal.τ).loc Cert.Kernel3Ideal.main_arg1)) (h2 : x2 = m ((c.tc : Thread Cert.Kernel3Ideal.nD Cert.Kernel3Ideal.τ).loc Cert.Kernel3Ideal.main_arg2)) (h3 : x3 = m ((c.tc : Thread Cert.Kernel3Ideal.nD Cert.Kernel3Ideal.τ).loc Cert.Kernel3Ideal.main_arg3)) (h4 : x4 = m ((c.tc : Thread Cert.Kernel3Ideal.nD Cert.Kernel3Ideal.τ).loc Cert.Kernel3Ideal.main_arg4)) :
    Cert.Reference3Ideal.Read.val_main_v312 (F := Ideal) x0 x1 x2 x3 x4 = out19 m c := by
  funext i
  obtain ⟨b, t, d, rfl⟩ : ∃ (b : Fin 16) (t : Fin 4352) (d : Fin 1664), i = ix3 b t d :=
    ⟨i 0, i 1, i 2, funext fun a => by fin_cases a <;> rfl⟩
  refine (Cert.Reference3Ideal.Proj.pm_at x0 x1 x2 x3 x4 b t d).trans ?_
  rw [h0, h1, h2, h3, h4, rows_eq]
  rfl

/-- The second recurrent branch's queries, keys and values. -/
theorem same20 (h0 : x0 = m ((c.tc : Thread Cert.Kernel3Ideal.nD Cert.Kernel3Ideal.τ).loc Cert.Kernel3Ideal.main_arg0)) (h1 : x1 = m ((c.tc : Thread Cert.Kernel3Ideal.nD Cert.Kernel3Ideal.τ).loc Cert.Kernel3Ideal.main_arg1)) (h2 : x2 = m ((c.tc : Thread Cert.Kernel3Ideal.nD Cert.Kernel3Ideal.τ).loc Cert.Kernel3Ideal.main_arg2)) (h3 : x3 = m ((c.tc : Thread Cert.Kernel3Ideal.nD Cert.Kernel3Ideal.τ).loc Cert.Kernel3Ideal.main_arg3)) (h4 : x4 = m ((c.tc : Thread Cert.Kernel3Ideal.nD Cert.Kernel3Ideal.τ).loc Cert.Kernel3Ideal.main_arg4)) (h5 : x5 = m ((c.tc : Thread Cert.Kernel3Ideal.nD Cert.Kernel3Ideal.τ).loc Cert.Kernel3Ideal.main_arg5)) :
    Cert.Reference3Ideal.Read.val_main_v313 (F := Ideal) x0 x1 x2 x3 x4 x5 = out20 m c := by
  funext i
  obtain ⟨b, t, d, rfl⟩ : ∃ (b : Fin 16) (t : Fin 4352) (d : Fin 1536), i = ix3 b t d :=
    ⟨i 0, i 1, i 2, funext fun a => by fin_cases a <;> rfl⟩
  refine (Cert.Reference3Ideal.Proj.qkv_at x0 x1 x2 x3 x4 x5 b t d).trans ?_
  rw [h0, h1, h2, h3, h4, h5, rows_eq]
  rfl

/-- The second recurrent branch's packed channels. -/
theorem same21 (h0 : x0 = m ((c.tc : Thread Cert.Kernel3Ideal.nD Cert.Kernel3Ideal.τ).loc Cert.Kernel3Ideal.main_arg0)) (h1 : x1 = m ((c.tc : Thread Cert.Kernel3Ideal.nD Cert.Kernel3Ideal.τ).loc Cert.Kernel3Ideal.main_arg1)) (h2 : x2 = m ((c.tc : Thread Cert.Kernel3Ideal.nD Cert.Kernel3Ideal.τ).loc Cert.Kernel3Ideal.main_arg2)) (h3 : x3 = m ((c.tc : Thread Cert.Kernel3Ideal.nD Cert.Kernel3Ideal.τ).loc Cert.Kernel3Ideal.main_arg3)) (h4 : x4 = m ((c.tc : Thread Cert.Kernel3Ideal.nD Cert.Kernel3Ideal.τ).loc Cert.Kernel3Ideal.main_arg4)) :
    Cert.Reference3Ideal.Read.val_main_v314 (F := Ideal) x0 x1 x2 x3 x4 = out21 m c := by
  funext i
  obtain ⟨b, t, d, rfl⟩ : ∃ (b : Fin 16) (t : Fin 4352) (d : Fin 640), i = ix3 b t d :=
    ⟨i 0, i 1, i 2, funext fun a => by fin_cases a <;> rfl⟩
  refine (Cert.Reference3Ideal.Proj.pg_at x0 x1 x2 x3 x4 b t d).trans ?_
  rw [h0, h1, h2, h3, h4, rows_eq]
  rfl

/-- The gates. -/
theorem same22 (h0 : x0 = m ((c.tc : Thread Cert.Kernel3Ideal.nD Cert.Kernel3Ideal.τ).loc Cert.Kernel3Ideal.main_arg0)) (h1 : x1 = m ((c.tc : Thread Cert.Kernel3Ideal.nD Cert.Kernel3Ideal.τ).loc Cert.Kernel3Ideal.main_arg1)) (h2 : x2 = m ((c.tc : Thread Cert.Kernel3Ideal.nD Cert.Kernel3Ideal.τ).loc Cert.Kernel3Ideal.main_arg2)) (h3 : x3 = m ((c.tc : Thread Cert.Kernel3Ideal.nD Cert.Kernel3Ideal.τ).loc Cert.Kernel3Ideal.main_arg3)) (h4 : x4 = m ((c.tc : Thread Cert.Kernel3Ideal.nD Cert.Kernel3Ideal.τ).loc Cert.Kernel3Ideal.main_arg4)) :
    Cert.Reference3Ideal.Read.val_main_v317 (F := Ideal) x0 x1 x2 x3 x4 = out22 m c := by
  funext i
  obtain ⟨b, t, d, rfl⟩ : ∃ (b : Fin 16) (t : Fin 4352) (d : Fin 3072), i = ix3 b t d :=
    ⟨i 0, i 1, i 2, funext fun a => by fin_cases a <;> rfl⟩
  refine (Cert.Reference3Ideal.Proj.gs_at x0 x1 x2 x3 x4 b t d).trans ?_
  rw [h0, h1, h2, h3, h4, rows_eq]
  rfl

set_option maxHeartbeats 4000000 in
/-- The reference's run, each result as a function of the arguments. -/
theorem reference_run (m' : (ℓ : Loc Cert.Reference3Ideal.nD Cert.Reference3Ideal.τ Cert.Reference3Ideal.sig) → Buf (Elt Ideal) ℓ) (ρ' : Dev Cert.Reference3Ideal.nD → PrngReg) :
    θ_run (Cert.Reference3Ideal.defs (F := Ideal)) (onTc (τ := Cert.Reference3Ideal.τ) (Cert.Reference3Ideal.main (F := Ideal))) ⟨m', fun _ => 0, ρ'⟩ fun r => ∀ c : Dev Cert.Reference3Ideal.nD,
      r.2.mem ((c.tc : Thread Cert.Reference3Ideal.nD Cert.Reference3Ideal.τ).loc Cert.Reference3Ideal.main_v316) = Cert.Reference3Ideal.Read.val_main_v316 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_v312) = Cert.Reference3Ideal.Read.val_main_v312 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_v313) = Cert.Reference3Ideal.Read.val_main_v313 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))
      ∧ r.2.mem ((c.tc : Thread Cert.Reference3Ideal.nD Cert.Reference3Ideal.τ).loc Cert.Reference3Ideal.main_v314) = Cert.Reference3Ideal.Read.val_main_v314 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_v317) = Cert.Reference3Ideal.Read.val_main_v317 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_arg0) = (m' ((c.tc : Thread Cert.Reference3Ideal.nD Cert.Reference3Ideal.τ).loc Cert.Reference3Ideal.main_arg0))
      ∧ r.2.mem ((c.tc : Thread Cert.Reference3Ideal.nD Cert.Reference3Ideal.τ).loc Cert.Reference3Ideal.main_arg1) = (m' ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_arg2) = (m' ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_arg3) = (m' ((c.tc : Thread Cert.Reference3Ideal.nD Cert.Reference3Ideal.τ).loc Cert.Reference3Ideal.main_arg3))
      ∧ r.2.mem ((c.tc : Thread Cert.Reference3Ideal.nD Cert.Reference3Ideal.τ).loc Cert.Reference3Ideal.main_arg4) = (m' ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_arg5) = (m' ((c.tc : Thread Cert.Reference3Ideal.nD Cert.Reference3Ideal.τ).loc Cert.Reference3Ideal.main_arg5)) := by
  refine (θ_run Cert.Reference3Ideal.defs _ _).mono (fun _ h c => ?_) (Cert.Reference3Ideal.Value.run (F := Ideal) m' ρ')
  obtain ⟨r0, r1, r2, r3, r4, hr⟩ := h c
  rw [Cert.Reference3Ideal.Read.val_main_v316_eq] at r0
  rw [Cert.Reference3Ideal.Read.val_main_v312_eq] at r1
  rw [Cert.Reference3Ideal.Read.val_main_v313_eq] at r2
  rw [Cert.Reference3Ideal.Read.val_main_v314_eq] at r3
  rw [Cert.Reference3Ideal.Read.val_main_v317_eq] at r4
  exact ⟨r0, r1, r2, r3, r4, hr⟩

set_option maxHeartbeats 4000000 in
/-- The kernel's run, each result as a function of the arguments. -/
theorem kernel_run (ρ : Dev Cert.Kernel3Ideal.nD → PrngReg) :
    θ_run (Cert.Kernel3Ideal.defs (F := Ideal)) (onTc (τ := Cert.Kernel3Ideal.τ) (Cert.Kernel3Ideal.main (F := Ideal))) ⟨m, fun _ => 0, ρ⟩ fun r => ∀ c : Dev Cert.Kernel3Ideal.nD,
      r.2.mem ((c.tc : Thread Cert.Kernel3Ideal.nD Cert.Kernel3Ideal.τ).loc Cert.Kernel3Ideal.main_v72_0) = out18 m c
      ∧ r.2.mem ((c.tc : Thread Cert.Kernel3Ideal.nD Cert.Kernel3Ideal.τ).loc Cert.Kernel3Ideal.main_v72_1) = out19 m c
      ∧ r.2.mem ((c.tc : Thread Cert.Kernel3Ideal.nD Cert.Kernel3Ideal.τ).loc Cert.Kernel3Ideal.main_v72_2) = out20 m c
      ∧ r.2.mem ((c.tc : Thread Cert.Kernel3Ideal.nD Cert.Kernel3Ideal.τ).loc Cert.Kernel3Ideal.main_v72_3) = out21 m c
      ∧ r.2.mem ((c.tc : Thread Cert.Kernel3Ideal.nD Cert.Kernel3Ideal.τ).loc Cert.Kernel3Ideal.main_v72_4) = out22 m c
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5) := by
  refine (θ_run Cert.Kernel3Ideal.defs _ _).mono (fun _ h c => ?_) (Cert.Kernel3Ideal.Value.run_blocks (F := Ideal) m ρ)
  obtain ⟨r0, r1, r2, r3, r4, hr⟩ := h c
  exact ⟨r0.trans (final18 m c), r1.trans (final19 m c), r2.trans (final20 m c), r3.trans (final21 m c), r4.trans (final22 m c), hr⟩

set_option maxHeartbeats 4000000 in
/-- The projection call's kernel and its reference leave the same result arrays. -/
theorem algebraic : Cert.algebraic_Kernel3Ideal_Reference3Ideal := by
  intro m ρ m' ρ' _ hagree
  refine ⟨fun c => out18 m c, fun c => out19 m c, fun c => out20 m c, fun c => out21 m c, fun c => out22 m c, kernel_run m ρ, ?_⟩
  refine (θ_run Cert.Reference3Ideal.defs _ _).mono (fun _ h c => ?_) (reference_run m' ρ')
  obtain ⟨e0, e1, e2, e3, e4, e5⟩ := hagree c
  obtain ⟨r0, r1, r2, r3, r4, hr⟩ := h c
  exact ⟨r0.trans (same18 m c _ _ _ _ _ e0 e1 e2 e3 e4), r1.trans (same19 m c _ _ _ _ _ e0 e1 e2 e3 e4),
    r2.trans (same20 m c _ _ _ _ _ _ e0 e1 e2 e3 e4 e5), r3.trans (same21 m c _ _ _ _ _ e0 e1 e2 e3 e4),
    r4.trans (same22 m c _ _ _ _ _ e0 e1 e2 e3 e4), hr⟩

end Cert.ProjClaim

end
-- ==== Proof.lean ====
/- The certificate: every claim about the programs, put together from the generated frames and the value claims proved in
   the modules beside this file. -/
module

public import proofs.«01_k».proof.Proof.Gen.KernelIdeal.Value
public import proofs.«01_k».proof.Proof.Gen.Kernel2Ideal.Value
public import proofs.«01_k».proof.Proof.ProjValue
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.AttnClaim
public import proofs.«01_k».proof.Proof.PostClaim
public import proofs.«01_k».proof.Proof.ProjClaim
public import Idealize.ShloMosaic.Lib.Quiescent
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.ProjBitsFrame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.ProjFrame
public import proofs.«01_k».proof.Proof.Gen.Reference3Ideal
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The attention reference runs, keeps its arguments and leaves every semaphore at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference of the closing call runs, keeps its arguments and leaves every semaphore at zero. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The reference of the projection call runs, keeps its arguments and leaves every semaphore at zero. -/
theorem frame_reference3 : Cert.quiescent_Reference3Ideal := fun m ρ _ =>
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m ρ)

/-- The one rewritten operation of the attention kernel: the scale's literal is the named real number. -/
theorem preserves : Cert.preserves_Kernel_KernelIdeal :=
  IdealRules.named_const.statement Cert.KernelIdeal.κ "scale" .f32 0x3E38AA3B#32 ((8⁻¹ * (Real.log 2)⁻¹ : ℝ) : EReal) rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  preserves, Cert.AttnClaim.algebraic, trivial, Cert.PostClaim.algebraic, trivial, Cert.ProjClaim.algebraic⟩

end Cert.Proof

end
